-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_diff_finite [hPre_diff_finite : Cert.Pre_diff_finite.Facts] (m : (ℓ : Loc Cert.KernelIdeal.nD Cert.KernelIdeal.τ Cert.KernelIdeal.sig) → Buf (Elt Ideal) ℓ) : Prop :=
  ∀ c : Dev Cert.KernelIdeal.nD,
    (Cert.Pre_diff_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_diff_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_diff_finite [hPre_diff_finite : Cert.Pre_diff_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_diff_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_diff_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gqa_finite [hPre_gqa_finite : Cert.Pre_gqa_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gqa_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_gqa_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gqa_finite [hPre_gqa_finite : Cert.Pre_gqa_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gqa_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_gqa_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_peer_finite [hPre_peer_finite : Cert.Pre_peer_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_peer_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_peer_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_peer_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_peer_finite [hPre_peer_finite : Cert.Pre_peer_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_peer_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_peer_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_peer_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_proj_finite [hPre_proj_finite : Cert.Pre_proj_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_proj_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_proj_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_proj_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_proj_finite [hPre_proj_finite : Cert.Pre_proj_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_proj_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_proj_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_proj_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_diff_finite [hKernelIdeal : Cert.KernelIdeal.Facts] [hPre_diff_finite : Cert.Pre_diff_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_diff_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_diff_finite [hReferenceIdeal : Cert.ReferenceIdeal.Facts] [hPre_diff_finite : Cert.Pre_diff_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_diff_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_gqa_finite [hKernel2Ideal : Cert.Kernel2Ideal.Facts] [hPre_gqa_finite : Cert.Pre_gqa_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gqa_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_gqa_finite [hReference2Ideal : Cert.Reference2Ideal.Facts] [hPre_gqa_finite : Cert.Pre_gqa_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gqa_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_peer_finite [hKernel3Ideal : Cert.Kernel3Ideal.Facts] [hPre_peer_finite : Cert.Pre_peer_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_peer_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_peer_finite [hReference3Ideal : Cert.Reference3Ideal.Facts] [hPre_peer_finite : Cert.Pre_peer_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_peer_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_proj_finite [hKernel4Ideal : Cert.Kernel4Ideal.Facts] [hPre_proj_finite : Cert.Pre_proj_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_proj_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_proj_finite [hReference4Ideal : Cert.Reference4Ideal.Facts] [hPre_proj_finite : Cert.Pre_proj_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_proj_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_diff_finite [hKernelIdeal : Cert.KernelIdeal.Facts] [hReferenceIdeal : Cert.ReferenceIdeal.Facts] [hPre_diff_finite : Cert.Pre_diff_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_diff_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_gqa_finite [hKernel2Ideal : Cert.Kernel2Ideal.Facts] [hReference2Ideal : Cert.Reference2Ideal.Facts] [hPre_gqa_finite : Cert.Pre_gqa_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gqa_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_peer_finite [hKernel3Ideal : Cert.Kernel3Ideal.Facts] [hReference3Ideal : Cert.Reference3Ideal.Facts] [hPre_peer_finite : Cert.Pre_peer_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_peer_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_proj_finite [hKernel4Ideal : Cert.Kernel4Ideal.Facts] [hReference4Ideal : Cert.Reference4Ideal.Facts] [hPre_proj_finite : Cert.Pre_proj_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_proj_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v60_0)) (v1 : (c : Dev Cert.Kernel4Ideal.nD) → Buf (Elt Ideal) ((c.tc : Thread Cert.Kernel4Ideal.nD Cert.Kernel4Ideal.τ).loc Cert.Kernel4Ideal.main_v60_1)) (v2 : (c : Dev Cert.Kernel4Ideal.nD) → Buf (Elt Ideal) ((c.tc : Thread Cert.Kernel4Ideal.nD Cert.Kernel4Ideal.τ).loc Cert.Kernel4Ideal.main_v60_2)) (v3 : (c : Dev Cert.Kernel4Ideal.nD) → Buf (Elt Ideal) ((c.tc : Thread Cert.Kernel4Ideal.nD Cert.Kernel4Ideal.τ).loc Cert.Kernel4Ideal.main_v60_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v60_0) = v0 c
          ∧ r.2.mem ((c.tc : Thread Cert.Kernel4Ideal.nD Cert.Kernel4Ideal.τ).loc Cert.Kernel4Ideal.main_v60_1) = v1 c
          ∧ r.2.mem ((c.tc : Thread Cert.Kernel4Ideal.nD Cert.Kernel4Ideal.τ).loc Cert.Kernel4Ideal.main_v60_2) = v2 c
          ∧ r.2.mem ((c.tc : Thread Cert.Kernel4Ideal.nD Cert.Kernel4Ideal.τ).loc Cert.Kernel4Ideal.main_v60_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v155) = v0 c
          ∧ r.2.mem ((c.tc : Thread Cert.Reference4Ideal.nD Cert.Reference4Ideal.τ).loc Cert.Reference4Ideal.main_v156) = v1 c
          ∧ r.2.mem ((c.tc : Thread Cert.Reference4Ideal.nD Cert.Reference4Ideal.τ).loc Cert.Reference4Ideal.main_v157) = v2 c
          ∧ r.2.mem ((c.tc : Thread Cert.Reference4Ideal.nD Cert.Reference4Ideal.τ).loc Cert.Reference4Ideal.main_v159) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_diff_finite : Cert.Pre_diff_finite.Facts) (hPre_gqa_finite : Cert.Pre_gqa_finite.Facts) (hPre_peer_finite : Cert.Pre_peer_finite.Facts) (hPre_proj_finite : Cert.Pre_proj_finite.Facts),
    quiescent_Kernel (hKernel := hKernel)
    ∧ quiescent_KernelIdeal (hKernelIdeal := hKernelIdeal)
    ∧ quiescent_KernelIdeal_pre_diff_finite (hKernelIdeal := hKernelIdeal) (hPre_diff_finite := hPre_diff_finite)
    ∧ quiescent_ReferenceIdeal (hReferenceIdeal := hReferenceIdeal)
    ∧ quiescent_ReferenceIdeal_pre_diff_finite (hReferenceIdeal := hReferenceIdeal) (hPre_diff_finite := hPre_diff_finite)
    ∧ quiescent_Kernel2 (hKernel2 := hKernel2)
    ∧ quiescent_Kernel2Ideal (hKernel2Ideal := hKernel2Ideal)
    ∧ quiescent_Kernel2Ideal_pre_gqa_finite (hKernel2Ideal := hKernel2Ideal) (hPre_gqa_finite := hPre_gqa_finite)
    ∧ quiescent_Reference2Ideal (hReference2Ideal := hReference2Ideal)
    ∧ quiescent_Reference2Ideal_pre_gqa_finite (hReference2Ideal := hReference2Ideal) (hPre_gqa_finite := hPre_gqa_finite)
    ∧ quiescent_Kernel3 (hKernel3 := hKernel3)
    ∧ quiescent_Kernel3Ideal (hKernel3Ideal := hKernel3Ideal)
    ∧ quiescent_Kernel3Ideal_pre_peer_finite (hKernel3Ideal := hKernel3Ideal) (hPre_peer_finite := hPre_peer_finite)
    ∧ quiescent_Reference3Ideal (hReference3Ideal := hReference3Ideal)
    ∧ quiescent_Reference3Ideal_pre_peer_finite (hReference3Ideal := hReference3Ideal) (hPre_peer_finite := hPre_peer_finite)
    ∧ quiescent_Kernel4 (hKernel4 := hKernel4)
    ∧ quiescent_Kernel4Ideal (hKernel4Ideal := hKernel4Ideal)
    ∧ quiescent_Kernel4Ideal_pre_proj_finite (hKernel4Ideal := hKernel4Ideal) (hPre_proj_finite := hPre_proj_finite)
    ∧ quiescent_Reference4Ideal (hReference4Ideal := hReference4Ideal)
    ∧ quiescent_Reference4Ideal_pre_proj_finite (hReference4Ideal := hReference4Ideal) (hPre_proj_finite := hPre_proj_finite)
    ∧ preserves_Kernel_KernelIdeal
    ∧ algebraic_KernelIdeal_ReferenceIdeal_pre_diff_finite (hKernelIdeal := hKernelIdeal) (hReferenceIdeal := hReferenceIdeal) (hPre_diff_finite := hPre_diff_finite)
    ∧ preserves_Kernel2_Kernel2Ideal
    ∧ algebraic_Kernel2Ideal_Reference2Ideal_pre_gqa_finite (hKernel2Ideal := hKernel2Ideal) (hReference2Ideal := hReference2Ideal) (hPre_gqa_finite := hPre_gqa_finite)
    ∧ preserves_Kernel3_Kernel3Ideal
    ∧ algebraic_Kernel3Ideal_Reference3Ideal_pre_peer_finite (hKernel3Ideal := hKernel3Ideal) (hReference3Ideal := hReference3Ideal) (hPre_peer_finite := hPre_peer_finite)
    ∧ preserves_Kernel4_Kernel4Ideal
    ∧ algebraic_Kernel4Ideal_Reference4Ideal_pre_proj_finite (hKernel4Ideal := hKernel4Ideal) (hReference4Ideal := hReference4Ideal) (hPre_proj_finite := hPre_proj_finite)
-- ==== Pre_diff_finite.lean ====
abbrev S8x8448x768 : Shape := ⟨3, ![8, 8448, 768]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S8x8448x768 : S_.BroadcastsInDim S8x8448x768 (![] : Fin 0 → Fin S8x8448x768.rank)
  bcast_S_S64 : S_.BroadcastsInDim S64 (![] : Fin 0 → Fin S64.rank)

variable [Facts]

def fn_part1 {F : FTy → Type} [FloatOps F] (main_arg5 : FVec F S64 .f32) (main_arg6 : FVec F S64 .f32) (main_v13 : IVec S8x8448x768 1) (main_v16 : IVec S64 1) (main_v17 : FVec F S64 .f32) (main_v18 : FVec F S64 .f32) : IVec S8x8448x768 1 × IVec S64 1 :=
  let main_v19 : IVec S64 1 := cmpf .olt main_v17 main_v18
  let main_v20 : IVec S64 1 := andi main_v16 main_v19
  let main_v21 : FVec F S64 .f32 := Host.absf main_arg5
  let main_cst_4 : FVec F S_ .f32 := constant S_ .f32 0x7F800000#32
  let main_v22 : FVec F S64 .f32 := broadcastInDim S64 ![] bcast_S_S64 main_cst_4
  let main_v23 : IVec S64 1 := cmpf .olt main_v21 main_v22
  let main_v24 : IVec S64 1 := andi main_v20 main_v23
  let main_v25 : FVec F S64 .f32 := Host.absf main_arg6
  let main_cst_5 : FVec F S_ .f32 := constant S_ .f32 0x7F800000#32
  let main_v26 : FVec F S64 .f32 := broadcastInDim S64 ![] bcast_S_S64 main_cst_5
  let main_v27 : IVec S64 1 := cmpf .olt main_v25 main_v26
  let main_v28 : IVec S64 1 := andi main_v24 main_v27
  (main_v13, main_v28)

def fn {F : FTy → Type} [FloatOps F] (main_arg0 : FVec F S8x8448x768 .bf16) (main_arg1 : FVec F S8x8448x768 .bf16) (main_arg2 : FVec F S8x8448x768 .bf16) (main_arg3 : FVec F S64 .f32) (main_arg4 : FVec F S64 .f32) (main_arg5 : FVec F S64 .f32) (main_arg6 : FVec F S64 .f32) (main_arg7 : FVec F S128 .f32) : IVec S8x8448x768 1 × IVec S64 1 :=
  let main_v0 : FVec F S8x8448x768 .f32 := (extf .f32 · bitsLt_bf16_f32) main_arg0
  let main_v1 : FVec F S8x8448x768 .f32 := Host.absf main_v0
  let main_cst : FVec F S_ .f32 := constant S_ .f32 0x7F800000#32
  let main_v2 : FVec F S8x8448x768 .f32 := broadcastInDim S8x8448x768 ![] bcast_S_S8x8448x768 main_cst
  let main_v3 : IVec S8x8448x768 1 := cmpf .olt main_v1 main_v2
  let main_v4 : FVec F S8x8448x768 .f32 := (extf .f32 · bitsLt_bf16_f32) main_arg1
  let main_v5 : FVec F S8x8448x768 .f32 := Host.absf main_v4
  let main_cst_0 : FVec F S_ .f32 := constant S_ .f32 0x7F800000#32
  let main_v6 : FVec F S8x8448x768 .f32 := broadcastInDim S8x8448x768 ![] bcast_S_S8x8448x768 main_cst_0
  let main_v7 : IVec S8x8448x768 1 := cmpf .olt main_v5 main_v6
  let main_v8 : IVec S8x8448x768 1 := andi main_v3 main_v7
  let main_v9 : FVec F S8x8448x768 .f32 := (extf .f32 · bitsLt_bf16_f32) main_arg2
  let main_v10 : FVec F S8x8448x768 .f32 := Host.absf main_v9
  let main_cst_1 : FVec F S_ .f32 := constant S_ .f32 0x7F800000#32
  let main_v11 : FVec F S8x8448x768 .f32 := broadcastInDim S8x8448x768 ![] bcast_S_S8x8448x768 main_cst_1
  let main_v12 : IVec S8x8448x768 1 := cmpf .olt main_v10 main_v11
  let main_v13 : IVec S8x8448x768 1 := andi main_v8 main_v12
  let main_v14 : FVec F S64 .f32 := Host.absf main_arg3
  let main_cst_2 : FVec F S_ .f32 := constant S_ .f32 0x7F800000#32
  let main_v15 : FVec F S64 .f32 := broadcastInDim S64 ![] bcast_S_S64 main_cst_2
  let main_v16 : IVec S64 1 := cmpf .olt main_v14 main_v15
  let main_v17 : FVec F S64 .f32 := Host.absf main_arg4
  let main_cst_3 : FVec F S_ .f32 := constant S_ .f32 0x7F800000#32
  let main_v18 : FVec F S64 .f32 := broadcastInDim S64 ![] bcast_S_S64 main_cst_3
  fn_part1 (F := F) main_arg5 main_arg6 main_v13 main_v16 main_v17 main_v18
-- ==== Pre_gqa_finite.lean ====
abbrev S8x8448x512 : Shape := ⟨3, ![8, 8448, 512]⟩
abbrev S8x8448x128 : Shape := ⟨3, ![8, 8448, 128]⟩
abbrev S_ : Shape := ⟨0, ![]⟩

class Facts : Prop where
  bitsLt_bf16_f32 : FTy.bits .bf16 < FTy.bits .f32
  bcast_S_S8x8448x512 : S_.BroadcastsInDim S8x8448x512 (![] : Fin 0 → Fin S8x8448x512.rank)
  bcast_S_S8x8448x128 : S_.BroadcastsInDim S8x8448x128 (![] : Fin 0 → Fin S8x8448x128.rank)

variable [Facts]

def fn {F : FTy → Type} [FloatOps F] (main_arg0 : FVec F S8x8448x512 .bf16) (main_arg1 : FVec F S8x8448x128 .bf16) (main_arg2 : FVec F S8x8448x128 .bf16) : IVec S8x8448x512 1 × IVec S8x8448x128 1 :=
  let main_v0 : FVec F S8x8448x512 .f32 := (extf .f32 · bitsLt_bf16_f32) main_arg0
  let main_v1 : FVec F S8x8448x512 .f32 := Host.absf main_v0
  let main_cst : FVec F S_ .f32 := constant S_ .f32 0x7F800000#32
  let main_v2 : FVec F S8x8448x512 .f32 := broadcastInDim S8x8448x512 ![] bcast_S_S8x8448x512 main_cst
  let main_v3 : IVec S8x8448x512 1 := cmpf .olt main_v1 main_v2
  let main_v4 : FVec F S8x8448x128 .f32 := (extf .f32 · bitsLt_bf16_f32) main_arg1
  let main_v5 : FVec F S8x8448x128 .f32 := Host.absf main_v4
  let main_cst_0 : FVec F S_ .f32 := constant S_ .f32 0x7F800000#32
  let main_v6 : FVec F S8x8448x128 .f32 := broadcastInDim S8x8448x128 ![] bcast_S_S8x8448x128 main_cst_0
  let main_v7 : IVec S8x8448x128 1 := cmpf .olt main_v5 main_v6
  (main_v3, main_v7)
-- ==== Pre_peer_finite.lean ====
abbrev S8x8448x1024 : Shape := ⟨3, ![8, 8448, 1024]⟩
abbrev S1024x2048 : Shape := ⟨2, ![1024, 2048]⟩
abbrev S8x2x128x128 : Shape := ⟨4, ![8, 2, 128, 128]⟩
abbrev S_ : Shape := ⟨0, ![]⟩

class Facts : Prop where
  bitsLt_bf16_f32 : FTy.bits .bf16 < FTy.bits .f32
  bcast_S_S8x8448x1024 : S_.BroadcastsInDim S8x8448x1024 (![] : Fin 0 → Fin S8x8448x1024.rank)
  bcast_S_S1024x2048 : S_.BroadcastsInDim S1024x2048 (![] : Fin 0 → Fin S1024x2048.rank)
  bcast_S_S8x2x128x128 : S_.BroadcastsInDim S8x2x128x128 (![] : Fin 0 → Fin S8x2x128x128.rank)

variable [Facts]

def fn {F : FTy → Type} [FloatOps F] (main_arg0 : FVec F S8x8448x1024 .bf16) (main_arg1 : FVec F S8x8448x1024 .bf16) (main_arg2 : FVec F S1024x2048 .f32) (main_arg3 : FVec F S8x2x128x128 .f32) : IVec S8x8448x1024 1 × IVec S1024x2048 1 × IVec S8x2x128x128 1 :=
  let main_v0 : FVec F S8x8448x1024 .f32 := (extf .f32 · bitsLt_bf16_f32) main_arg0
  let main_v1 : FVec F S8x8448x1024 .f32 := Host.absf main_v0
  let main_cst : FVec F S_ .f32 := constant S_ .f32 0x7F800000#32
  let main_v2 : FVec F S8x8448x1024 .f32 := broadcastInDim S8x8448x1024 ![] bcast_S_S8x8448x1024 main_cst
  let main_v3 : IVec S8x8448x1024 1 := cmpf .olt main_v1 main_v2
  let main_v4 : FVec F S8x8448x1024 .f32 := (extf .f32 · bitsLt_bf16_f32) main_arg1
  let main_v5 : FVec F S8x8448x1024 .f32 := Host.absf main_v4
  let main_cst_0 : FVec F S_ .f32 := constant S_ .f32 0x7F800000#32
  let main_v6 : FVec F S8x8448x1024 .f32 := broadcastInDim S8x8448x1024 ![] bcast_S_S8x8448x1024 main_cst_0
  let main_v7 : IVec S8x8448x1024 1 := cmpf .olt main_v5 main_v6
  let main_v8 : IVec S8x8448x1024 1 := andi main_v3 main_v7
  let main_v9 : FVec F S1024x2048 .f32 := Host.absf main_arg2
  let main_cst_1 : FVec F S_ .f32 := constant S_ .f32 0x7F800000#32
  let main_v10 : FVec F S1024x2048 .f32 := broadcastInDim S1024x2048 ![] bcast_S_S1024x2048 main_cst_1
  let main_v11 : IVec S1024x2048 1 := cmpf .olt main_v9 main_v10
  let main_v12 : FVec F S8x2x128x128 .f32 := Host.absf main_arg3
  let main_cst_2 : FVec F S_ .f32 := constant S_ .f32 0x7F800000#32
  let main_v13 : FVec F S8x2x128x128 .f32 := broadcastInDim S8x2x128x128 ![] bcast_S_S8x2x128x128 main_cst_2
  let main_v14 : IVec S8x2x128x128 1 := cmpf .olt main_v12 main_v13
  (main_v8, main_v11, main_v14)
-- ==== Pre_proj_finite.lean ====
abbrev S8x8448x1024 : Shape := ⟨3, ![8, 8448, 1024]⟩
abbrev S8x2x6x1024 : Shape := ⟨4, ![8, 2, 6, 1024]⟩
abbrev S1024 : Shape := ⟨1, ![1024]⟩
abbrev S1024x2560 : Shape := ⟨2, ![1024, 2560]⟩
abbrev S64 : Shape := ⟨1, ![64]⟩
abbrev S_ : Shape := ⟨0, ![]⟩

class Facts : Prop where
  bcast_S_S8x2x6x1024 : S_.BroadcastsInDim S8x2x6x1024 (![] : Fin 0 → Fin S8x2x6x1024.rank)
  bcast_S_S1024 : S_.BroadcastsInDim S1024 (![] : Fin 0 → Fin S1024.rank)
  bcast_S_S1024x2560 : S_.BroadcastsInDim S1024x2560 (![] : Fin 0 → Fin S1024x2560.rank)

variable [Facts]

def fn {F : FTy → Type} [FloatOps F] (main_arg0 : FVec F S8x8448x1024 .f32) (main_arg1 : FVec F S8x2x6x1024 .f32) (main_arg2 : FVec F S1024 .f32) (main_arg3 : FVec F S1024x2560 .f32) (main_arg4 : FVec F S64 .f32) (main_arg5 : FVec F S64 .f32) : IVec S8x2x6x1024 1 × IVec S1024 1 × IVec S1024x2560 1 :=
  let main_v0 : FVec F S8x2x6x1024 .f32 := Host.absf main_arg1
  let main_cst : FVec F S_ .f32 := constant S_ .f32 0x7F800000#32
  let main_v1 : FVec F S8x2x6x1024 .f32 := broadcastInDim S8x2x6x1024 ![] bcast_S_S8x2x6x1024 main_cst
  let main_v2 : IVec S8x2x6x1024 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2560 .f32 := Host.absf main_arg3
  let main_cst_1 : FVec F S_ .f32 := constant S_ .f32 0x7F800000#32
  let main_v7 : FVec F S1024x2560 .f32 := broadcastInDim S1024x2560 ![] bcast_S_S1024x2560 main_cst_1
  let main_v8 : IVec S1024x2560 1 := cmpf .olt main_v6 main_v7
  (main_v2, main_v5, main_v8)
-- ==== Kernel.lean ====
abbrev S8x8448x768 : Shape := ⟨3, ![8, 8448, 768]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S1x256x128 : Shape := ⟨3, ![1, 256, 128]⟩
abbrev S1x8448x128 : Shape := ⟨3, ![1, 8448, 128]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S1x512x128 : Shape := ⟨3, ![1, 512, 128]⟩
abbrev S512x512 : Shape := ⟨2, ![512, 512]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 15
  | .vmem => 13
  | .smem => 0
  | _ => 0

abbrev bufTy : (tb : Table) → Fin (tcTables nBuf tb) → BufTy
  | .hbm, ⟨0, _⟩ => ⟨S8x8448x768, .bf16⟩
  | .hbm, ⟨1, _⟩ => ⟨S8x8448x768, .bf16⟩
  | .hbm, ⟨2, _⟩ => ⟨S8x8448x768, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S1x128, .f32⟩
  | .hbm, ⟨14, _⟩ => ⟨S8x8448x768, .bf16⟩
  | .local _ .vmem, ⟨0, _⟩ => ⟨S1x256x128, .bf16⟩
  | .local _ .vmem, ⟨1, _⟩ => ⟨S1x256x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S4x64, .f32⟩
  | .local _ .vmem, ⟨7, _⟩ => ⟨S1x128, .f32⟩
  | .local _ .vmem, ⟨8, _⟩ => ⟨S1x256x128, .bf16⟩
  | .local _ .vmem, ⟨9, _⟩ => ⟨S1x256x128, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S8x8448x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 6, 33], ![false, false, false]⟩

@[reducible] def k0_t1_loop (i : grid0.Coords) : Scf.Loop 32 :=
  let c0_i32_35 : BitVec 32 := 0#32
  let arg2 : BitVec 32 := BitVec.ofNat 32 (i 2).val
  let c0_i32 : BitVec 32 := 0#32
  let v9 : BitVec 1 := Scalar.cmpi .sgt arg2 c0_i32
  let c16_i32 : BitVec 32 := 16#32
  let c0_i32_33 : BitVec 32 := 0#32
  let v56 : BitVec 32 := Scalar.select v9 c16_i32 c0_i32_33
  let v57 : BitVec 32 := Scalar.subi v56 c0_i32_35
  let c1_i32 : BitVec 32 := 1#32
  let v59 : BitVec 32 := Scalar.divsi v57 c1_i32
  let v60 : BitVec 32 := Scalar.muli v59 c1_i32
  let v61 : BitVec 32 := Scalar.addi c0_i32_35 v60
  let c1_i32_36 : BitVec 32 := 1#32
  ⟨c0_i32_35, v61, c1_i32_36⟩
def k0_mult1 (i : grid0.Coords) (k0_t1 : Fin (k0_t1_loop i).trips) : BitVec 32 :=
  let c256_i32 : BitVec 32 := 256#32
  let c0_i32_35 : BitVec 32 := 0#32
  let c1_i32_36 : BitVec 32 := 1#32
  let arg12 : BitVec 32 := Scf.iv c0_i32_35 c1_i32_36 k0_t1
  let c512_i32 : BitVec 32 := 512#32
  let v108 : BitVec 32 := Scalar.muli arg12 c512_i32
  let v109 : BitVec 32 := Scalar.addi c256_i32 v108
  v109
def k0_off1 (i : grid0.Coords) (k0_t1 : Fin (k0_t1_loop i).trips) : Fin 3 → Nat :=
  let c0_56 : Index := 0#32
  let c256_i32 : BitVec 32 := 256#32
  let c0_i32_35 : BitVec 32 := 0#32
  let c1_i32_36 : BitVec 32 := 1#32
  let arg12 : BitVec 32 := Scf.iv c0_i32_35 c1_i32_36 k0_t1
  let c512_i32 : BitVec 32 := 512#32
  let v108 : BitVec 32 := Scalar.muli arg12 c512_i32
  let v109 : BitVec 32 := Scalar.addi c256_i32 v108
  let v110 : BitVec 32 := v109
  let v111 : Index := Scalar.indexCast v110
  let c0_57 : Index := 0#32
  ![0, v111.toNat, 0]
@[reducible] def k0_t2_loop (i : grid0.Coords) : Scf.Loop 32 :=
  let c0_i32_35 : BitVec 32 := 0#32
  let arg2 : BitVec 32 := BitVec.ofNat 32 (i 2).val
  let c0_i32 : BitVec 32 := 0#32
  let v9 : BitVec 1 := Scalar.cmpi .sgt arg2 c0_i32
  let c16_i32 : BitVec 32 := 16#32
  let c0_i32_33 : BitVec 32 := 0#32
  let v56 : BitVec 32 := Scalar.select v9 c16_i32 c0_i32_33
  let v57 : BitVec 32 := Scalar.subi v56 c0_i32_35
  let c1_i32 : BitVec 32 := 1#32
  let v59 : BitVec 32 := Scalar.divsi v57 c1_i32
  let v60 : BitVec 32 := Scalar.muli v59 c1_i32
  let v61 : BitVec 32 := Scalar.addi c0_i32_35 v60
  let v58 : BitVec 32 := Scalar.addi c0_i32_35 v57
  let c1_i32_37 : BitVec 32 := 1#32
  ⟨v61, v58, c1_i32_37⟩
def k0_mult2 (i : grid0.Coords) (k0_t2 : Fin (k0_t2_loop i).trips) : BitVec 32 :=
  let c256_i32 : BitVec 32 := 256#32
  let c0_i32_35 : BitVec 32 := 0#32
  let arg2 : BitVec 32 := BitVec.ofNat 32 (i 2).val
  let c0_i32 : BitVec 32 := 0#32
  let v9 : BitVec 1 := Scalar.cmpi .sgt arg2 c0_i32
  let c16_i32 : BitVec 32 := 16#32
  let c0_i32_33 : BitVec 32 := 0#32
  let v56 : BitVec 32 := Scalar.select v9 c16_i32 c0_i32_33
  let v57 : BitVec 32 := Scalar.subi v56 c0_i32_35
  let c1_i32 : BitVec 32 := 1#32
  let v59 : BitVec 32 := Scalar.divsi v57 c1_i32
  let v60 : BitVec 32 := Scalar.muli v59 c1_i32
  let v61 : BitVec 32 := Scalar.addi c0_i32_35 v60
  let c1_i32_37 : BitVec 32 := 1#32
  let arg12 : BitVec 32 := Scf.iv v61 c1_i32_37 k0_t2
  let c512_i32 : BitVec 32 := 512#32
  let v108 : BitVec 32 := Scalar.muli arg12 c512_i32
  let v109 : BitVec 32 := Scalar.addi c256_i32 v108
  v109
def k0_off2 (i : grid0.Coords) (k0_t2 : Fin (k0_t2_loop i).trips) : Fin 3 → Nat :=
  let c0_56 : Index := 0#32
  let c256_i32 : BitVec 32 := 256#32
  let c0_i32_35 : BitVec 32 := 0#32
  let arg2 : BitVec 32 := BitVec.ofNat 32 (i 2).val
  let c0_i32 : BitVec 32 := 0#32
  let v9 : BitVec 1 := Scalar.cmpi .sgt arg2 c0_i32
  let c16_i32 : BitVec 32 := 16#32
  let c0_i32_33 : BitVec 32 := 0#32
  let v56 : BitVec 32 := Scalar.select v9 c16_i32 c0_i32_33
  let v57 : BitVec 32 := Scalar.subi v56 c0_i32_35
  let c1_i32 : BitVec 32 := 1#32
  let v59 : BitVec 32 := Scalar.divsi v57 c1_i32
  let v60 : BitVec 32 := Scalar.muli v59 c1_i32
  let v61 : BitVec 32 := Scalar.addi c0_i32_35 v60
  let c1_i32_37 : BitVec 32 := 1#32
  let arg12 : BitVec 32 := Scf.iv v61 c1_i32_37 k0_t2
  let c512_i32 : BitVec 32 := 512#32
  let v108 : BitVec 32 := Scalar.muli arg12 c512_i32
  let v109 : BitVec 32 := Scalar.addi c256_i32 v108
  let v110 : BitVec 32 := v109
  let v111 : Index := Scalar.indexCast v110
  let c0_57 : Index := 0#32
  ![0, v111.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x8448x768 : Shape := ⟨3, ![8, 8448, 768]⟩
abbrev S64 : Shape := ⟨1, ![64]⟩
abbrev S128 : Shape := ⟨1, ![128]⟩
abbrev S_ : Shape := ⟨0, ![]⟩
abbrev S8x8448x6x2x64 : Shape := ⟨5, ![8, 8448, 6, 2, 64]⟩
abbrev S8x6x2x8448x64 : Shape := ⟨5, ![8, 6, 2, 8448, 64]⟩
abbrev S8x8448x6x128 : Shape := ⟨4, ![8, 8448, 6, 128]⟩
abbrev S8x6x8448x128 : Shape := ⟨4, ![8, 6, 8448, 128]⟩
abbrev S8x6x2x8192x64 : Shape := ⟨5, ![8, 6, 2, 8192, 64]⟩
abbrev S8x6x2x8192x8448 : Shape := ⟨5, ![8, 6, 2, 8192, 8448]⟩
abbrev S8x6x2x8192 : Shape := ⟨4, ![8, 6, 2, 8192]⟩
abbrev S8x6x2x8192x1 : Shape := ⟨5, ![8, 6, 2, 8192, 1]⟩
abbrev S8x6x1x8192x8448 : Shape := ⟨5, ![8, 6, 1, 8192, 8448]⟩
abbrev S8x6x8192x8448 : Shape := ⟨4, ![8, 6, 8192, 8448]⟩
abbrev S8x6x8192x128 : Shape := ⟨4, ![8, 6, 8192, 128]⟩
abbrev S8x6x2x256x64 : Shape := ⟨5, ![8, 6, 2, 256, 64]⟩
abbrev S8x6x256x128 : Shape := ⟨4, ![8, 6, 256, 128]⟩
abbrev S8x6x2x256x256 : Shape := ⟨5, ![8, 6, 2, 256, 256]⟩
abbrev S8x6x2x256 : Shape := ⟨4, ![8, 6, 2, 256]⟩
abbrev S8x6x2x256x1 : Shape := ⟨5, ![8, 6, 2, 256, 1]⟩
abbrev S8x6x1x256x256 : Shape := ⟨5, ![8, 6, 1, 256, 256]⟩
abbrev S8x6x256x256 : Shape := ⟨4, ![8, 6, 256, 256]⟩
abbrev S8x6x8448 : Shape := ⟨3, ![8, 6, 8448]⟩
abbrev S8x6x8448x1 : Shape := ⟨4, ![8, 6, 8448, 1]⟩
abbrev S1x1x1x128 : Shape := ⟨4, ![1, 1, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S8x8448x768, .bf16⟩
  | .hbm, ⟨1, _⟩ => ⟨S8x8448x768, .bf16⟩
  | .hbm, ⟨2, _⟩ => ⟨S8x8448x768, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x8448x768, .f32⟩
  | .hbm, ⟨20, _⟩ => ⟨S8x8448x6x2x64, .f32⟩
  | .hbm, ⟨21, _⟩ => ⟨S8x6x2x8448x64, .f32⟩
  | .hbm, ⟨22, _⟩ => ⟨S8x8448x768, .f32⟩
  | .hbm, ⟨23, _⟩ => ⟨S8x8448x6x2x64, .f32⟩
  | .hbm, ⟨24, _⟩ => ⟨S8x6x2x8448x64, .f32⟩
  | .hbm, ⟨25, _⟩ => ⟨S8x8448x768, .f32⟩
  | .hbm, ⟨26, _⟩ => ⟨S8x8448x6x128, .f32⟩
  | .hbm, ⟨27, _⟩ => ⟨S8x6x8448x128, .f32⟩
  | .hbm, ⟨28, _⟩ => ⟨S8x6x2x8192x64, .f32⟩
  | .hbm, ⟨29, _⟩ => ⟨S8x6x2x8192x8448, .f32⟩
  | .hbm, ⟨30, _⟩ => ⟨S_, .f32⟩
  | .hbm, ⟨31, _⟩ => ⟨S8x6x2x8192, .f32⟩
  | .hbm, ⟨32, _⟩ => ⟨S_, .f32⟩
  | .hbm, ⟨33, _⟩ => ⟨S8x6x2x8192, .f32⟩
  | .hbm, ⟨34, _⟩ => ⟨S8x6x2x8192, .f32⟩
  | .hbm, ⟨35, _⟩ => ⟨S8x6x2x8192x1, .f32⟩
  | .hbm, ⟨36, _⟩ => ⟨S8x6x2x8192x8448, .f32⟩
  | .hbm, ⟨37, _⟩ => ⟨S8x6x2x8192x8448, .f32⟩
  | .hbm, ⟨38, _⟩ => ⟨S8x6x2x8192x8448, .f32⟩
  | .hbm, ⟨39, _⟩ => ⟨S_, .f32⟩
  | .hbm, ⟨40, _⟩ => ⟨S8x6x2x8192, .f32⟩
  | .hbm, ⟨41, _⟩ => ⟨S8x6x2x8192x1, .f32⟩
  | .hbm, ⟨42, _⟩ => ⟨S8x6x2x8192x8448, .f32⟩
  | .hbm, ⟨43, _⟩ => ⟨S8x6x2x8192x8448, .f32⟩
  | .hbm, ⟨44, _⟩ => ⟨S8x6x1x8192x8448, .f32⟩
  | .hbm, ⟨45, _⟩ => ⟨S8x6x8192x8448, .f32⟩
  | .hbm, ⟨46, _⟩ => ⟨S8x6x1x8192x8448, .f32⟩
  | .hbm, ⟨47, _⟩ => ⟨S8x6x8192x8448, .f32⟩
  | .hbm, ⟨48, _⟩ => ⟨S8x6x8192x8448, .f32⟩
  | .hbm, ⟨49, _⟩ => ⟨S8x6x8192x8448, .f32⟩
  | .hbm, ⟨50, _⟩ => ⟨S8x6x8192x8448, .f32⟩
  | .hbm, ⟨51, _⟩ => ⟨S8x6x8192x128, .f32⟩
  | .hbm, ⟨52, _⟩ => ⟨S8x6x2x256x64, .f32⟩
  | .hbm, ⟨53, _⟩ => ⟨S8x6x2x256x64, .f32⟩
  | .hbm, ⟨54, _⟩ => ⟨S8x6x256x128, .f32⟩
  | .hbm, ⟨55, _⟩ => ⟨S8x6x2x256x256, .f32⟩
  | .hbm, ⟨56, _⟩ => ⟨S_, .f32⟩
  | .hbm, ⟨57, _⟩ => ⟨S8x6x2x256, .f32⟩
  | .hbm, ⟨58, _⟩ => ⟨S_, .f32⟩
  | .hbm, ⟨59, _⟩ => ⟨S8x6x2x256, .f32⟩
  | .hbm, ⟨60, _⟩ => ⟨S8x6x2x256, .f32⟩
  | .hbm, ⟨61, _⟩ => ⟨S8x6x2x256x1, .f32⟩
  | .hbm, ⟨62, _⟩ => ⟨S8x6x2x256x256, .f32⟩
  | .hbm, ⟨63, _⟩ => ⟨S8x6x2x256x256, .f32⟩
  | .hbm, ⟨64, _⟩ => ⟨S8x6x2x256x256, .f32⟩
  | .hbm, ⟨65, _⟩ => ⟨S_, .f32⟩
  | .hbm, ⟨66, _⟩ => ⟨S8x6x2x256, .f32⟩
  | .hbm, ⟨67, _⟩ => ⟨S8x6x2x256x1, .f32⟩
  | .hbm, ⟨68, _⟩ => ⟨S8x6x2x256x256, .f32⟩
  | .hbm, ⟨69, _⟩ => ⟨S8x6x2x256x256, .f32⟩
  | .hbm, ⟨70, _⟩ => ⟨S8x6x1x256x256, .f32⟩
  | .hbm, ⟨71, _⟩ => ⟨S8x6x256x256, .f32⟩
  | .hbm, ⟨72, _⟩ => ⟨S8x6x1x256x256, .f32⟩
  | .hbm, ⟨73, _⟩ => ⟨S8x6x256x256, .f32⟩
  | .hbm, ⟨74, _⟩ => ⟨S8x6x256x256, .f32⟩
  | .hbm, ⟨75, _⟩ => ⟨S8x6x256x256, .f32⟩
  | .hbm, ⟨76, _⟩ => ⟨S8x6x256x256, .f32⟩
  | .hbm, ⟨77, _⟩ => ⟨S8x6x256x128, .f32⟩
  | .hbm, ⟨78, _⟩ => ⟨S8x6x8448x128, .f32⟩
  | .hbm, ⟨79, _⟩ => ⟨S8x6x8448x128, .f32⟩
  | .hbm, ⟨80, _⟩ => ⟨S_, .f32⟩
  | .hbm, ⟨81, _⟩ => ⟨S8x6x8448, .f32⟩
  | .hbm, ⟨82, _⟩ => ⟨S8x6x8448x1, .f32⟩
  | .hbm, ⟨83, _⟩ => ⟨S_, .f32⟩
  | .hbm, ⟨84, _⟩ => ⟨S8x6x8448x1, .f32⟩
  | .hbm, ⟨85, _⟩ => ⟨S8x6x8448x1, .f32⟩
  | .hbm, ⟨86, _⟩ => ⟨S_, .f32⟩
  | .hbm, ⟨87, _⟩ => ⟨S8x6x8448x1, .f32⟩
  | .hbm, ⟨88, _⟩ => ⟨S8x6x8448x1, .f32⟩
  | .hbm, ⟨89, _⟩ => ⟨S8x6x8448x1, .f32⟩
  | .hbm, ⟨90, _⟩ => ⟨S8x6x8448x128, .f32⟩
  | .hbm, ⟨91, _⟩ => ⟨S8x6x8448x128, .f32⟩
  | .hbm, ⟨92, _⟩ => ⟨S1x1x1x128, .f32⟩
  | .hbm, ⟨93, _⟩ => ⟨S8x6x8448x128, .f32⟩
  | .hbm, ⟨94, _⟩ => ⟨S8x6x8448x128, .f32⟩
  | .hbm, ⟨95, _⟩ => ⟨S_, .f32⟩
  | .hbm, ⟨96, _⟩ => ⟨S8x6x8448x128, .f32⟩
  | .hbm, ⟨97, _⟩ => ⟨S8x6x8448x128, .f32⟩
  | .hbm, ⟨98, _⟩ => ⟨S8x8448x6x128, .f32⟩
  | .hbm, ⟨99, _⟩ => ⟨S8x8448x768, .f32⟩
  | .hbm, ⟨100, _⟩ => ⟨S8x8448x768, .bf16⟩
  | _, _ => ⟨S8x8448x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Kernel2.lean ====
abbrev S8x8448x512 : Shape := ⟨3, ![8, 8448, 512]⟩
abbrev S8x8448x128 : Shape := ⟨3, ![8, 8448, 128]⟩
abbrev S8x8448x64 : Shape := ⟨3, ![8, 8448, 64]⟩
abbrev S8x8448x256 : Shape := ⟨3, ![8, 8448, 256]⟩
abbrev S1x256x256 : Shape := ⟨3, ![1, 256, 256]⟩
abbrev S1x8448x128 : Shape := ⟨3, ![1, 8448, 128]⟩
abbrev S1024x1 : Shape := ⟨2, ![1024, 1]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S1024 : Shape := ⟨1, ![1024]⟩
abbrev S1x512x128 : Shape := ⟨3, ![1, 512, 128]⟩
abbrev S512x128 : Shape := ⟨2, ![512, 128]⟩
abbrev S1024x512 : Shape := ⟨2, ![1024, 512]⟩

abbrev nBuf : Space → Nat
  | .hbm => 14
  | .vmem => 11
  | .smem => 0
  | _ => 0

abbrev bufTy : (tb : Table) → Fin (tcTables nBuf tb) → BufTy
  | .hbm, ⟨0, _⟩ => ⟨S8x8448x512, .bf16⟩
  | .hbm, ⟨1, _⟩ => ⟨S8x8448x128, .bf16⟩
  | .hbm, ⟨2, _⟩ => ⟨S8x8448x128, .bf16⟩
  | .hbm, ⟨3, _⟩ => ⟨S8x8448x64, .bf16⟩
  | .hbm, ⟨4, _⟩ => ⟨S8x8448x64, .bf16⟩
  | .hbm, ⟨5, _⟩ => ⟨S8x8448x64, .bf16⟩
  | .hbm, ⟨6, _⟩ => ⟨S8x8448x64, .bf16⟩
  | .hbm, ⟨7, _⟩ => ⟨S8x8448x256, .bf16⟩
  | .hbm, ⟨8, _⟩ => ⟨S8x8448x64, .bf16⟩
  | .hbm, ⟨9, _⟩ => ⟨S8x8448x64, .bf16⟩
  | .hbm, ⟨10, _⟩ => ⟨S8x8448x64, .bf16⟩
  | .hbm, ⟨11, _⟩ => ⟨S8x8448x64, .bf16⟩
  | .hbm, ⟨12, _⟩ => ⟨S8x8448x256, .bf16⟩
  | .hbm, ⟨13, _⟩ => ⟨S8x8448x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S1x256x256, .bf16⟩
  | .local _ .vmem, ⟨7, _⟩ => ⟨S1x256x256, .bf16⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | _, _ => ⟨S8x8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 33], ![false, false, false]⟩

@[reducible] def k0_t1_loop (i : grid0.Coords) : Scf.Loop 32 :=
  let c0_i32_39 : BitVec 32 := 0#32
  let arg2 : BitVec 32 := BitVec.ofNat 32 (i 2).val
  let c0_i32 : BitVec 32 := 0#32
  let v17 : BitVec 1 := Scalar.cmpi .sgt arg2 c0_i32
  let c16_i32 : BitVec 32 := 16#32
  let c0_i32_37 : BitVec 32 := 0#32
  let v64 : BitVec 32 := Scalar.select v17 c16_i32 c0_i32_37
  let v65 : BitVec 32 := Scalar.subi v64 c0_i32_39
  let c1_i32 : BitVec 32 := 1#32
  let v67 : BitVec 32 := Scalar.divsi v65 c1_i32
  let v68 : BitVec 32 := Scalar.muli v67 c1_i32
  let v69 : BitVec 32 := Scalar.addi c0_i32_39 v68
  let c1_i32_40 : BitVec 32 := 1#32
  ⟨c0_i32_39, v69, c1_i32_40⟩
def k0_mult1 (i : grid0.Coords) (k0_t1 : Fin (k0_t1_loop i).trips) : BitVec 32 :=
  let c256_i32 : BitVec 32 := 256#32
  let c0_i32_39 : BitVec 32 := 0#32
  let c1_i32_40 : BitVec 32 := 1#32
  let arg10 : BitVec 32 := Scf.iv c0_i32_39 c1_i32_40 k0_t1
  let c512_i32 : BitVec 32 := 512#32
  let v91 : BitVec 32 := Scalar.muli arg10 c512_i32
  let v92 : BitVec 32 := Scalar.addi c256_i32 v91
  v92
def k0_off1 (i : grid0.Coords) (k0_t1 : Fin (k0_t1_loop i).trips) : Fin 3 → Nat :=
  let c0_53 : Index := 0#32
  let c256_i32 : BitVec 32 := 256#32
  let c0_i32_39 : BitVec 32 := 0#32
  let c1_i32_40 : BitVec 32 := 1#32
  let arg10 : BitVec 32 := Scf.iv c0_i32_39 c1_i32_40 k0_t1
  let c512_i32 : BitVec 32 := 512#32
  let v91 : BitVec 32 := Scalar.muli arg10 c512_i32
  let v92 : BitVec 32 := Scalar.addi c256_i32 v91
  let v93 : BitVec 32 := v92
  let v94 : Index := Scalar.indexCast v93
  let c0_54 : Index := 0#32
  ![0, v94.toNat, 0]
@[reducible] def k0_t2_loop (i : grid0.Coords) : Scf.Loop 32 :=
  let c0_i32_39 : BitVec 32 := 0#32
  let arg2 : BitVec 32 := BitVec.ofNat 32 (i 2).val
  let c0_i32 : BitVec 32 := 0#32
  let v17 : BitVec 1 := Scalar.cmpi .sgt arg2 c0_i32
  let c16_i32 : BitVec 32 := 16#32
  let c0_i32_37 : BitVec 32 := 0#32
  let v64 : BitVec 32 := Scalar.select v17 c16_i32 c0_i32_37
  let v65 : BitVec 32 := Scalar.subi v64 c0_i32_39
  let c1_i32 : BitVec 32 := 1#32
  let v67 : BitVec 32 := Scalar.divsi v65 c1_i32
  let v68 : BitVec 32 := Scalar.muli v67 c1_i32
  let v69 : BitVec 32 := Scalar.addi c0_i32_39 v68
  let v66 : BitVec 32 := Scalar.addi c0_i32_39 v65
  let c1_i32_41 : BitVec 32 := 1#32
  ⟨v69, v66, c1_i32_41⟩
def k0_mult2 (i : grid0.Coords) (k0_t2 : Fin (k0_t2_loop i).trips) : BitVec 32 :=
  let c256_i32 : BitVec 32 := 256#32
  let c0_i32_39 : BitVec 32 := 0#32
  let arg2 : BitVec 32 := BitVec.ofNat 32 (i 2).val
  let c0_i32 : BitVec 32 := 0#32
  let v17 : BitVec 1 := Scalar.cmpi .sgt arg2 c0_i32
  let c16_i32 : BitVec 32 := 16#32
  let c0_i32_37 : BitVec 32 := 0#32
  let v64 : BitVec 32 := Scalar.select v17 c16_i32 c0_i32_37
  let v65 : BitVec 32 := Scalar.subi v64 c0_i32_39
  let c1_i32 : BitVec 32 := 1#32
  let v67 : BitVec 32 := Scalar.divsi v65 c1_i32
  let v68 : BitVec 32 := Scalar.muli v67 c1_i32
  let v69 : BitVec 32 := Scalar.addi c0_i32_39 v68
  let c1_i32_41 : BitVec 32 := 1#32
  let arg10 : BitVec 32 := Scf.iv v69 c1_i32_41 k0_t2
  let c512_i32 : BitVec 32 := 512#32
  let v91 : BitVec 32 := Scalar.muli arg10 c512_i32
  let v92 : BitVec 32 := Scalar.addi c256_i32 v91
  v92
def k0_off2 (i : grid0.Coords) (k0_t2 : Fin (k0_t2_loop i).trips) : Fin 3 → Nat :=
  let c0_53 : Index := 0#32
  let c256_i32 : BitVec 32 := 256#32
  let c0_i32_39 : BitVec 32 := 0#32
  let arg2 : BitVec 32 := BitVec.ofNat 32 (i 2).val
  let c0_i32 : BitVec 32 := 0#32
  let v17 : BitVec 1 := Scalar.cmpi .sgt arg2 c0_i32
  let c16_i32 : BitVec 32 := 16#32
  let c0_i32_37 : BitVec 32 := 0#32
  let v64 : BitVec 32 := Scalar.select v17 c16_i32 c0_i32_37
  let v65 : BitVec 32 := Scalar.subi v64 c0_i32_39
  let c1_i32 : BitVec 32 := 1#32
  let v67 : BitVec 32 := Scalar.divsi v65 c1_i32
  let v68 : BitVec 32 := Scalar.muli v67 c1_i32
  let v69 : BitVec 32 := Scalar.addi c0_i32_39 v68
  let c1_i32_41 : BitVec 32 := 1#32
  let arg10 : BitVec 32 := Scf.iv v69 c1_i32_41 k0_t2
  let c512_i32 : BitVec 32 := 512#32
  let v91 : BitVec 32 := Scalar.muli arg10 c512_i32
  let v92 : BitVec 32 := Scalar.addi c256_i32 v91
  let v93 : BitVec 32 := v92
  let v94 : Index := Scalar.indexCast v93
  let c0_54 : Index := 0#32
  ![0, v94.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S8x8448x512 : Shape := ⟨3, ![8, 8448, 512]⟩
abbrev S8x8448x128 : Shape := ⟨3, ![8, 8448, 128]⟩
abbrev S8x8448x2x4x64 : Shape := ⟨5, ![8, 8448, 2, 4, 64]⟩
abbrev S8x2x4x8448x64 : Shape := ⟨5, ![8, 2, 4, 8448, 64]⟩
abbrev S8x8448x2x64 : Shape := ⟨4, ![8, 8448, 2, 64]⟩
abbrev S8x2x8448x64 : Shape := ⟨4, ![8, 2, 8448, 64]⟩
abbrev S8x2x4x8192x64 : Shape := ⟨5, ![8, 2, 4, 8192, 64]⟩
abbrev S8x2x4x8192x8448 : Shape := ⟨5, ![8, 2, 4, 8192, 8448]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x4x256x64 : Shape := ⟨5, ![8, 2, 4, 256, 64]⟩
abbrev S8x2x256x64 : Shape := ⟨4, ![8, 2, 256, 64]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x8448x512, .bf16⟩
  | .hbm, ⟨1, _⟩ => ⟨S8x8448x128, .bf16⟩
  | .hbm, ⟨2, _⟩ => ⟨S8x8448x128, .bf16⟩
  | .hbm, ⟨3, _⟩ => ⟨S8x8448x512, .f32⟩
  | .hbm, ⟨4, _⟩ => ⟨S8x8448x2x4x64, .f32⟩
  | .hbm, ⟨5, _⟩ => ⟨S8x2x4x8448x64, .f32⟩
  | .hbm, ⟨6, _⟩ => ⟨S8x8448x128, .f32⟩
  | .hbm, ⟨7, _⟩ => ⟨S8x8448x2x64, .f32⟩
  | .hbm, ⟨8, _⟩ => ⟨S8x2x8448x64, .f32⟩
  | .hbm, ⟨9, _⟩ => ⟨S8x8448x128, .f32⟩
  | .hbm, ⟨10, _⟩ => ⟨S8x8448x2x64, .f32⟩
  | .hbm, ⟨11, _⟩ => ⟨S8x2x8448x64, .f32⟩
  | .hbm, ⟨12, _⟩ => ⟨S8x2x4x8192x64, .f32⟩
  | .hbm, ⟨13, _⟩ => ⟨S8x2x4x8192x8448, .f32⟩
  | .hbm, ⟨14, _⟩ => ⟨S_, .f32⟩
  | .hbm, ⟨15, _⟩ => ⟨S8x2x4x8192, .f32⟩
  | .hbm, ⟨16, _⟩ => ⟨S_, .f32⟩
  | .hbm, ⟨17, _⟩ => ⟨S8x2x4x8192, .f32⟩
  | .hbm, ⟨18, _⟩ => ⟨S8x2x4x8192, .f32⟩
  | .hbm, ⟨19, _⟩ => ⟨S8x2x4x8192x1, .f32⟩
  | .hbm, ⟨20, _⟩ => ⟨S8x2x4x8192x8448, .f32⟩
  | .hbm, ⟨21, _⟩ => ⟨S8x2x4x8192x8448, .f32⟩
  | .hbm, ⟨22, _⟩ => ⟨S8x2x4x8192x8448, .f32⟩
  | .hbm, ⟨23, _⟩ => ⟨S_, .f32⟩
  | .hbm, ⟨24, _⟩ => ⟨S8x2x4x8192, .f32⟩
  | .hbm, ⟨25, _⟩ => ⟨S8x2x4x8192x1, .f32⟩
  | .hbm, ⟨26, _⟩ => ⟨S8x2x4x8192x8448, .f32⟩
  | .hbm, ⟨27, _⟩ => ⟨S8x2x4x8192x8448, .f32⟩
  | .hbm, ⟨28, _⟩ => ⟨S8x2x4x8192x64, .f32⟩
  | .hbm, ⟨29, _⟩ => ⟨S8x2x4x256x64, .f32⟩
  | .hbm, ⟨30, _⟩ => ⟨S8x2x256x64, .f32⟩
  | .hbm, ⟨31, _⟩ => ⟨S8x2x256x64, .f32⟩
  | .hbm, ⟨32, _⟩ => ⟨S8x2x4x256x256, .f32⟩
  | .hbm, ⟨33, _⟩ => ⟨S_, .f32⟩
  | .hbm, ⟨34, _⟩ => ⟨S8x2x4x256, .f32⟩
  | .hbm, ⟨35, _⟩ => ⟨S_, .f32⟩
  | .hbm, ⟨36, _⟩ => ⟨S8x2x4x256, .f32⟩
  | .hbm, ⟨37, _⟩ => ⟨S8x2x4x256, .f32⟩
  | .hbm, ⟨38, _⟩ => ⟨S8x2x4x256x1, .f32⟩
  | .hbm, ⟨39, _⟩ => ⟨S8x2x4x256x256, .f32⟩
  | .hbm, ⟨40, _⟩ => ⟨S8x2x4x256x256, .f32⟩
  | .hbm, ⟨41, _⟩ => ⟨S8x2x4x256x256, .f32⟩
  | .hbm, ⟨42, _⟩ => ⟨S_, .f32⟩
  | .hbm, ⟨43, _⟩ => ⟨S8x2x4x256, .f32⟩
  | .hbm, ⟨44, _⟩ => ⟨S8x2x4x256x1, .f32⟩
  | .hbm, ⟨45, _⟩ => ⟨S8x2x4x256x256, .f32⟩
  | .hbm, ⟨46, _⟩ => ⟨S8x2x4x256x256, .f32⟩
  | .hbm, ⟨47, _⟩ => ⟨S8x2x4x256x64, .f32⟩
  | .hbm, ⟨48, _⟩ => ⟨S8x2x4x8448x64, .f32⟩
  | .hbm, ⟨49, _⟩ => ⟨S8x8448x2x4x64, .f32⟩
  | .hbm, ⟨50, _⟩ => ⟨S8x8448x512, .f32⟩
  | .hbm, ⟨51, _⟩ => ⟨S8x8448x512, .bf16⟩
  | _, _ => ⟨S8x8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Kernel3.lean ====
abbrev S8x8448x1024 : Shape := ⟨3, ![8, 8448, 1024]⟩
abbrev S1024x2048 : Shape := ⟨2, ![1024, 2048]⟩
abbrev S8x2x128x128 : Shape := ⟨4, ![8, 2, 128, 128]⟩
abbrev S2x8x128x128 : Shape := ⟨4, ![2, 8, 128, 128]⟩
abbrev S16x128x128 : Shape := ⟨3, ![16, 128, 128]⟩
abbrev S2048x1024 : Shape := ⟨2, ![2048, 1024]⟩
abbrev S8x2x128x1024 : Shape := ⟨4, ![8, 2, 128, 1024]⟩
abbrev S2x8x128x1024 : Shape := ⟨4, ![2, 8, 128, 1024]⟩
abbrev S16x128x1024 : Shape := ⟨3, ![16, 128, 1024]⟩
abbrev S1x128x128 : Shape := ⟨3, ![1, 128, 128]⟩
abbrev S1x128x1024 : Shape := ⟨3, ![1, 128, 1024]⟩
abbrev S128x128 : Shape := ⟨2, ![128, 128]⟩
abbrev S128x1024 : Shape := ⟨2, ![128, 1024]⟩
abbrev S67584x1024 : Shape := ⟨2, ![67584, 1024]⟩
abbrev S2048x67584 : Shape := ⟨2, ![2048, 67584]⟩
abbrev S512x1024 : Shape := ⟨2, ![512, 1024]⟩
abbrev S2048x512 : Shape := ⟨2, ![2048, 512]⟩

abbrev nBuf : Space → Nat
  | .hbm => 17
  | .vmem => 16
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .bf16⟩
  | .hbm, ⟨2, _⟩ => ⟨S1024x2048, .f32⟩
  | .hbm, ⟨3, _⟩ => ⟨S8x2x128x128, .f32⟩
  | .hbm, ⟨4, _⟩ => ⟨S2x8x128x128, .f32⟩
  | .hbm, ⟨5, _⟩ => ⟨S16x128x128, .f32⟩
  | .hbm, ⟨6, _⟩ => ⟨S2048x1024, .f32⟩
  | .hbm, ⟨7, _⟩ => ⟨S8x2x128x1024, .f32⟩
  | .hbm, ⟨8, _⟩ => ⟨S2x8x128x1024, .f32⟩
  | .hbm, ⟨9, _⟩ => ⟨S16x128x1024, .f32⟩
  | .hbm, ⟨10, _⟩ => ⟨S16x128x1024, .bf16⟩
  | .hbm, ⟨11, _⟩ => ⟨S16x128x1024, .bf16⟩
  | .hbm, ⟨12, _⟩ => ⟨S2048x1024, .bf16⟩
  | .hbm, ⟨13, _⟩ => ⟨S2048x1024, .bf16⟩
  | .hbm, ⟨14, _⟩ => ⟨S67584x1024, .bf16⟩
  | .hbm, ⟨15, _⟩ => ⟨S67584x1024, .bf16⟩
  | .hbm, ⟨16, _⟩ => ⟨S2048x67584, .f32⟩
  | .local _ .vmem, ⟨0, _⟩ => ⟨S1x128x128, .f32⟩
  | .local _ .vmem, ⟨1, _⟩ => ⟨S1x128x128, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S2048x1024, .bf16⟩
  | .local _ .vmem, ⟨9, _⟩ => ⟨S2048x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S2048x512, .f32⟩
  | .local _ .vmem, ⟨15, _⟩ => ⟨S2048x512, .f32⟩
  | _, _ => ⟨S8x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![132], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference3Ideal.lean ====
abbrev S8x8448x1024 : Shape := ⟨3, ![8, 8448, 1024]⟩
abbrev S1024x2048 : Shape := ⟨2, ![1024, 2048]⟩
abbrev S8x2x128x128 : Shape := ⟨4, ![8, 2, 128, 128]⟩
abbrev S8x8448x2048 : Shape := ⟨3, ![8, 8448, 2048]⟩
abbrev S8x8448x8x2x128 : Shape := ⟨5, ![8, 8448, 8, 2, 128]⟩
abbrev S8x2x128x8x8448 : Shape := ⟨5, ![8, 2, 128, 8, 8448]⟩
abbrev S2x8x128x8x8448 : Shape := ⟨5, ![2, 8, 128, 8, 8448]⟩
abbrev S2048x67584 : Shape := ⟨2, ![2048, 67584]⟩

abbrev nBuf : Space → Nat
  | .hbm => 13
  | .vmem => 0
  | .smem => 0
  | _ => 0

abbrev bufTy : (tb : Table) → Fin (tcTables nBuf tb) → BufTy
  | .hbm, ⟨0, _⟩ => ⟨S8x8448x1024, .bf16⟩
  | .hbm, ⟨1, _⟩ => ⟨S8x8448x1024, .bf16⟩
  | .hbm, ⟨2, _⟩ => ⟨S1024x2048, .f32⟩
  | .hbm, ⟨3, _⟩ => ⟨S8x2x128x128, .f32⟩
  | .hbm, ⟨4, _⟩ => ⟨S8x8448x1024, .f32⟩
  | .hbm, ⟨5, _⟩ => ⟨S8x8448x1024, .f32⟩
  | .hbm, ⟨6, _⟩ => ⟨S8x8448x1024, .f32⟩
  | .hbm, ⟨7, _⟩ => ⟨S8x8448x2048, .f32⟩
  | .hbm, ⟨8, _⟩ => ⟨S8x8448x8x2x128, .f32⟩
  | .hbm, ⟨9, _⟩ => ⟨S8x2x128x8x8448, .f32⟩
  | .hbm, ⟨10, _⟩ => ⟨S8x8448x8x2x128, .f32⟩
  | .hbm, ⟨11, _⟩ => ⟨S2x8x128x8x8448, .f32⟩
  | .hbm, ⟨12, _⟩ => ⟨S2048x67584, .f32⟩
  | _, _ => ⟨S8x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S8x8448x1024 : Shape := ⟨3, ![8, 8448, 1024]⟩
abbrev S8x2x6x1024 : Shape := ⟨4, ![8, 2, 6, 1024]⟩
abbrev S1024 : Shape := ⟨1, ![1024]⟩
abbrev S1024x2560 : Shape := ⟨2, ![1024, 2560]⟩
abbrev S64 : Shape := ⟨1, ![64]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S16 : Shape := ⟨1, ![16]⟩
abbrev S8192x2x1 : Shape := ⟨3, ![8192, 2, 1]⟩
abbrev S1x1x16 : Shape := ⟨3, ![1, 1, 16]⟩
abbrev S8192x2x16 : Shape := ⟨3, ![8192, 2, 16]⟩
abbrev S8192x1x16 : Shape := ⟨3, ![8192, 1, 16]⟩
abbrev S8192x16 : Shape := ⟨2, ![8192, 16]⟩
abbrev S8192x64 : Shape := ⟨2, ![8192, 64]⟩
abbrev S256x128 : Shape := ⟨2, ![256, 128]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8448x128 : Shape := ⟨2, ![8448, 128]⟩
abbrev S1024x256 : Shape := ⟨2, ![1024, 256]⟩
abbrev S1024x768 : Shape := ⟨2, ![1024, 768]⟩
abbrev S128 : Shape := ⟨1, ![128]⟩
abbrev S1x128 : Shape := ⟨2, ![1, 128]⟩
abbrev S1x1024 : Shape := ⟨2, ![1, 1024]⟩
abbrev S8x8448x256 : Shape := ⟨3, ![8, 8448, 256]⟩
abbrev S8x8448x768 : Shape := ⟨3, ![8, 8448, 768]⟩
abbrev S1x256x1024 : Shape := ⟨3, ![1, 256, 1024]⟩
abbrev S1x1x6x1024 : Shape := ⟨4, ![1, 1, 6, 1024]⟩
abbrev S1x256x256 : Shape := ⟨3, ![1, 256, 256]⟩
abbrev S1x256x768 : Shape := ⟨3, ![1, 256, 768]⟩
abbrev S256x1024 : Shape := ⟨2, ![256, 1024]⟩
abbrev S256 : Shape := ⟨1, ![256]⟩
abbrev S256x1 : Shape := ⟨2, ![256, 1]⟩
abbrev S1x1x1x1024 : Shape := ⟨4, ![1, 1, 1, 1024]⟩
abbrev S256x256 : Shape := ⟨2, ![256, 256]⟩
abbrev S256x768 : Shape := ⟨2, ![256, 768]⟩
abbrev S128x128 : Shape := ⟨2, ![128, 128]⟩
abbrev S1x256x128 : Shape := ⟨3, ![1, 256, 128]⟩

abbrev nBuf : Space → Nat
  | .hbm => 112
  | .vmem => 23
  | .smem => 0
  | _ => 0

abbrev bufTy : (tb : Table) → Fin (tcTables nBuf tb) → BufTy
  | .hbm, ⟨0, _⟩ => ⟨S8x8448x1024, .f32⟩
  | .hbm, ⟨1, _⟩ => ⟨S8x2x6x1024, .f32⟩
  | .hbm, ⟨2, _⟩ => ⟨S1024, .f32⟩
  | .hbm, ⟨3, _⟩ => ⟨S1024x2560, .f32⟩
  | .hbm, ⟨4, _⟩ => ⟨S64, .f32⟩
  | .hbm, ⟨5, _⟩ => ⟨S64, .f32⟩
  | .hbm, ⟨6, _⟩ => ⟨S8192, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S_, .i32⟩
  | .hbm, ⟨13, _⟩ => ⟨S8192, .i32⟩
  | .hbm, ⟨14, _⟩ => ⟨S8192, .i1⟩
  | .hbm, ⟨15, _⟩ => ⟨S8192, .i32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S_, .i1⟩
  | .hbm, ⟨41, _⟩ => ⟨S8192, .i1⟩
  | .hbm, ⟨42, _⟩ => ⟨S8192, .i1⟩
  | .hbm, ⟨43, _⟩ => ⟨S8192, .i1⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192x1, .i32⟩
  | .hbm, ⟨48, _⟩ => ⟨S8192x1, .i32⟩
  | .hbm, ⟨49, _⟩ => ⟨S8192x2, .i32⟩
  | .hbm, ⟨50, _⟩ => ⟨S8192x2, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S8192x2x1, .f32⟩
  | .hbm, ⟨60, _⟩ => ⟨S1x1x16, .f32⟩
  | .hbm, ⟨61, _⟩ => ⟨S8192x2x16, .f32⟩
  | .hbm, ⟨62, _⟩ => ⟨S8192x2x16, .f32⟩
  | .hbm, ⟨63, _⟩ => ⟨S8192x2x16, .f32⟩
  | .hbm, ⟨64, _⟩ => ⟨S8192x2x16, .f32⟩
  | .hbm, ⟨65, _⟩ => ⟨S8192x2x16, .f32⟩
  | .hbm, ⟨66, _⟩ => ⟨S8192x1x16, .f32⟩
  | .hbm, ⟨67, _⟩ => ⟨S8192x16, .f32⟩
  | .hbm, ⟨68, _⟩ => ⟨S8192x1x16, .f32⟩
  | .hbm, ⟨69, _⟩ => ⟨S8192x16, .f32⟩
  | .hbm, ⟨70, _⟩ => ⟨S8192x1x16, .f32⟩
  | .hbm, ⟨71, _⟩ => ⟨S8192x16, .f32⟩
  | .hbm, ⟨72, _⟩ => ⟨S8192x1x16, .f32⟩
  | .hbm, ⟨73, _⟩ => ⟨S8192x16, .f32⟩
  | .hbm, ⟨74, _⟩ => ⟨S8192x64, .f32⟩
  | .hbm, ⟨75, _⟩ => ⟨S8192x1x16, .f32⟩
  | .hbm, ⟨76, _⟩ => ⟨S8192x16, .f32⟩
  | .hbm, ⟨77, _⟩ => ⟨S8192x16, .f32⟩
  | .hbm, ⟨78, _⟩ => ⟨S8192x1x16, .f32⟩
  | .hbm, ⟨79, _⟩ => ⟨S8192x16, .f32⟩
  | .hbm, ⟨80, _⟩ => ⟨S8192x1x16, .f32⟩
  | .hbm, ⟨81, _⟩ => ⟨S8192x16, .f32⟩
  | .hbm, ⟨82, _⟩ => ⟨S8192x16, .f32⟩
  | .hbm, ⟨83, _⟩ => ⟨S8192x1x16, .f32⟩
  | .hbm, ⟨84, _⟩ => ⟨S8192x16, .f32⟩
  | .hbm, ⟨85, _⟩ => ⟨S8192x64, .f32⟩
  | .hbm, ⟨86, _⟩ => ⟨S_, .f32⟩
  | .hbm, ⟨87, _⟩ => ⟨S256x128, .f32⟩
  | .hbm, ⟨88, _⟩ => ⟨S1x8192x1x64, .f32⟩
  | .hbm, ⟨89, _⟩ => ⟨S1x8192x2x64, .f32⟩
  | .hbm, ⟨90, _⟩ => ⟨S8192x128, .f32⟩
  | .hbm, ⟨91, _⟩ => ⟨S8448x128, .f32⟩
  | .hbm, ⟨92, _⟩ => ⟨S_, .f32⟩
  | .hbm, ⟨93, _⟩ => ⟨S256x128, .f32⟩
  | .hbm, ⟨94, _⟩ => ⟨S1x8192x1x64, .f32⟩
  | .hbm, ⟨95, _⟩ => ⟨S1x8192x2x64, .f32⟩
  | .hbm, ⟨96, _⟩ => ⟨S8192x128, .f32⟩
  | .hbm, ⟨97, _⟩ => ⟨S8448x128, .f32⟩
  | .hbm, ⟨98, _⟩ => ⟨S1024x2560, .bf16⟩
  | .hbm, ⟨99, _⟩ => ⟨S1024x256, .bf16⟩
  | .hbm, ⟨100, _⟩ => ⟨S1024x768, .bf16⟩
  | .hbm, ⟨101, _⟩ => ⟨S1024x768, .bf16⟩
  | .hbm, ⟨102, _⟩ => ⟨S1024x768, .bf16⟩
  | .hbm, ⟨103, _⟩ => ⟨S128, .f32⟩
  | .hbm, ⟨104, _⟩ => ⟨S1x128, .f32⟩
  | .hbm, ⟨105, _⟩ => ⟨S128, .f32⟩
  | .hbm, ⟨106, _⟩ => ⟨S1x128, .f32⟩
  | .hbm, ⟨107, _⟩ => ⟨S1x1024, .f32⟩
  | .hbm, ⟨108, _⟩ => ⟨S8x8448x256, .f32⟩
  | .hbm, ⟨109, _⟩ => ⟨S8x8448x768, .bf16⟩
  | .hbm, ⟨110, _⟩ => ⟨S8x8448x768, .bf16⟩
  | .hbm, ⟨111, _⟩ => ⟨S8x8448x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1024x256, .bf16⟩
  | .local _ .vmem, ⟨10, _⟩ => ⟨S1024x768, .bf16⟩
  | .local _ .vmem, ⟨11, _⟩ => ⟨S1x128, .f32⟩
  | .local _ .vmem, ⟨12, _⟩ => ⟨S1024x768, .bf16⟩
  | .local _ .vmem, ⟨13, _⟩ => ⟨S1x128, .f32⟩
  | .local _ .vmem, ⟨14, _⟩ => ⟨S1024x768, .bf16⟩
  | .local _ .vmem, ⟨15, _⟩ => ⟨S1x256x256, .f32⟩
  | .local _ .vmem, ⟨16, _⟩ => ⟨S1x256x256, .f32⟩
  | .local _ .vmem, ⟨17, _⟩ => ⟨S1x256x768, .bf16⟩
  | .local _ .vmem, ⟨18, _⟩ => ⟨S1x256x768, .bf16⟩
  | .local _ .vmem, ⟨19, _⟩ => ⟨S1x256x768, .bf16⟩
  | .local _ .vmem, ⟨20, _⟩ => ⟨S1x256x768, .bf16⟩
  | .local _ .vmem, ⟨21, _⟩ => ⟨S1x256x768, .bf16⟩
  | .local _ .vmem, ⟨22, _⟩ => ⟨S1x256x768, .bf16⟩
  | _, _ => ⟨S8x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst : Ref sig .tc := ⟨.hbm, 53, rfl⟩
abbrev main_v9 : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_2 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_3 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60_0 : Ref sig .tc := ⟨.hbm, 108, rfl⟩
abbrev main_v60_1 : Ref sig .tc := ⟨.hbm, 109, rfl⟩
abbrev main_v60_2 : Ref sig .tc := ⟨.hbm, 110, rfl⟩
abbrev main_v60_3 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x8448x1024 : Shape := ⟨3, ![8, 8448, 1024]⟩
abbrev S8x2x6x1024 : Shape := ⟨4, ![8, 2, 6, 1024]⟩
abbrev S1024 : Shape := ⟨1, ![1024]⟩
abbrev S1024x2560 : Shape := ⟨2, ![1024, 2560]⟩
abbrev S64 : Shape := ⟨1, ![64]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S16 : Shape := ⟨1, ![16]⟩
abbrev S8192x2x1 : Shape := ⟨3, ![8192, 2, 1]⟩
abbrev S1x1x16 : Shape := ⟨3, ![1, 1, 16]⟩
abbrev S8192x2x16 : Shape := ⟨3, ![8192, 2, 16]⟩
abbrev S8x8448 : Shape := ⟨2, ![8, 8448]⟩
abbrev S8x8448x1 : Shape := ⟨3, ![8, 8448, 1]⟩
abbrev S1x1x1024 : Shape := ⟨3, ![1, 1, 1024]⟩
abbrev S8x256x1024 : Shape := ⟨3, ![8, 256, 1024]⟩
abbrev S8x1x6x1024 : Shape := ⟨4, ![8, 1, 6, 1024]⟩
abbrev S8x6x1024 : Shape := ⟨3, ![8, 6, 1024]⟩
abbrev S8x1x1024 : Shape := ⟨3, ![8, 1, 1024]⟩
abbrev S8x1024 : Shape := ⟨2, ![8, 1024]⟩
abbrev S8x8192x1024 : Shape := ⟨3, ![8, 8192, 1024]⟩
abbrev S8x8448x2560 : Shape := ⟨3, ![8, 8448, 2560]⟩
abbrev S8x8448x768 : Shape := ⟨3, ![8, 8448, 768]⟩
abbrev S8x8448x12x64 : Shape := ⟨4, ![8, 8448, 12, 64]⟩
abbrev S8x12x8448x64 : Shape := ⟨4, ![8, 12, 8448, 64]⟩
abbrev S8x12x8448 : Shape := ⟨3, ![8, 12, 8448]⟩
abbrev S8x12x8448x1 : Shape := ⟨4, ![8, 12, 8448, 1]⟩
abbrev S1x1x1x64 : Shape := ⟨4, ![1, 1, 1, 64]⟩
abbrev S8x12x256x64 : Shape := ⟨4, ![8, 12, 256, 64]⟩
abbrev S8x12x8192x64 : Shape := ⟨4, ![8, 12, 8192, 64]⟩
abbrev S8x12x8192x2x2x16 : Shape := ⟨6, ![8, 12, 8192, 2, 2, 16]⟩
abbrev S8x12x8192x2x1x16 : Shape := ⟨6, ![8, 12, 8192, 2, 1, 16]⟩
abbrev S8x12x8192x2x16 : Shape := ⟨5, ![8, 12, 8192, 2, 16]⟩
abbrev S1x1x8192x2x16 : Shape := ⟨5, ![1, 1, 8192, 2, 16]⟩
abbrev S8x8448x256 : Shape := ⟨3, ![8, 8448, 256]⟩

abbrev nBuf : Space → Nat
  | .hbm => 218
  | .vmem => 0
  | .smem => 0
  | _ => 0

abbrev hbmTy0_0 (i : Nat) : BufTy := match i % 128 with
  | 0 => ⟨S8x8448x1024, .f32⟩
  | 1 => ⟨S8x2x6x1024, .f32⟩
  | 2 => ⟨S1024, .f32⟩
  | 3 => ⟨S1024x2560, .f32⟩
  | 4 => ⟨S64, .f32⟩
  | 5 => ⟨S64, .f32⟩
  | 6 => ⟨S8192, .i32⟩
  | 7 => ⟨S_, .i32⟩
  | 8 => ⟨S_, .i32⟩
  | 9 => ⟨S8192, .i32⟩
  | 10 => ⟨S8192, .i32⟩
  | 11 => ⟨S8192, .i32⟩
  | 12 => ⟨S_, .i32⟩
  | 13 => ⟨S8192, .i32⟩
  | 14 => ⟨S8192, .i1⟩
  | 15 => ⟨S8192, .i32⟩
  | 16 => ⟨S8192, .i32⟩
  | 17 => ⟨S_, .i32⟩
  | 18 => ⟨S8192, .i32⟩
  | 19 => ⟨S8192, .i1⟩
  | 20 => ⟨S8192, .i1⟩
  | 21 => ⟨S_, .i32⟩
  | 22 => ⟨S8192, .i32⟩
  | 23 => ⟨S8192, .i32⟩
  | 24 => ⟨S8192, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i1⟩
  | 39 => ⟨S_, .i32⟩
  | 40 => ⟨S_, .i1⟩
  | 41 => ⟨S8192, .i1⟩
  | 42 => ⟨S8192, .i1⟩
  | 43 => ⟨S8192, .i1⟩
  | 44 => ⟨S8192, .i32⟩
  | 45 => ⟨S8192, .i32⟩
  | 46 => ⟨S8192, .i32⟩
  | 47 => ⟨S8192x1, .i32⟩
  | 48 => ⟨S8192x1, .i32⟩
  | 49 => ⟨S8192x2, .i32⟩
  | 50 => ⟨S8192x2, .f32⟩
  | 51 => ⟨S16, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S8192x2x1, .f32⟩
  | 60 => ⟨S1x1x16, .f32⟩
  | 61 => ⟨S8192x2x16, .f32⟩
  | 62 => ⟨S8192x2x16, .f32⟩
  | 63 => ⟨S8192x2x16, .f32⟩
  | 64 => ⟨S8192x2x16, .f32⟩
  | 65 => ⟨S8192x2x16, .f32⟩
  | 66 => ⟨S8x8448x1024, .f32⟩
  | 67 => ⟨S_, .f32⟩
  | 68 => ⟨S8x8448, .f32⟩
  | 69 => ⟨S8x8448x1, .f32⟩
  | 70 => ⟨S_, .f32⟩
  | 71 => ⟨S8x8448x1, .f32⟩
  | 72 => ⟨S8x8448x1, .f32⟩
  | 73 => ⟨S_, .f32⟩
  | 74 => ⟨S8x8448x1, .f32⟩
  | 75 => ⟨S8x8448x1, .f32⟩
  | 76 => ⟨S8x8448x1, .f32⟩
  | 77 => ⟨S8x8448x1024, .f32⟩
  | 78 => ⟨S8x8448x1024, .f32⟩
  | 79 => ⟨S1x1x1024, .f32⟩
  | 80 => ⟨S8x8448x1024, .f32⟩
  | 81 => ⟨S8x8448x1024, .f32⟩
  | 82 => ⟨S8x256x1024, .f32⟩
  | 83 => ⟨S8x1x6x1024, .f32⟩
  | 84 => ⟨S8x6x1024, .f32⟩
  | 85 => ⟨S8x1x1024, .f32⟩
  | 86 => ⟨S8x1024, .f32⟩
  | 87 => ⟨S8x1x1024, .f32⟩
  | 88 => ⟨S_, .f32⟩
  | 89 => ⟨S8x1x1024, .f32⟩
  | 90 => ⟨S8x1x1024, .f32⟩
  | 91 => ⟨S8x256x1024, .f32⟩
  | 92 => ⟨S8x256x1024, .f32⟩
  | 93 => ⟨S8x1x1024, .f32⟩
  | 94 => ⟨S8x1024, .f32⟩
  | 95 => ⟨S8x1x1024, .f32⟩
  | 96 => ⟨S8x256x1024, .f32⟩
  | 97 => ⟨S8x256x1024, .f32⟩
  | 98 => ⟨S8x8192x1024, .f32⟩
  | 99 => ⟨S8x1x6x1024, .f32⟩
  | 100 => ⟨S8x6x1024, .f32⟩
  | 101 => ⟨S8x1x1024, .f32⟩
  | 102 => ⟨S8x1024, .f32⟩
  | 103 => ⟨S8x1x1024, .f32⟩
  | 104 => ⟨S_, .f32⟩
  | 105 => ⟨S8x1x1024, .f32⟩
  | 106 => ⟨S8x1x1024, .f32⟩
  | 107 => ⟨S8x8192x1024, .f32⟩
  | 108 => ⟨S8x8192x1024, .f32⟩
  | 109 => ⟨S8x1x1024, .f32⟩
  | 110 => ⟨S8x1024, .f32⟩
  | 111 => ⟨S8x1x1024, .f32⟩
  | 112 => ⟨S8x8192x1024, .f32⟩
  | 113 => ⟨S8x8192x1024, .f32⟩
  | 114 => ⟨S8x8448x1024, .f32⟩
  | 115 => ⟨S8x8448x2560, .f32⟩
  | 116 => ⟨S8x8448x768, .f32⟩
  | 117 => ⟨S8x8448x12x64, .f32⟩
  | 118 => ⟨S8x12x8448x64, .f32⟩
  | 119 => ⟨S8x12x8448x64, .f32⟩
  | 120 => ⟨S_, .f32⟩
  | 121 => ⟨S8x12x8448, .f32⟩
  | 122 => ⟨S8x12x8448x1, .f32⟩
  | 123 => ⟨S_, .f32⟩
  | 124 => ⟨S8x12x8448x1, .f32⟩
  | 125 => ⟨S8x12x8448x1, .f32⟩
  | 126 => ⟨S_, .f32⟩
  | 127 => ⟨S8x12x8448x1, .f32⟩
  | _ => ⟨S8x8448x1024, .f32⟩

abbrev hbmTy0_1 (i : Nat) : BufTy := match i % 128 with
  | 0 => ⟨S8x12x8448x1, .f32⟩
  | 1 => ⟨S8x12x8448x1, .f32⟩
  | 2 => ⟨S8x12x8448x64, .f32⟩
  | 3 => ⟨S8x12x8448x64, .f32⟩
  | 4 => ⟨S1x1x1x64, .f32⟩
  | 5 => ⟨S8x12x8448x64, .f32⟩
  | 6 => ⟨S8x12x8448x64, .f32⟩
  | 7 => ⟨S8x12x256x64, .f32⟩
  | 8 => ⟨S8x12x8192x64, .f32⟩
  | 9 => ⟨S8x12x8192x2x2x16, .f32⟩
  | 10 => ⟨S8x12x8192x2x1x16, .f32⟩
  | 11 => ⟨S8x12x8192x2x16, .f32⟩
  | 12 => ⟨S8x12x8192x2x1x16, .f32⟩
  | 13 => ⟨S8x12x8192x2x16, .f32⟩
  | 14 => ⟨S1x1x8192x2x16, .f32⟩
  | 15 => ⟨S8x12x8192x2x16, .f32⟩
  | 16 => ⟨S8x12x8192x2x16, .f32⟩
  | 17 => ⟨S1x1x8192x2x16, .f32⟩
  | 18 => ⟨S8x12x8192x2x16, .f32⟩
  | 19 => ⟨S8x12x8192x2x16, .f32⟩
  | 20 => ⟨S8x12x8192x2x16, .f32⟩
  | 21 => ⟨S1x1x8192x2x16, .f32⟩
  | 22 => ⟨S8x12x8192x2x16, .f32⟩
  | 23 => ⟨S8x12x8192x2x16, .f32⟩
  | 24 => ⟨S1x1x8192x2x16, .f32⟩
  | 25 => ⟨S8x12x8192x2x16, .f32⟩
  | 26 => ⟨S8x12x8192x2x16, .f32⟩
  | 27 => ⟨S8x12x8192x2x16, .f32⟩
  | 28 => ⟨S8x12x8192x2x1x16, .f32⟩
  | 29 => ⟨S8x12x8192x2x1x16, .f32⟩
  | 30 => ⟨S8x12x8192x2x2x16, .f32⟩
  | 31 => ⟨S8x12x8192x64, .f32⟩
  | 32 => ⟨S8x12x8448x64, .f32⟩
  | 33 => ⟨S8x8448x12x64, .f32⟩
  | 34 => ⟨S8x8448x768, .f32⟩
  | 35 => ⟨S_, .f32⟩
  | 36 => ⟨S8x8448x768, .f32⟩
  | 37 => ⟨S8x8448x768, .f32⟩
  | 38 => ⟨S8x8448x768, .f32⟩
  | 39 => ⟨S8x8448x12x64, .f32⟩
  | 40 => ⟨S8x12x8448x64, .f32⟩
  | 41 => ⟨S8x12x8448x64, .f32⟩
  | 42 => ⟨S_, .f32⟩
  | 43 => ⟨S8x12x8448, .f32⟩
  | 44 => ⟨S8x12x8448x1, .f32⟩
  | 45 => ⟨S_, .f32⟩
  | 46 => ⟨S8x12x8448x1, .f32⟩
  | 47 => ⟨S8x12x8448x1, .f32⟩
  | 48 => ⟨S_, .f32⟩
  | 49 => ⟨S8x12x8448x1, .f32⟩
  | 50 => ⟨S8x12x8448x1, .f32⟩
  | 51 => ⟨S8x12x8448x1, .f32⟩
  | 52 => ⟨S8x12x8448x64, .f32⟩
  | 53 => ⟨S8x12x8448x64, .f32⟩
  | 54 => ⟨S1x1x1x64, .f32⟩
  | 55 => ⟨S8x12x8448x64, .f32⟩
  | 56 => ⟨S8x12x8448x64, .f32⟩
  | 57 => ⟨S8x12x256x64, .f32⟩
  | 58 => ⟨S8x12x8192x64, .f32⟩
  | 59 => ⟨S8x12x8192x2x2x16, .f32⟩
  | 60 => ⟨S8x12x8192x2x1x16, .f32⟩
  | 61 => ⟨S8x12x8192x2x16, .f32⟩
  | 62 => ⟨S8x12x8192x2x1x16, .f32⟩
  | 63 => ⟨S8x12x8192x2x16, .f32⟩
  | 64 => ⟨S1x1x8192x2x16, .f32⟩
  | 65 => ⟨S8x12x8192x2x16, .f32⟩
  | 66 => ⟨S8x12x8192x2x16, .f32⟩
  | 67 => ⟨S1x1x8192x2x16, .f32⟩
  | 68 => ⟨S8x12x8192x2x16, .f32⟩
  | 69 => ⟨S8x12x8192x2x16, .f32⟩
  | 70 => ⟨S8x12x8192x2x16, .f32⟩
  | 71 => ⟨S1x1x8192x2x16, .f32⟩
  | 72 => ⟨S8x12x8192x2x16, .f32⟩
  | 73 => ⟨S8x12x8192x2x16, .f32⟩
  | 74 => ⟨S1x1x8192x2x16, .f32⟩
  | 75 => ⟨S8x12x8192x2x16, .f32⟩
  | 76 => ⟨S8x12x8192x2x16, .f32⟩
  | 77 => ⟨S8x12x8192x2x16, .f32⟩
  | 78 => ⟨S8x12x8192x2x1x16, .f32⟩
  | 79 => ⟨S8x12x8192x2x1x16, .f32⟩
  | 80 => ⟨S8x12x8192x2x2x16, .f32⟩
  | 81 => ⟨S8x12x8192x64, .f32⟩
  | 82 => ⟨S8x12x8448x64, .f32⟩
  | 83 => ⟨S8x8448x12x64, .f32⟩
  | 84 => ⟨S8x8448x768, .f32⟩
  | 85 => ⟨S8x8448x256, .f32⟩
  | 86 => ⟨S8x8448x768, .bf16⟩
  | 87 => ⟨S8x8448x768, .bf16⟩
  | 88 => ⟨S8x8448x768, .f32⟩
  | 89 => ⟨S8x8448x768, .bf16⟩
  | _ => ⟨S8x8448x1024, .f32⟩

abbrev hbmTy (i : Nat) : BufTy := match i / 128 with
  | 0 => hbmTy0_0 i
  | 1 => hbmTy0_1 i
  | _ => ⟨S8x8448x1024, .f32⟩

abbrev bufTy : (tb : Table) → Fin (tcTables nBuf tb) → BufTy
  | .hbm, ⟨i, _⟩ => hbmTy i
  | _, _ => ⟨S8x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst : Ref sig .tc := ⟨.hbm, 53, rfl⟩
abbrev main_v9 : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_2 : Ref sig .tc := ⟨.hbm, 67, rfl⟩
abbrev main_v21 : Ref sig .tc := ⟨.hbm, 68, rfl⟩
abbrev main_v22 : Ref sig .tc := ⟨.hbm, 69, rfl⟩
abbrev main_cst_3 : Ref sig .tc := ⟨.hbm, 70, rfl⟩
abbrev main_v23 : Ref sig .tc := ⟨.hbm, 71, rfl⟩
abbrev main_v24 : Ref sig .tc := ⟨.hbm, 72, rfl⟩
abbrev main_cst_4 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_5 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_6 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_7 : Ref sig .tc := ⟨.hbm, 120, rfl⟩
abbrev main_v69 : Ref sig .tc := ⟨.hbm, 121, rfl⟩
abbrev main_v70 : Ref sig .tc := ⟨.hbm, 122, rfl⟩
abbrev main_cst_8 : Ref sig .tc := ⟨.hbm, 123, rfl⟩
abbrev main_v71 : Ref sig .tc := ⟨.hbm, 124, rfl⟩
abbrev main_v72 : Ref sig .tc := ⟨.hbm, 125, rfl⟩
abbrev main_cst_9 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_10 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_cst_11 : Ref sig .tc := ⟨.hbm, 170, rfl⟩
abbrev main_v115 : Ref sig .tc := ⟨.hbm, 171, rfl⟩
abbrev main_v116 : Ref sig .tc := ⟨.hbm, 172, rfl⟩
abbrev main_cst_12 : Ref sig .tc := ⟨.hbm, 173, rfl⟩
abbrev main_v117 : Ref sig .tc := ⟨.hbm, 174, rfl⟩
abbrev main_v118 : Ref sig .tc := ⟨.hbm, 175, rfl⟩
abbrev main_cst_13 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩

abbrev nD : Nat := 1
abbrev τ : Topo := Topo.v7x

variable {F : FTy → Type} [FloatOps F]
-- ==== Proof.Softmax.lean ====
/-
  Softmax averages over the extended reals.

  `soft s v n` is the average of the values `v 0 … v (n-1)` with the softmax weights of the real scores
  `s 0 … s (n-1)`. This file proves that two ways of computing it agree with it:

  * the ONLINE way, which meets the keys in chunks and carries a shift, the sum of the exponentials and the weighted
    sum (`Online`): a chunk keeps the invariant whatever real number the new shift is (`Online.step`), and the quotient
    at the end is the average (`Online.div_eq`);
  * the TEXTBOOK way, which subtracts one shift from all the scores, exponentiates, divides by the sum and multiplies
    (`soft_of_shift`).

  Scores are real numbers; the values may be any extended reals.
-/
module

public import Mathlib.Data.EReal.Operations
public import Mathlib.Analysis.SpecialFunctions.Exp
public import Idealize.ShloMosaic.PureOps.Ideal
public import Idealize.ShloMosaic.PureOps.Ideal.Laws

@[expose] public section

noncomputable section

namespace Cert.Softmax

open Idealize.ShloMosaic
open Finset (range)

/-! ## Sums of extended reals -/

/-- A nonnegative real factor moves into a sum of extended reals. -/
theorem mul_sum_coe {ι : Type*} (A : Finset ι) (c : ℝ) (hc : 0 ≤ c) (f : ι → EReal) :
    (c : EReal) * ∑ k ∈ A, f k = ∑ k ∈ A, (c : EReal) * f k := by
  classical
  induction A using Finset.induction_on with
  | empty => simp
  | insert i A hi ih =>
    rw [Finset.sum_insert hi, Finset.sum_insert hi,
      EReal.left_distrib_of_nonneg_of_ne_top (by exact_mod_cast hc) (EReal.coe_ne_top c), ih]

/-- A sum of real numbers, read as an extended real. -/
theorem coe_sum {ι : Type*} (A : Finset ι) (f : ι → ℝ) : ((∑ k ∈ A, f k : ℝ) : EReal) = ∑ k ∈ A, (f k : EReal) := by
  classical
  induction A using Finset.induction_on with
  | empty => simp
  | insert i A hi ih => rw [Finset.sum_insert hi, Finset.sum_insert hi, EReal.coe_add, ih]

/-- The greatest of finitely many real numbers, taken from minus infinity, is a real number when there is one at all. -/
theorem fold_max_real {ι : Type*} (A : Finset ι) (hA : A.Nonempty) (f : ι → EReal) (hf : ∀ k, ∃ x : ℝ, f k = x) :
    ∃ x : ℝ, A.fold max (⊥ : EReal) f = x := by
  classical
  induction hA using Finset.Nonempty.cons_induction with
  | singleton a =>
    obtain ⟨x, hx⟩ := hf a
    exact ⟨x, by rw [Finset.fold_singleton, hx]; exact max_eq_left bot_le⟩
  | cons a A h _ ih =>
    obtain ⟨x, hx⟩ := hf a
    obtain ⟨y, hy⟩ := ih
    exact ⟨max x y, by rw [Finset.fold_cons, hx, hy]; exact (EReal.coe_strictMono.monotone.map_max).symm⟩

/-! ## The average -/

/-- The softmax weight of key `k` among the first `n`. -/
def weight (s : ℕ → ℝ) (n k : ℕ) : ℝ := Real.exp (s k) / ∑ j ∈ range n, Real.exp (s j)

/-- The softmax average of the first `n` values. -/
def soft (s : ℕ → ℝ) (v : ℕ → EReal) (n : ℕ) : EReal := ∑ k ∈ range n, (weight s n k : EReal) * v k

theorem sum_exp_pos (s : ℕ → ℝ) (M : ℝ) {n : ℕ} (hn : 0 < n) : 0 < ∑ j ∈ range n, Real.exp (s j - M) :=
  Finset.sum_pos (fun _ _ => Real.exp_pos _) (Finset.nonempty_range_iff.mpr hn.ne')

/-- A shift of the scores cancels in the weights. -/
theorem weight_shift (s : ℕ → ℝ) (n k : ℕ) (M : ℝ) :
    Real.exp (s k - M) / ∑ j ∈ range n, Real.exp (s j - M) = weight s n k := by
  unfold weight
  have e : ∀ j, Real.exp (s j - M) = Real.exp (s j) * Real.exp (-M) := fun j => by rw [← Real.exp_add]; ring_nf
  simp only [e]
  rw [← Finset.sum_mul, mul_div_mul_right _ _ (Real.exp_pos _).ne']

/-- The textbook way: shifted scores, exponentials, each divided by the sum, times the values. -/
theorem soft_of_shift (s : ℕ → ℝ) (v : ℕ → EReal) {n : ℕ} (hn : 0 < n) (M : ℝ) :
    ∑ k ∈ range n, Ideal.div (Ideal.exp ((s k : EReal) - M)) (0 + ∑ j ∈ range n, Ideal.exp ((s j : EReal) - M)) * v k
      = soft s v n := by
  have e : ∀ j, Ideal.exp ((s j : EReal) - M) = ((Real.exp (s j - M) : ℝ) : EReal) := fun j => by
    rw [← EReal.coe_sub, Ideal.exp_coe]
  simp only [e, zero_add, ← coe_sum]
  refine Finset.sum_congr rfl fun k _ => ?_
  rw [Ideal.div_coe (sum_exp_pos s M hn).ne', ← EReal.coe_mul, mul_one_div, weight_shift]

/-! ## The online way -/

/-- What is carried for one row after its first `n` keys: a real shift `M`, the sum of the exponentials of the shifted
    scores, and, in every column, their sum weighted by the values. -/
def Online {C : Type*} (s : ℕ → ℝ) (v : ℕ → C → EReal) (n : ℕ) (m l : EReal) (a : C → EReal) : Prop :=
  ∃ M : ℝ, m = M ∧ l = ((∑ k ∈ range n, Real.exp (s k - M) : ℝ) : EReal)
    ∧ ∀ d, a d = ∑ k ∈ range n, ((Real.exp (s k - M) : ℝ) : EReal) * v k d

variable {C : Type*} {s : ℕ → ℝ} {v : ℕ → C → EReal} {n : ℕ} {m l : EReal} {a : C → EReal}

/-- Before any key: a real shift, and nothing summed. -/
theorem Online.init (M : ℝ) (hm : m = M) (hl : l = 0) (ha : ∀ d, a d = 0) : Online s v 0 m l a :=
  ⟨M, hm, by simpa using hl, fun d => by simpa using ha d⟩

/-- One chunk of `T` keys: the shift moves to the greater of itself and the chunk's greatest score, what was summed is
    rescaled, and the chunk's exponentials are added. -/
theorem Online.step {T : ℕ} (hT : 0 < T) (h : Online s v n m l a) (t : Fin T → EReal) (w : Fin T → C → EReal)
    (ht : ∀ j, t j = (s (n + j.val) : EReal)) (hw : ∀ j d, w j d = v (n + j.val) d) {m' l' : EReal} {a' : C → EReal}
    (hm' : m' = max m ((Finset.univ : Finset (Fin T)).fold max (⊥ : EReal) t))
    (hl' : l' = Ideal.exp (m - m') * l + ∑ j, Ideal.exp (t j - m'))
    (ha' : ∀ d, a' d = Ideal.exp (m - m') * a d + ∑ j, Ideal.exp (t j - m') * w j d) :
    Online s v (n + T) m' l' a' := by
  obtain ⟨M, rfl, rfl, ha⟩ := h
  haveI : Nonempty (Fin T) := ⟨⟨0, hT⟩⟩
  obtain ⟨x, hx⟩ := fold_max_real (Finset.univ : Finset (Fin T)) Finset.univ_nonempty t fun j => ⟨_, ht j⟩
  obtain ⟨M', rfl⟩ : ∃ M' : ℝ, m' = M' := ⟨max M x, by rw [hm', hx]; exact (EReal.coe_strictMono.monotone.map_max).symm⟩
  have eα : Ideal.exp ((M : EReal) - M') = ((Real.exp (M - M') : ℝ) : EReal) := by rw [← EReal.coe_sub, Ideal.exp_coe]
  have et : ∀ j : Fin T, Ideal.exp (t j - M') = ((Real.exp (s (n + j.val) - M') : ℝ) : EReal) := fun j => by
    rw [ht, ← EReal.coe_sub, Ideal.exp_coe]
  have ek : ∀ k, Real.exp (M - M') * Real.exp (s k - M) = Real.exp (s k - M') := fun k => by
    rw [← Real.exp_add]; ring_nf
  refine ⟨M', rfl, ?_, fun d => ?_⟩
  · rw [hl', eα, ← EReal.coe_mul, Finset.sum_congr rfl fun j _ => et j, ← coe_sum, ← EReal.coe_add, Finset.sum_range_add,
      Finset.mul_sum]
    simp only [ek, Finset.sum_range]
  · rw [ha', eα, ha, mul_sum_coe _ _ (Real.exp_pos _).le, Finset.sum_range_add]
    congr 1
    · exact Finset.sum_congr rfl fun k _ => by rw [← mul_assoc, ← EReal.coe_mul, ek]
    · rw [Finset.sum_range]
      exact Finset.sum_congr rfl fun j _ => by rw [et, hw]

/-- At the end the weighted sum divided by the sum is the softmax average. -/
theorem Online.div_eq (h : Online s v n m l a) (hn : 0 < n) (d : C) : Ideal.div (a d) l = soft s (fun k => v k d) n := by
  obtain ⟨M, rfl, rfl, ha⟩ := h
  have hp := sum_exp_pos s M hn
  rw [Ideal.div_coe hp.ne', ha, mul_comm, mul_sum_coe _ _ (one_div_pos.mpr hp).le]
  refine Finset.sum_congr rfl fun k _ => ?_
  rw [← mul_assoc, ← EReal.coe_mul, mul_comm (1 / _) _, mul_one_div, weight_shift]

/-- An average of real values is a real number. -/
theorem soft_real (s : ℕ → ℝ) (v : ℕ → ℝ) (n : ℕ) :
    soft s (fun k => (v k : EReal)) n = ((∑ k ∈ range n, weight s n k * v k : ℝ) : EReal) := by
  unfold soft
  rw [coe_sum]
  exact Finset.sum_congr rfl fun k _ => (EReal.coe_mul _ _).symm

end Cert.Softmax

end
-- ==== Proof.Tile.lean ====
/-
  Rows of a tile, read at an index: the row maximum, the row sum, a column broadcast along the rows, and the two matrix
  products an attention tile computes. Then one chunk of the online softmax over a whole tile of rows, in the vector
  operations the kernels use (`tile_step`): the invariant of every row (`Cert.Softmax.Online`) moves on by the chunk.
-/
module

public import proofs.«01_k».proof.Proof.Softmax
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Tile

open Idealize.ShloMosaic Idealize.ShloMosaic.ValueIdx Cert.Softmax

/-- The float word of minus infinity is the least extended real. -/
theorem ofBits_neg_inf : Ideal.ofBits .f32 0xFF800000#32 = ⊥ := by simp [Ideal.ofBits, Ideal.ieee]

/-- A row's maximum, kept as a column. -/
theorem rowMax_apply {R T : ℕ} (S : FVec Ideal ⟨2, ![R, T]⟩ .f32) (h : (⟨2, ![R, T]⟩ : Shape).Reduces [1] ⟨1, ![R]⟩)
    (hφ : FKind.Formats .f32) (hacc : 0xFF800000#32 = FKind.maximumf.neutral .f32 hφ)
    (hc : (⟨1, ![R]⟩ : Shape).ShapeCasts ⟨2, ![R, 1]⟩) (r : Fin R) (u : Fin 1) :
    shapeCast ⟨2, ![R, 1]⟩ (multiReduction .maximumf [1] ⟨1, ![R]⟩ S 0xFF800000#32 h hφ hacc) hc (ix2 r u)
      = (Finset.univ : Finset (Fin T)).fold max (⊥ : EReal) fun k => S (ix2 r k) := by
  rw [shapeCast_a_a1_apply, Ideal.multiReduction_maximumf_single]
  have e : (S ∘ h.lift (ix1 r)) = fun k : Fin T => S (ix2 r k) := funext fun k => congrArg S (funext fun a => by
    apply Fin.ext
    match a with
    | ⟨0, _⟩ => rfl
    | ⟨1, _⟩ => rfl)
  rw [e]
  show Finset.fold max (Ideal.ofBits .f32 0xFF800000#32) _ _ = _
  rw [ofBits_neg_inf]
  rfl

/-- A row's sum. -/
theorem rowSum_apply {R T : ℕ} (S : FVec Ideal ⟨2, ![R, T]⟩ .f32) (acc : BitVec FTy.f32.bits) (h : (⟨2, ![R, T]⟩ : Shape).Reduces [1] ⟨1, ![R]⟩)
    (hφ : FKind.Formats .f32) (hacc : acc = FKind.add.neutral .f32 hφ) (r : Fin R) :
    multiReduction .add [1] ⟨1, ![R]⟩ S acc h hφ hacc (ix1 r) = ∑ k : Fin T, (S (ix2 r k) : EReal) := by
  rw [Ideal.multiReduction_add_single]
  refine Finset.sum_congr rfl fun k _ => congrArg S (funext fun a => ?_)
  apply Fin.ext
  match a with
  | ⟨0, _⟩ => rfl
  | ⟨1, _⟩ => rfl

/-- A column broadcast along the rows reads the column. -/
theorem broadcastCol_apply {α : Type} {R T : ℕ} (x : (⟨2, ![R, 1]⟩ : Shape).Idx → α) (h : (⟨2, ![R, 1]⟩ : Shape).Broadcasts ⟨2, ![R, T]⟩)
    (r : Fin R) (k : Fin T) : broadcastTo ⟨2, ![R, T]⟩ x h (ix2 r k) = x (ix2 r (0 : Fin 1)) := by
  refine broadcastTo_apply x h (ix2 r k) (ix2 r (0 : Fin 1)) fun a => ?_
  match a with
  | ⟨0, _⟩ =>
    show r.val = if R = 1 then 0 else r.val
    split
    · have := r.isLt; omega
    · rfl
  | ⟨1, _⟩ => rfl

/-- A product with the right operand contracted on its last axis, into zeros. -/
theorem matmulNT_apply {M K N : ℕ} {φ₁ φ₂ : FTy} (d : DotDims ⟨2, ![M, K]⟩ ⟨2, ![N, K]⟩ ⟨2, ![M, N]⟩)
    (hd : d = DotDims.transposedRhs M K N) (lhs : FVec Ideal ⟨2, ![M, K]⟩ φ₁) (rhs : FVec Ideal ⟨2, ![N, K]⟩ φ₂) (r : Fin M) (c : Fin N) :
    matmul d none lhs rhs (constant ⟨2, ![M, N]⟩ .f32 0x00000000#32) (ix2 r c) = ∑ k : Fin K, lhs (ix2 r k) * rhs (ix2 c k) := by
  subst hd
  refine (Ideal.matmul_transposedRhs_apply none lhs rhs _ r c).trans ?_
  rw [constant_apply, Ideal.ofBits_zero_f32, zero_add]

/-- A plain matrix product, into zeros. -/
theorem matmulNN_apply {M K N : ℕ} {φ₁ φ₂ : FTy} (d : DotDims ⟨2, ![M, K]⟩ ⟨2, ![K, N]⟩ ⟨2, ![M, N]⟩)
    (hd : d = DotDims.plain M K N) (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c) = ∑ k : Fin K, lhs (ix2 r k) * rhs (ix2 k c) := by
  subst hd
  refine (Ideal.matmul_plain_apply none lhs rhs _ r c).trans ?_
  rw [constant_apply, Ideal.ofBits_zero_f32, zero_add]

/-- What is carried for every row of a tile (shift, sum, weighted sums) is the online state of its first `n` keys. -/
def Rows {R C : ℕ} (s : Fin R → ℕ → ℝ) (v : ℕ → Fin C → EReal) (n : ℕ) (m l : FVec Ideal ⟨2, ![R, 1]⟩ .f32)
    (a : FVec Ideal ⟨2, ![R, C]⟩ .f32) : Prop :=
  ∀ r, Online (s r) v n (m (ix2 r (0 : Fin 1))) (l (ix2 r (0 : Fin 1))) fun d => a (ix2 r d)

/-- One chunk of `T` keys for a whole tile of rows, in the vector operations of a kernel. -/
theorem tile_step {R T C n : ℕ} (hT : 0 < T) {s : Fin R → ℕ → ℝ} {v : ℕ → Fin C → EReal} {m l : FVec Ideal ⟨2, ![R, 1]⟩ .f32}
    {a : FVec Ideal ⟨2, ![R, C]⟩ .f32} (h : Rows s v n m l a) (S : FVec Ideal ⟨2, ![R, T]⟩ .f32) (w : FVec Ideal ⟨2, ![T, C]⟩ .bf16)
    (hS : ∀ r (j : Fin T), S (ix2 r j) = (s r (n + j.val) : EReal)) (hw : ∀ (j : Fin T) d, w (ix2 j d) = v (n + j.val) d)
    (hr : (⟨2, ![R, T]⟩ : Shape).Reduces [1] ⟨1, ![R]⟩) (hφ : FKind.Formats .f32)
    (hmax : 0xFF800000#32 = FKind.maximumf.neutral .f32 hφ) (hadd : 0x00000000#32 = FKind.add.neutral .f32 hφ)
    (hc : (⟨1, ![R]⟩ : Shape).ShapeCasts ⟨2, ![R, 1]⟩) (hb : (⟨2, ![R, 1]⟩ : Shape).Broadcasts ⟨2, ![R, T]⟩)
    (hb' : (⟨2, ![R, 1]⟩ : Shape).Broadcasts ⟨2, ![R, C]⟩) (d : DotDims ⟨2, ![R, T]⟩ ⟨2, ![T, C]⟩ ⟨2, ![R, C]⟩)
    (hd : d = DotDims.plain R T C) (hbits : FTy.bf16.bits < FTy.f32.bits) {m' α l' : FVec Ideal ⟨2, ![R, 1]⟩ .f32} {p : FVec Ideal ⟨2, ![R, T]⟩ .f32}
    {a' : FVec Ideal ⟨2, ![R, C]⟩ .f32}
    (hm' : m' = maximumf m (shapeCast ⟨2, ![R, 1]⟩ (multiReduction .maximumf [1] ⟨1, ![R]⟩ S 0xFF800000#32 hr hφ hmax) hc))
    (hα : α = exp (subf m m')) (hp : p = exp (subf S (broadcastTo ⟨2, ![R, T]⟩ m' hb)))
    (hl' : l' = addf (mulf α l) (shapeCast ⟨2, ![R, 1]⟩ (multiReduction .add [1] ⟨1, ![R]⟩ p 0x00000000#32 hr hφ hadd) hc))
    (ha' : a' = addf (mulf (broadcastTo ⟨2, ![R, C]⟩ α hb') a)
      (matmul d none (truncf .bf16 p hbits) w (constant ⟨2, ![R, C]⟩ .f32 0x00000000#32))) :
    Rows s v (n + T) m' l' a' := by
  intro r
  have ep : ∀ j : Fin T, p (ix2 r j) = Ideal.exp (S (ix2 r j) - m' (ix2 r (0 : Fin 1))) := fun j => by
    rw [hp]
    show Ideal.exp (S (ix2 r j) - broadcastTo ⟨2, ![R, T]⟩ m' hb (ix2 r j)) = _
    rw [broadcastCol_apply]
  have eα : α (ix2 r (0 : Fin 1)) = Ideal.exp (m (ix2 r (0 : Fin 1)) - m' (ix2 r (0 : Fin 1))) := by rw [hα]; rfl
  refine (h r).step hT (fun j => S (ix2 r j)) (fun j d => w (ix2 j d)) (hS r) hw ?_ ?_ fun d => ?_
  · rw [hm', maximumf_apply, rowMax_apply]
  · rw [hl', addf_apply, mulf_apply, shapeCast_a_a1_apply, rowSum_apply, eα]
    exact congrArg _ (Finset.sum_congr rfl fun j _ => ep j)
  · rw [ha', addf_apply, mulf_apply, broadcastCol_apply, matmulNN_apply _ hd, eα]
    exact congrArg _ (Finset.sum_congr rfl fun j _ => by rw [truncf_apply, ep])

end Cert.Tile

end
-- ==== Proof.DiffTrip.lean ====
/-
  The differential attention kernel's loop: one trip takes 512 more keys, and the loop takes a latent tile through all of
  them. A tile's carried buffers (shift, sum, weighted sums) hold the online softmax state of its 512 rows: rows 0–255
  are the queries of the head's first half, rows 256–511 those of its second half.
-/
module

public import proofs.«01_k».proof.Proof.Tile
public import proofs.«01_k».proof.Proof.Gen.KernelIdeal.Loops
public import Idealize.ShloMosaic.Lib.VecWindow
public import Idealize.ShloMosaic.Lib.Tactic
public import Idealize.ShloMosaic.Lib.Pipeline.ValueKit.Tiles

@[expose] public section

noncomputable section

namespace Cert.Diff

open Idealize.ShloMosaic Idealize.ShloMosaic.TcCoe Idealize.SL.Sem Idealize.ShloMosaic.ValueIdx
open Cert.KernelIdeal Cert.KernelIdeal.Gen Cert.Softmax Cert.Tile

/-- A latent tile (any but the first) makes 16 trips, the first tile none. -/
theorem trips1 (i : grid0.Coords) : (k0_t1_loop i).trips = if (i 2).val = 0 then 0 else 16 := by
  have h : ∀ n : Fin 33, (Scf.Loop.trips (⟨0#32, Scalar.addi 0#32 (Scalar.muli (Scalar.divsi (Scalar.subi
      (Scalar.select (Scalar.cmpi .sgt (BitVec.ofNat 32 n.val) 0#32) 16#32 0#32) 0#32) 1#32) 1#32), 1#32⟩ : Scf.Loop 32))
      = if n.val = 0 then 0 else 16 := by decide +kernel
  exact h ⟨(i 2).val, (i 2).isLt⟩

/-- The remainder loop makes no trip. -/
theorem trips2 (i : grid0.Coords) : (k0_t2_loop i).trips = 0 := by
  have h : ∀ n : Fin 33, (Scf.Loop.trips (⟨Scalar.addi 0#32 (Scalar.muli (Scalar.divsi (Scalar.subi
      (Scalar.select (Scalar.cmpi .sgt (BitVec.ofNat 32 n.val) 0#32) 16#32 0#32) 0#32) 1#32) 1#32),
      Scalar.addi 0#32 (Scalar.subi (Scalar.select (Scalar.cmpi .sgt (BitVec.ofNat 32 n.val) 0#32) 16#32 0#32) 0#32), 1#32⟩ : Scf.Loop 32))
      = 0 := by decide +kernel
  exact h ⟨(i 2).val, (i 2).isLt⟩

theorem trip_lt (i : grid0.Coords) (k : Fin (k0_t1_loop i).trips) : k.val < 16 := by
  have h := k.isLt
  have e := trips1 i
  split at e <;> omega

/-- Trip `k` loads the rows from `256 + 512 k`. -/
theorem off1 (i : grid0.Coords) (k : Fin (k0_t1_loop i).trips) : k0_off1 i k = ![0, 256 + 512 * k.val, 0] := by
  have h : ∀ n : Fin 16, (Scalar.indexCast (Scalar.addi 256#32 (Scalar.muli (Scf.iv 0#32 1#32 n.val) 512#32)) : Index).toNat
      = 256 + 512 * n.val := by decide +kernel
  have e := h ⟨k.val, trip_lt i k⟩
  funext a
  match a with
  | ⟨0, _⟩ => rfl
  | ⟨1, _⟩ => exact e
  | ⟨2, _⟩ => rfl

/-- A chunk of 512 rows loaded from row `o` of the keys or values. -/
theorem ld_chunk (x : Vec Ideal S1x8448x128 .bf16) (off : Fin 3 → ℕ) (o : ℕ) (ho : off = ![0, o, 0])
    (inb : ∀ a, off a + (![1, 512, 128] : Fin 3 → ℕ) a ≤ S1x8448x128.size a) (j : Fin 512) (d : Fin 128) (h : o + j.val < 8448) :
    View.ld (S := S1x8448x128) (Val := Elt Ideal) (e' := .bf16) x (Rect.unit off ![1, 512, 128] inb) (ix3 (0 : Fin 1) j d)
      = x (ix3 (0 : Fin 1) ⟨o + j.val, h⟩ d) := by
  subst ho
  rw [View.ld_apply]
  refine congrArg x (funext fun a => Fin.ext ?_)
  match a with
  | ⟨0, _⟩ => rfl
  | ⟨1, _⟩ => show o + 1 * j.val = o + j.val; omega
  | ⟨2, _⟩ => show 0 + 1 * d.val = d.val; omega

section Chunk

variable {s : Fin 512 → ℕ → ℝ} {v : ℕ → Fin 128 → EReal} {n : ℕ}

/-- A trip's arithmetic: 512 keys more for each of the 512 rows. -/
theorem chunk_rows (q : FVec Ideal S512x128 .bf16) (k w : Vec Ideal S1x512x128 .bf16) (m l : Vec Ideal S512x1 .f32)
    (a : Vec Ideal S512x128 .f32)
    (hS : ∀ r (j : Fin 512), ∑ d : Fin 128, (q (ix2 r d) * k (ix3 (0 : Fin 1) j d) : EReal) = (s r (n + j.val) : EReal))
    (hw : ∀ (j : Fin 512) d, w (ix3 (0 : Fin 1) j d) = v (n + j.val) d) (h : Rows s v n m l a) :
    Rows s v (n + 512) (k0_pay27 (k0_pay3 q k m)) (k0_pay6 q k m l) (k0_pay7 q k w m a) := by
  refine tile_step (T := 512) (by decide) h (k0_pay2 q k) (shapeCast S512x128 w shapeCasts_S1x512x128_S512x128) ?_ ?_
    reduces_S512x512_S512 (.inl rfl) rfl rfl shapeCasts_S512_S512x1 broadcasts_S512x1_S512x512 broadcasts_S512x1_S512x128
    dot_S512x512_S512x128_S512x128_1_0_0_1_n_n rfl bitsLt_bf16_f32 (α := k0_pay4 q k m) (p := k0_pay5 q k m) ?_ ?_ ?_ ?_ ?_
  · intro r j
    rw [← hS]
    unfold k0_pay2
    refine (matmulNT_apply _ rfl _ _ r j).trans (Finset.sum_congr rfl fun d _ => ?_)
    rw [shapeCast_1ab_ab_apply]
  · intro j d
    rw [shapeCast_1ab_ab_apply, hw]
  · unfold k0_pay27 k0_pay3
    exact shapeCast_self _ _
  · unfold k0_pay4 k0_pay27
    rw [shapeCast_self]
  · unfold k0_pay5 k0_pay27
    rw [shapeCast_self]
  · unfold k0_pay6
    exact shapeCast_self _ _
  · unfold k0_pay7
    exact shapeCast_self _ _

end Chunk

section Loop

variable (c : Dev nD) (i : grid0.Coords) (arg3 : Memref sig .tc .vmem S1x256x128 .bf16) (harg3 : arg3.IsWhole)
  (arg4 : Memref sig .tc .vmem S1x8448x128 .bf16) (harg4 : arg4.IsWhole) (arg5 : Memref sig .tc .vmem S1x8448x128 .bf16) (harg5 : arg5.IsWhole)
  (arg6 : Memref sig .tc .vmem S4x64 .f32) (harg6 : arg6.IsWhole) (arg7 : Memref sig .tc .vmem S1x128 .f32) (harg7 : arg7.IsWhole)
  (arg8 : Memref sig .tc .vmem S1x256x128 .bf16) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x128 .f32) (harg11 : arg11.IsWhole)
  (q : FVec Ideal S512x128 .bf16) (v9 : BitVec 1) (v25 : FVec Ideal S256x128 .bf16) (v26 : FVec Ideal S512x256 .f32) (v27 : Vec Ideal S512x1 .f32)
  (v28 : FVec Ideal S512 .f32) (x1 x2 : Vec Ideal S1x8448x128 .bf16) {s : Fin 512 → ℕ → ℝ} {v : ℕ → Fin 128 → EReal}

/-- One trip moves the carried rows on by its 512 keys. -/
theorem trip_rows
    (hS : ∀ r (k : Fin 8448), ∑ d : Fin 128, (q (ix2 r d) * x1 (ix3 (0 : Fin 1) k d) : EReal) = (s r k.val : EReal))
    (hV : ∀ (k : Fin 8448) d, x2 (ix3 (0 : Fin 1) k d) = v k.val d) (k : Fin (k0_t1_loop i).trips)
    (f9 : BufTy.Contents (Elt Ideal) arg9.view.ty) (f10 : BufTy.Contents (Elt Ideal) arg10.view.ty) (f11 : BufTy.Contents (Elt Ideal) arg11.view.ty)
    (h : Rows s v (256 + 512 * k.val) (arg9.view.read (Elt Ideal) f9) (arg10.view.read (Elt Ideal) f10) (arg11.view.read (Elt Ideal) f11))
    (g9 : BufTy.Contents (Elt Ideal) arg9.view.ty) (g10 : BufTy.Contents (Elt Ideal) arg10.view.ty) (g11 : BufTy.Contents (Elt Ideal) arg11.view.ty)
    (L9 L10 : List (View.Piece (Elt Ideal) S512x1 .f32)) (L11 : List (View.Piece (Elt Ideal) S512x128 .f32)) :
    let T := tripL_k0_t1 (F := Ideal) Variants.none c none i arg3 harg3 arg4 harg4 arg5 harg5 arg6 harg6 arg7 harg7 arg8 harg8 arg9 harg9 arg10 harg10
      arg11 harg11 q v9 v25 v26 v27 v28 (harg4.unread x1) (harg5.unread x2) k f9 f10 f11
    Rows s v (256 + 512 * (k.val + 1)) (arg9.view.read (Elt Ideal) (arg9.view.writes (Elt Ideal) g9 (T.1 ++ L9)))
      (arg10.view.read (Elt Ideal) (arg10.view.writes (Elt Ideal) g10 (T.2.1 ++ L10)))
      (arg11.view.read (Elt Ideal) (arg11.view.writes (Elt Ideal) g11 (T.2.2 ++ L11))) := by
  have hk := trip_lt i k
  intro T
  have hT : T = tripL_k0_t1 (F := Ideal) Variants.none c none i arg3 harg3 arg4 harg4 arg5 harg5 arg6 harg6 arg7 harg7 arg8 harg8 arg9 harg9 arg10 harg10
      arg11 harg11 q v9 v25 v26 v27 v28 (harg4.unread x1) (harg5.unread x2) k f9 f10 f11 := rfl
  rw [hT]
  unfold tripL_k0_t1 trip_k0_t1
  dsimp only
  sl_unfold_words
  simp only [List.cons_append, List.nil_append]
  rw [View.read_writes_full (s := S512x1), View.read_writes_full (s := S512x1), View.read_writes_full (s := S512x128)]
  simp only [View.readAt_full (s := S512x1), View.readAt_full (s := S512x128), View.readAt_eq_ld, harg4.read_unread, harg5.read_unread]
  have e : 256 + 512 * (k.val + 1) = 256 + 512 * k.val + 512 := by ring
  rw [e]
  refine chunk_rows q _ _ _ _ _ (fun r j => ?_) (fun j d => ?_) h
  · have hj : 256 + 512 * k.val + j.val < 8448 := by omega
    rw [← hS r ⟨_, hj⟩]
    exact Finset.sum_congr rfl fun d _ => congrArg _ (ld_chunk x1 _ _ (off1 i k) _ j d hj)
  · have hj : 256 + 512 * k.val + j.val < 8448 := by omega
    rw [← hV ⟨_, hj⟩]
    exact ld_chunk x2 _ _ (off1 i k) _ j d hj

/-- The loop after `k` trips. -/
theorem loop_rows
    (hS : ∀ r (k : Fin 8448), ∑ d : Fin 128, (q (ix2 r d) * x1 (ix3 (0 : Fin 1) k d) : EReal) = (s r k.val : EReal))
    (hV : ∀ (k : Fin 8448) d, x2 (ix3 (0 : Fin 1) k d) = v k.val d)
    (g9 : BufTy.Contents (Elt Ideal) arg9.view.ty) (g10 : BufTy.Contents (Elt Ideal) arg10.view.ty) (g11 : BufTy.Contents (Elt Ideal) arg11.view.ty)
    (h : Rows s v 256 (arg9.view.read (Elt Ideal) g9) (arg10.view.read (Elt Ideal) g10) (arg11.view.read (Elt Ideal) g11)) :
    ∀ k : ℕ, k ≤ (k0_t1_loop i).trips →
    let P := pb_k0_t1 (F := Ideal) Variants.none c none i arg3 harg3 arg4 harg4 arg5 harg5 arg6 harg6 arg7 harg7 arg8 harg8 arg9 harg9 arg10 harg10
      arg11 harg11 q v9 v25 v26 v27 v28 (harg4.unread x1) (harg5.unread x2) g9 g10 g11 k
    Rows s v (256 + 512 * k) (arg9.view.read (Elt Ideal) (arg9.view.writes (Elt Ideal) g9 P.1))
      (arg10.view.read (Elt Ideal) (arg10.view.writes (Elt Ideal) g10 P.2.1))
      (arg11.view.read (Elt Ideal) (arg11.view.writes (Elt Ideal) g11 P.2.2))
  | 0, _ => by
    intro P
    exact h
  | k + 1, hk => by
    have ih := loop_rows hS hV g9 g10 g11 h k (Nat.le_of_succ_le hk)
    intro P
    have e : P = _ := pb_k0_t1_succ (F := Ideal) Variants.none c none i arg3 harg3 arg4 harg4 arg5 harg5 arg6 harg6 arg7 harg7 arg8 harg8 arg9 harg9 arg10 harg10
      arg11 harg11 q v9 v25 v26 v27 v28 (harg4.unread x1) (harg5.unread x2) g9 g10 g11 ⟨k, hk⟩
    rw [e]
    exact trip_rows c i arg3 harg3 arg4 harg4 arg5 harg5 arg6 harg6 arg7 harg7 arg8 harg8 arg9 harg9 arg10 harg10 arg11 harg11 q v9 v25 v26 v27 v28 x1 x2
      hS hV ⟨k, hk⟩ _ _ _ ih g9 g10 g11 _ _ _

end Loop

end Cert.Diff

end
-- ==== Proof.DiffBlock.lean ====
/-
  What one block of the differential attention kernel leaves: the first 256 keys, then the loop's trips, then the
  division, the difference of the two halves and the per-head norm.
-/
module

public import proofs.«01_k».proof.Proof.DiffTrip
public import proofs.«01_k».proof.Proof.Gen.KernelIdeal.Frame
public import proofs.«01_k».proof.Proof.Gen.KernelIdeal.Value
public import Idealize.ShloMosaic.Lib.Pipeline.Value

@[expose] public section

noncomputable section

namespace Cert.Diff

open Idealize.ShloMosaic Idealize.ShloMosaic.TcCoe Idealize.SL.Sem Idealize.ShloMosaic.ValueIdx
open Cert.KernelIdeal Cert.KernelIdeal.Gen Cert.Softmax Cert.Tile

theorem zero2 : (![0, 0] : Fin 2 → Nat) = fun _ => 0 := funext fun a => by fin_cases a <;> rfl
theorem zero3 : (![0, 0, 0] : Fin 3 → Nat) = fun _ => 0 := funext fun a => by fin_cases a <;> rfl

/-- The first 256 rows of the keys or values. -/
theorem ld_first (x : Vec Ideal S1x8448x128 .bf16) (inb : ∀ a, (![0, 0, 0] : Fin 3 → ℕ) a + (![1, 256, 128] : Fin 3 → ℕ) a ≤ S1x8448x128.size a)
    (j : Fin 256) (d : Fin 128) :
    View.ld (S := S1x8448x128) (Val := Elt Ideal) (e' := .bf16) x (Rect.unit ![0, 0, 0] ![1, 256, 128] inb) (ix3 (0 : Fin 1) j d)
      = x (ix3 (0 : Fin 1) ⟨j.val, by omega⟩ d) := by
  rw [View.ld_apply]
  refine congrArg x (funext fun a => Fin.ext ?_)
  match a with
  | ⟨0, _⟩ => rfl
  | ⟨1, _⟩ => show 0 + 1 * j.val = j.val; omega
  | ⟨2, _⟩ => show 0 + 1 * d.val = d.val; omega

/-- The starting shift is a real number. -/
theorem shift_real : ∃ M : ℝ, (FloatOps.ofBits .f32 0xF149F2CA#32 : Ideal .f32) = ((M : ℝ) : EReal) := by
  rw [Ideal.ofBits_def]
  simp only [Ideal.ofBits, Ideal.ieee]
  rw [if_neg (by decide), if_neg (by decide)]
  exact ⟨_, rfl⟩

/-- What a whole view holds after stores that cover it. -/
theorem readCov_eq {sig : RefSig} {κ : Kind} {sp : Space} {s : Shape} {e : EltTy} (w : View sig κ sp s e) {off : Fin s.rank → ℕ}
    (inb : ∀ a, off a + s.size a ≤ s.size a) (L : List (View.Piece (Elt Ideal) s e)) :
    w.readCov L (Rect.unit off s.size inb).toLoadRect = w.read (Elt Ideal) (w.writes (Elt Ideal) w.junk L) :=
  View.readAt_full w _ inb

section Chunk

variable {s : Fin 512 → ℕ → ℝ} {v : ℕ → Fin 128 → EReal}

/-- The first 256 keys, from the starting buffers. -/
theorem first_rows (x0 : Vec Ideal S1x256x128 .bf16) (k w : Vec Ideal S1x256x128 .bf16)
    (hS : ∀ r (j : Fin 256), ∑ d : Fin 128, (k0_pay14 x0 (ix2 r d) * k (ix3 (0 : Fin 1) j d) : EReal) = (s r j.val : EReal))
    (hw : ∀ (j : Fin 256) d, w (ix3 (0 : Fin 1) j d) = v j.val d) :
    Rows s v 256 (k0_pay26 (k0_pay15 (F := Ideal)) (k0_pay20 x0 k)) (k0_pay24 (k0_pay19 x0 k) (k0_pay15 (F := Ideal)) (k0_pay20 x0 k) (k0_pay16 (F := Ideal)))
      (k0_pay25 (k0_pay18 w) (k0_pay19 x0 k) (k0_pay15 (F := Ideal)) (k0_pay20 x0 k) (k0_pay17 (F := Ideal))) := by
  have h0 : Rows s v 0 (k0_pay15 (F := Ideal)) (k0_pay16 (F := Ideal)) (k0_pay17 (F := Ideal)) := by
    obtain ⟨M, hM⟩ := shift_real
    intro r
    refine Online.init M ?_ ?_ ?_
    · unfold k0_pay15
      rw [shapeCast_self]
      exact hM
    · unfold k0_pay16
      rw [shapeCast_self]
      exact Ideal.ofBits_zero_f32
    · intro d
      unfold k0_pay17
      rw [shapeCast_self]
      exact Ideal.ofBits_zero_f32
  have key := tile_step (T := 256) (by decide) h0 (k0_pay19 x0 k) (k0_pay18 w)
    (m' := k0_pay26 (k0_pay15 (F := Ideal)) (k0_pay20 x0 k)) (l' := k0_pay24 (k0_pay19 x0 k) (k0_pay15 (F := Ideal)) (k0_pay20 x0 k) (k0_pay16 (F := Ideal)))
    (a' := k0_pay25 (k0_pay18 w) (k0_pay19 x0 k) (k0_pay15 (F := Ideal)) (k0_pay20 x0 k) (k0_pay17 (F := Ideal))) ?_ ?_
    reduces_S512x256_S512 (.inl rfl) rfl rfl shapeCasts_S512_S512x1 broadcasts_S512x1_S512x256 broadcasts_S512x1_S512x128
    dot_S512x256_S256x128_S512x128_1_0_0_1_n_n rfl bitsLt_bf16_f32 (α := k0_pay22 (k0_pay15 (F := Ideal)) (k0_pay20 x0 k))
    (p := k0_pay23 (k0_pay19 x0 k) (k0_pay15 (F := Ideal)) (k0_pay20 x0 k)) ?_ ?_ ?_ ?_ ?_
  · simpa using key
  · intro r j
    rw [zero_add, ← hS]
    unfold k0_pay19
    refine (matmulNT_apply _ rfl _ _ r j).trans (Finset.sum_congr rfl fun d _ => ?_)
    rw [shapeCast_1ab_ab_apply]
  · intro j d
    unfold k0_pay18
    rw [zero_add, shapeCast_1ab_ab_apply, hw]
  · unfold k0_pay26 k0_pay21 k0_pay20
    exact shapeCast_self _ _
  · unfold k0_pay22 k0_pay26
    rw [shapeCast_self]
  · unfold k0_pay23 k0_pay26
    rw [shapeCast_self]
  · unfold k0_pay24
    exact shapeCast_self _ _
  · unfold k0_pay25
    exact shapeCast_self _ _

end Chunk

/-- How many keys a query tile attends to: the first tile (the context) the first 256, every other tile all. -/
def span (t : ℕ) : ℕ := if t = 0 then 256 else 8448

variable (c : Dev nD) (i : grid0.Coords) (arg3 : Memref sig .tc .vmem S1x256x128 .bf16) (harg3 : arg3.IsWhole)
  (arg4 : Memref sig .tc .vmem S1x8448x128 .bf16) (harg4 : arg4.IsWhole) (arg5 : Memref sig .tc .vmem S1x8448x128 .bf16) (harg5 : arg5.IsWhole)
  (arg6 : Memref sig .tc .vmem S4x64 .f32) (harg6 : arg6.IsWhole) (arg7 : Memref sig .tc .vmem S1x128 .f32) (harg7 : arg7.IsWhole)
  (arg8 : Memref sig .tc .vmem S1x256x128 .bf16) (harg8 : arg8.IsWhole) (arg9 : Memref sig .tc .vmem S512x1 .f32) (harg9 : arg9.IsWhole)
  (arg10 : Memref sig .tc .vmem S512x1 .f32) (harg10 : arg10.IsWhole) (arg11 : Memref sig .tc .vmem S512x128 .f32) (harg11 : arg11.IsWhole)

/-- The remainder loop stores nothing. -/
theorem rest_nil (q : FVec Ideal S512x128 .bf16) (v9 : BitVec 1) (v25 : FVec Ideal S256x128 .bf16) (v26 : FVec Ideal S512x256 .f32)
    (v27 : Vec Ideal S512x1 .f32) (v28 : FVec Ideal S512 .f32) (v61 : BitVec 32) (X4 : BufTy.Contents (Elt Ideal) arg4.view.ty) (X5 : BufTy.Contents (Elt Ideal) arg5.view.ty)
    (g9 : BufTy.Contents (Elt Ideal) arg9.view.ty) (g10 : BufTy.Contents (Elt Ideal) arg10.view.ty) (g11 : BufTy.Contents (Elt Ideal) arg11.view.ty)
    (n : ℕ) (hn : n = 0) :
    pb_k0_t2 (F := Ideal) Variants.none c none i arg3 harg3 arg4 harg4 arg5 harg5 arg6 harg6 arg7 harg7 arg8 harg8 arg9 harg9 arg10 harg10
      arg11 harg11 q v9 v25 v26 v27 v28 v61 X4 X5 g9 g10 g11 n = ([], [], []) := by
  subst hn
  rfl

set_option maxRecDepth 5000 in
/-- What the block stores, from the buffers its loop leaves: those hold the softmax state of its 512 rows over the
    keys of its span. -/
theorem block_rows (x0 : Vec Ideal S1x256x128 .bf16) (x1 x2 : Vec Ideal S1x8448x128 .bf16) (x3 : Vec Ideal S4x64 .f32) (x4 : Vec Ideal S1x128 .f32)
    {s : Fin 512 → ℕ → ℝ} {v : ℕ → Fin 128 → EReal}
    (hS : ∀ r (k : Fin 8448), ∑ d : Fin 128, (k0_pay14 x0 (ix2 r d) * x1 (ix3 (0 : Fin 1) k d) : EReal) = (s r k.val : EReal))
    (hV : ∀ (k : Fin 8448) d, x2 (ix3 (0 : Fin 1) k d) = v k.val d) :
    ∃ m l a, Rows s v (span (i 2).val) m l a ∧
      out0_A_5 c i arg3 harg3 arg4 harg4 arg5 harg5 arg6 harg6 arg7 harg7 arg8 harg8 arg9 harg9 arg10 harg10 arg11 harg11 x0 x1 x2 x3 x4
        = k0_pay1 (k0_pay29 a l x3 x4) := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  sl_unfold_words
  simp only [View.readAt_eq_ld, harg3.read_unread, harg4.read_unread, harg5.read_unread, harg6.read_unread, harg7.read_unread,
    View.ld_unit_zero (S := S4x64) zero2, View.ld_unit_zero (S := S1x128) zero2, View.ld_unit_zero (S := S512x1) zero2,
    View.ld_unit_zero (S := S512x128) zero2, View.ld_unit_zero (S := S1x256x128) zero3]
  have c9 := View.readCov_full (Val := Elt Ideal) (s := S512x1) arg9.view (e := .f32) (off := ![0, 0]) (off' := ![0, 0])
    inb_S512x1_S512x1_0_0 inb_S512x1_S512x1_0_0 (k0_pay15 (F := Ideal)) []
  have c10 := View.readCov_full (Val := Elt Ideal) (s := S512x1) arg10.view (e := .f32) (off := ![0, 0]) (off' := ![0, 0])
    inb_S512x1_S512x1_0_0 inb_S512x1_S512x1_0_0 (k0_pay16 (F := Ideal)) []
  have c11 := View.readCov_full (Val := Elt Ideal) (s := S512x128) arg11.view (e := .f32) (off := ![0, 0]) (off' := ![0, 0])
    inb_S512x128_S512x128_0_0 inb_S512x128_S512x128_0_0 (k0_pay17 (F := Ideal)) []
  rw [c9, c10, c11, rest_nil (hn := trips2 i)]
  simp only [List.nil_append]
  refine ⟨?m, _, _, ?rows, View.canon_unit_zero (S := S1x256x128) zero3 _ _⟩
  rotate_left
  rw [readCov_eq, readCov_eq, View.writes_append, View.writes_append]
  have hn : span (i 2).val = 256 + 512 * (k0_t1_loop i).trips := by
    rw [trips1, span]
    split <;> rfl
  rw [hn]
  refine loop_rows c i arg3 harg3 arg4 harg4 arg5 harg5 arg6 harg6 arg7 harg7 arg8 harg8 arg9 harg9 arg10 harg10 arg11 harg11
    _ _ _ _ _ _ x1 x2 hS hV _ _ _ ?_ _ le_rfl
  rw [View.read_writes_full (s := S512x1), View.read_writes_full (s := S512x1), View.read_writes_full (s := S512x128)]
  refine first_rows x0 _ _ (fun r j => ?_) (fun j d => ?_)
  · rw [← hS r ⟨j.val, by omega⟩]
    exact Finset.sum_congr rfl fun d _ => congrArg _ (ld_first x1 _ j d)
  · rw [← hV ⟨j.val, by omega⟩]
    exact ld_first x2 _ j d

end Cert.Diff

end
-- ==== Proof.DiffSpec.lean ====
/-
  Differential attention over the extended reals, as both programs compute it: the two softmax averages of a head, their
  difference, and the per-head norm. A query of the context (its row before 256) sees the 256 keys of the context, any
  other query all 8448 keys.
-/
module

public import proofs.«01_k».proof.Proof.Softmax
public import Idealize.ShloMosaic.Lib.ValueIdx

@[expose] public section

noncomputable section

namespace Cert.DiffSpec

open Idealize.ShloMosaic Idealize.ShloMosaic.ValueIdx Cert.Softmax

/-- Batch, token, feature. -/
abbrev Tokens : Type := (⟨3, ![8, 8448, 768]⟩ : Shape).Idx → EReal

/-- Feature `j` of half `p` of head `h`. -/
def lane (h : Fin 6) (p : Fin 2) (j : Fin 64) : Fin 768 := ⟨128 * h.val + (64 * p.val + j.val), by omega⟩

/-- Feature `d` of head `h`. -/
def wide (h : Fin 6) (d : Fin 128) : Fin 768 := ⟨128 * h.val + d.val, by omega⟩

/-- The product of a query and a key in half `p` of head `h`. -/
def dot (q k : Tokens) (b : Fin 8) (h : Fin 6) (p : Fin 2) (R K : Fin 8448) : EReal :=
  ∑ j : Fin 64, q (ix3 b R (lane h p j)) * k (ix3 b K (lane h p j))

/-- The score of key `n`, a real number. -/
def score (q k : Tokens) (b : Fin 8) (h : Fin 6) (p : Fin 2) (R : Fin 8448) (n : ℕ) : ℝ :=
  if hn : n < 8448 then (dot q k b h p R ⟨n, hn⟩).toReal else 0

/-- The value of key `n` at feature `d` of head `h`. -/
def value (v : Tokens) (b : Fin 8) (h : Fin 6) (n : ℕ) (d : Fin 128) : EReal :=
  if hn : n < 8448 then v (ix3 b ⟨n, hn⟩ (wide h d)) else 0

/-- How many keys query `R` sees. -/
def keys (R : ℕ) : ℕ := if R < 256 then 256 else 8448

theorem keys_pos (R : ℕ) : 0 < keys R := by unfold keys; split <;> omega

theorem keys_le (R : ℕ) : keys R ≤ 8448 := by unfold keys; split <;> omega

/-- The weight of the second softmax: `exp (l₁ · l₂) - exp (l₃ · l₄)` and the constant 0.2. -/
def lam (l1 l2 l3 l4 : Fin 64 → EReal) : EReal :=
  Ideal.exp (∑ j, l1 j * l2 j) - Ideal.exp (∑ j, l3 j * l4 j) + Ideal.ofBits .f32 0x3E4CCCCD#32

/-- Head `h` of query `R` before the norm. -/
def head (q k v : Tokens) (w : EReal) (b : Fin 8) (h : Fin 6) (R : Fin 8448) (d : Fin 128) : EReal :=
  soft (score q k b h 0 R) (fun n => value v b h n d) (keys R)
    - w * soft (score q k b h 1 R) (fun n => value v b h n d) (keys R)

/-- The norm of one head: divided by the root of the mean square, times the gain and the constant 0.8. -/
def norm (o g : Fin 128 → EReal) (d : Fin 128) : EReal :=
  o d * Ideal.rsqrt (Ideal.div (∑ e, o e * o e) (Ideal.ofBits .f32 0x43000000#32) + Ideal.ofBits .f32 0x358637BD#32)
    * g d * Ideal.ofBits .f32 0x3F4CCCCD#32

/-- The whole result, at batch `b`, query `R` and feature `d` of head `h`. -/
def entry (q k v : Tokens) (l1 l2 l3 l4 : Fin 64 → EReal) (g : Fin 128 → EReal) (b : Fin 8) (R : Fin 8448) (h : Fin 6)
    (d : Fin 128) : EReal :=
  norm (head q k v (lam l1 l2 l3 l4) b h R) g d

/-- The whole result. -/
def out (q k v : Tokens) (l1 l2 l3 l4 : Fin 64 → EReal) (g : Fin 128 → EReal) : Tokens := fun i =>
  entry q k v l1 l2 l3 l4 g (i 0) (i 1) ⟨(i 2).val / 128, by have : (i 2).val < 768 := (i 2).isLt; omega⟩
    ⟨(i 2).val % 128, by omega⟩

/-- An array of real numbers. -/
def Real' (x : Tokens) : Prop := ∀ i, ∃ r : ℝ, x i = r

theorem sum_real {ι : Type*} (A : Finset ι) {f : ι → EReal} (hf : ∀ i, ∃ r : ℝ, f i = r) : ∃ r : ℝ, ∑ i ∈ A, f i = r := by
  choose g hg using hf
  exact ⟨∑ i ∈ A, g i, by rw [coe_sum]; exact Finset.sum_congr rfl fun i _ => hg i⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem dot_eq_score {q k : Tokens} (hq : Real' q) (hk : Real' k) (b : Fin 8) (h : Fin 6) (p : Fin 2) (R K : Fin 8448) :
    dot q k b h p R K = (score q k b h p R K.val : EReal) := by
  obtain ⟨r, hr⟩ := sum_real Finset.univ (fun j : Fin 64 => mul_real (hq (ix3 b R (lane h p j))) (hk (ix3 b K (lane h p j))))
  have e : dot q k b h p R K = (r : EReal) := hr
  rw [score, dif_pos K.isLt]
  show _ = ((dot q k b h p R K).toReal : EReal)
  rw [e, EReal.toReal_coe]

theorem value_lt (v : Tokens) (b : Fin 8) (h : Fin 6) (K : Fin 8448) (d : Fin 128) :
    value v b h K.val d = v (ix3 b K (wide h d)) := dif_pos K.isLt

end Cert.DiffSpec

end
-- ==== Proof.DiffTile.lean ====
/-
  The two ends of the differential attention kernel's body, entry by entry: the queries it stacks (each half of a head
  with the other half put to zero), and the last step, from the two softmax averages to the head's normed output.
-/
module

public import proofs.«01_k».proof.Proof.DiffBlock
public import proofs.«01_k».proof.Proof.DiffSpec

@[expose] public section

noncomputable section

namespace Cert.Diff

open Idealize.ShloMosaic Idealize.ShloMosaic.TcCoe Idealize.SL.Sem Idealize.ShloMosaic.ValueIdx
open Cert.KernelIdeal Cert.KernelIdeal.Gen Cert.Softmax Cert.Tile

theorem zero_bf16 : (Scalar.ofBits .bf16 0x0000#16 : Ideal .bf16) = (0 : EReal) := by
  show Ideal.ofBits .bf16 0x0000#16 = 0
  simp [Ideal.ofBits, Ideal.ieee]

/-- The lane's test against 64 picks the first half's entry below 64 and the other above. -/
theorem pick {φ : FTy} (A B : FVec Ideal S256x128 φ) (r : Fin 256) (d : Fin 128) :
    select (cmpi .slt (iota .tc S256x128 32 [1] iota_S256x128_d1_w32) (broadcast S256x128 64#32)) A B (ix2 r d)
      = if d.val < 64 then A (ix2 r d) else B (ix2 r d) := by
  rw [select_apply]
  show Scalar.select (IntOp.cmpi .slt (iota .tc S256x128 32 [1] iota_S256x128_d1_w32 (ix2 r d)) 64#32) _ _ = _
  rw [iota_single_apply]
  show (if BitVec.ofBool ((BitVec.ofNat 32 d.val).slt 64#32) = 1 then A (ix2 r d) else B (ix2 r d)) = _
  have hd := d.isLt
  have e1 : (BitVec.ofNat 32 d.val).toInt = (d.val : ℤ) := by
    rw [BitVec.toInt_ofNat', Int.bmod_def]
    have : ((d.val : ℤ) % (2 ^ 32 : ℕ)) = d.val := Int.emod_eq_of_lt (by omega) (by norm_num; omega)
    rw [this, if_pos (by norm_num; omega)]
  by_cases h : d.val < 64
  · have : (BitVec.ofNat 32 d.val).slt 64#32 = true := by rw [BitVec.slt_iff_toInt_lt, e1]; simpa using h
    rw [this, if_pos h]; rfl
  · have : (BitVec.ofNat 32 d.val).slt 64#32 = false := by
      rw [Bool.eq_false_iff, ne_eq, BitVec.slt_iff_toInt_lt, e1]; simpa using h
    rw [this, if_neg h]; rfl

/-- A row of the first half of the stack: the query's first 64 lanes. -/
theorem stack_lo (x0 : Vec Ideal S1x256x128 .bf16) (r : Fin 256) (d : Fin 128) :
    k0_pay14 x0 (ix2 (⟨r.val, by omega⟩ : Fin 512) d) = (if d.val < 64 then x0 (ix3 (0 : Fin 1) r d) else 0 : EReal) := by
  unfold k0_pay14
  dsimp only
  rw [concatenate_pair_apply_left (t := S512x128) (a := 0) (s₁ := S256x128) (s₂ := S256x128) (i := ix2 r d) (hr := rfl)
    (hi := fun b => match b with | ⟨0, _⟩ => rfl | ⟨1, _⟩ => rfl), pick, shapeCast_1ab_ab_apply]
  exact congrArg (fun z => if d.val < 64 then x0 (ix3 (0 : Fin 1) r d) else z) zero_bf16

/-- A row of the second half of the stack: the query's last 64 lanes. -/
theorem stack_hi (x0 : Vec Ideal S1x256x128 .bf16) (r : Fin 256) (d : Fin 128) :
    k0_pay14 x0 (ix2 (⟨256 + r.val, by omega⟩ : Fin 512) d) = (if d.val < 64 then 0 else x0 (ix3 (0 : Fin 1) r d) : EReal) := by
  unfold k0_pay14
  dsimp only
  rw [concatenate_pair_apply_right (t := S512x128) (a := 0) (s₁ := S256x128) (s₂ := S256x128) (i := ix2 r d) (hr := rfl) (hr₂ := rfl)
    (j := ix2 (⟨256 + r.val, by omega⟩ : Fin 512) d)
    (hi := fun b => match b with | ⟨0, _⟩ => fun h => absurd rfl h | ⟨1, _⟩ => fun _ => rfl)
    (ha := Nat.add_comm r.val 256), pick, shapeCast_1ab_ab_apply]
  exact congrArg (fun z => if d.val < 64 then z else x0 (ix3 (0 : Fin 1) r d)) zero_bf16

/-- A product over 128 lanes of which only the first 64 count. -/
theorem half_lo (f g : Fin 128 → EReal) : ∑ d : Fin 128, (if d.val < 64 then f d else 0) * g d
    = ∑ j : Fin 64, f ⟨j.val, by omega⟩ * g ⟨j.val, by omega⟩ := by
  rw [Fin.sum_univ_add (a := 64) (b := 64) (fun d : Fin 128 => (if d.val < 64 then f d else 0) * g d)]
  have e : ∑ i : Fin 64, (if (Fin.natAdd 64 i : Fin 128).val < 64 then f (Fin.natAdd 64 i) else 0) * g (Fin.natAdd 64 i) = (0 : EReal) :=
    Finset.sum_eq_zero fun i _ => by rw [if_neg (by rw [Fin.val_natAdd]; omega), zero_mul]
  rw [e, add_zero]
  exact Finset.sum_congr rfl fun i _ => by rw [if_pos (by rw [Fin.val_castAdd]; exact i.isLt)]; rfl

/-- A product over 128 lanes of which only the last 64 count. -/
theorem half_hi (f g : Fin 128 → EReal) : ∑ d : Fin 128, (if d.val < 64 then 0 else f d) * g d
    = ∑ j : Fin 64, f ⟨64 + j.val, by omega⟩ * g ⟨64 + j.val, by omega⟩ := by
  rw [Fin.sum_univ_add (a := 64) (b := 64) (fun d : Fin 128 => (if d.val < 64 then 0 else f d) * g d)]
  have e : ∑ i : Fin 64, (if (Fin.castAdd 64 i : Fin 128).val < 64 then 0 else f (Fin.castAdd 64 i)) * g (Fin.castAdd 64 i) = (0 : EReal) :=
    Finset.sum_eq_zero fun i _ => by rw [if_pos (by rw [Fin.val_castAdd]; exact i.isLt), zero_mul]
  rw [e, zero_add]
  exact Finset.sum_congr rfl fun i _ => by rw [if_neg (by rw [Fin.val_natAdd]; omega)]; rfl

theorem dot_lo (x0 : Vec Ideal S1x256x128 .bf16) (r : Fin 256) (y : Fin 128 → EReal) :
    ∑ d : Fin 128, (k0_pay14 x0 (ix2 (⟨r.val, by omega⟩ : Fin 512) d) * y d : EReal)
      = ∑ j : Fin 64, (x0 (ix3 (0 : Fin 1) r (⟨j.val, by omega⟩ : Fin 128)) * y ⟨j.val, by omega⟩ : EReal) := by
  rw [← half_lo (fun d => x0 (ix3 (0 : Fin 1) r d)) y]
  exact Finset.sum_congr rfl fun d _ => by rw [stack_lo]

theorem dot_hi (x0 : Vec Ideal S1x256x128 .bf16) (r : Fin 256) (y : Fin 128 → EReal) :
    ∑ d : Fin 128, (k0_pay14 x0 (ix2 (⟨256 + r.val, by omega⟩ : Fin 512) d) * y d : EReal)
      = ∑ j : Fin 64, (x0 (ix3 (0 : Fin 1) r (⟨64 + j.val, by omega⟩ : Fin 128)) * y ⟨64 + j.val, by omega⟩ : EReal) := by
  rw [← half_hi (fun d => x0 (ix3 (0 : Fin 1) r d)) y]
  exact Finset.sum_congr rfl fun d _ => by rw [stack_hi]

/-- Row `i` of the four vectors, cut out. -/
theorem row_cut (x3 : Vec Ideal S4x64 .f32) (i : Fin 4) (h : S4x64.Slices ![i.val, 0] S1x64) (j : Fin 64) :
    extractStridedSlice S1x64 ![i.val, 0] x3 h (ix2 (0 : Fin 1) j) = x3 (ix2 i j) :=
  extractStridedSlice_apply _ _ _ _ (ix2 i j) fun a => match a with | ⟨0, _⟩ => rfl | ⟨1, _⟩ => (Nat.zero_add _).symm

/-- The last step at row `r` and lane `d`. -/
theorem last_apply (a : Vec Ideal S512x128 .f32) (l : Vec Ideal S512x1 .f32) (x3 : Vec Ideal S4x64 .f32) (x4 : Vec Ideal S1x128 .f32)
    (r : Fin 256) (d : Fin 128) :
    k0_pay29 a l x3 x4 (ix2 r d)
      = DiffSpec.norm (fun e => Ideal.div (a (ix2 (⟨r.val, by omega⟩ : Fin 512) e)) (l (ix2 (⟨r.val, by omega⟩ : Fin 512) 0))
          - DiffSpec.lam (fun j => x3 (ix2 0 j)) (fun j => x3 (ix2 1 j)) (fun j => x3 (ix2 2 j)) (fun j => x3 (ix2 3 j))
            * Ideal.div (a (ix2 (⟨256 + r.val, by omega⟩ : Fin 512) e)) (l (ix2 (⟨256 + r.val, by omega⟩ : Fin 512) 0)))
        (fun e => x4 (ix2 0 e)) d := by
  unfold k0_pay29
  dsimp only
  rw [shapeCast_self, shapeCast_self]
  generalize hw : (addf (subf (exp (shapeCast (s := S1) S1x1 _ _)) _) _ : FVec Ideal S1x1 .f32) = W
  have eW : W (ix2 0 0) = DiffSpec.lam (fun j => x3 (ix2 0 j)) (fun j => x3 (ix2 1 j)) (fun j => x3 (ix2 2 j)) (fun j => x3 (ix2 3 j)) := by
    rw [← hw, addf_apply, subf_apply]
    show (Ideal.exp (shapeCast (s := S1) S1x1 _ _ (ix2 0 0)) - Ideal.exp (shapeCast (s := S1) S1x1 _ _ (ix2 0 0)) + _ : EReal) = _
    rw [shapeCast_a_a1_apply, shapeCast_a_a1_apply, DiffSpec.lam]
    refine congrArg₂ (· + ·) (congrArg₂ (· - ·) (congrArg Ideal.exp ?_) (congrArg Ideal.exp ?_)) rfl
    · exact (rowSum_apply _ _ _ _ _ 0).trans
        (Finset.sum_congr rfl fun j _ => congrArg₂ (· * ·) (row_cut x3 0 _ j) (row_cut x3 1 _ j))
    · exact (rowSum_apply _ _ _ _ _ 0).trans
        (Finset.sum_congr rfl fun j _ => congrArg₂ (· * ·) (row_cut x3 2 _ j) (row_cut x3 3 _ j))
  generalize hO : (subf (extractStridedSlice (s := S512x128) S256x128 ![0, 0] _ _) _ : FVec Ideal S256x128 .f32) = O
  have eO : ∀ e, O (ix2 r e) = Ideal.div (a (ix2 (⟨r.val, by omega⟩ : Fin 512) e)) (l (ix2 (⟨r.val, by omega⟩ : Fin 512) 0))
          - DiffSpec.lam (fun j => x3 (ix2 0 j)) (fun j => x3 (ix2 1 j)) (fun j => x3 (ix2 2 j)) (fun j => x3 (ix2 3 j))
            * Ideal.div (a (ix2 (⟨256 + r.val, by omega⟩ : Fin 512) e)) (l (ix2 (⟨256 + r.val, by omega⟩ : Fin 512) 0)) := by
    intro e
    rw [← hO, subf_apply, mulf_apply, broadcastTo_apply W _ _ (ix2 0 0) (fun ax => match ax with | ⟨0, _⟩ => rfl | ⟨1, _⟩ => rfl), eW,
      extractStridedSlice_apply _ _ _ _ (ix2 (⟨r.val, by omega⟩ : Fin 512) e)
        (fun ax => match ax with | ⟨0, _⟩ => (Nat.zero_add _).symm | ⟨1, _⟩ => (Nat.zero_add _).symm),
      extractStridedSlice_apply _ _ _ _ (ix2 (⟨256 + r.val, by omega⟩ : Fin 512) e)
        (fun ax => match ax with | ⟨0, _⟩ => rfl | ⟨1, _⟩ => (Nat.zero_add _).symm),
      divf_apply, divf_apply, broadcastCol_apply, broadcastCol_apply]
  rw [truncf_apply, mulf_apply, mulf_apply, mulf_apply, broadcastCol_apply, broadcastTo_1b_ab_apply]
  have eQ : addf (divf (shapeCast S256x1 (multiReduction .add [1] S256 (mulf O O) 0x00000000#32 reduces_S256x128_S256 (.inl rfl) rfl)
      shapeCasts_S256_S256x1) (broadcast S256x1 (Scalar.ofBits .f32 0x43000000#32)))
      (broadcast S256x1 (Scalar.ofBits .f32 0x358637BD#32)) (ix2 r 0)
      = Ideal.div (∑ e, O (ix2 r e) * O (ix2 r e) : EReal) (Ideal.ofBits .f32 0x43000000#32) + Ideal.ofBits .f32 0x358637BD#32 := by
    rw [addf_apply, divf_apply, shapeCast_a_a1_apply]
    exact congrArg (fun z => Ideal.div z (Ideal.ofBits .f32 0x43000000#32) + Ideal.ofBits .f32 0x358637BD#32) (rowSum_apply _ _ _ _ _ r)
  rw [DiffSpec.norm]
  simp only [← eO]
  exact congrArg (fun z => (O (ix2 r d) * Ideal.rsqrt z * x4 (ix2 0 d) * Ideal.ofBits .f32 0x3F4CCCCD#32 : EReal)) eQ

end Cert.Diff

end
-- ==== Proof.DiffArray.lean ====
/-
  The array the differential attention kernel leaves: its blocks, each what one point of the grid computes, cover the
  result, and each holds the specification's entries.
-/
module

public import proofs.«01_k».proof.Proof.DiffTile
public import Idealize.ShloMosaic.Lib.Pipeline.ValueKit.Geometry
public import Idealize.ShloMosaic.Lib.Pipeline.Covers

@[expose] public section

noncomputable section

namespace Cert.Diff

open Idealize.ShloMosaic Idealize.ShloMosaic.TcCoe Idealize.SL.Sem Idealize.ShloMosaic.ValueIdx
open Cert.KernelIdeal Cert.KernelIdeal.Gen Cert.Softmax Cert.Tile

variable (m : (ℓ : Loc nD τ sig) → Buf (Elt Ideal) ℓ)

/-- A coordinate's 32-bit word is the coordinate. -/
theorem word (n b : ℕ) (h : n < b) (hb : b ≤ 2 ^ 32) : (BitVec.ofNat 32 n).toNat = n := by
  rw [BitVec.toNat_ofNat, Nat.mod_eq_of_lt (lt_of_lt_of_le h hb)]

theorem index0 (t : Fin cfg0.N) :
    win0_0.index t = ![(grid0.coords t 0).val, (grid0.coords t 2).val, (grid0.coords t 1).val] :=
  funext fun a => match a with
    | ⟨0, _⟩ => word _ 8 (grid0.coords t 0).isLt (by norm_num)
    | ⟨1, _⟩ => word _ 33 (grid0.coords t 2).isLt (by norm_num)
    | ⟨2, _⟩ => word _ 6 (grid0.coords t 1).isLt (by norm_num)
theorem index5 (t : Fin cfg0.N) :
    win0_5.index t = ![(grid0.coords t 0).val, (grid0.coords t 2).val, (grid0.coords t 1).val] :=
  funext fun a => match a with
    | ⟨0, _⟩ => word _ 8 (grid0.coords t 0).isLt (by norm_num)
    | ⟨1, _⟩ => word _ 33 (grid0.coords t 2).isLt (by norm_num)
    | ⟨2, _⟩ => word _ 6 (grid0.coords t 1).isLt (by norm_num)
theorem index1 (t : Fin cfg0.N) : win0_1.index t = ![(grid0.coords t 0).val, 0, (grid0.coords t 1).val] :=
  funext fun a => match a with
    | ⟨0, _⟩ => word _ 8 (grid0.coords t 0).isLt (by norm_num)
    | ⟨1, _⟩ => rfl
    | ⟨2, _⟩ => word _ 6 (grid0.coords t 1).isLt (by norm_num)
theorem index2 (t : Fin cfg0.N) : win0_2.index t = ![(grid0.coords t 0).val, 0, (grid0.coords t 1).val] :=
  funext fun a => match a with
    | ⟨0, _⟩ => word _ 8 (grid0.coords t 0).isLt (by norm_num)
    | ⟨1, _⟩ => rfl
    | ⟨2, _⟩ => word _ 6 (grid0.coords t 1).isLt (by norm_num)
theorem index3 (t : Fin cfg0.N) : win0_3.index t = ![0, 0] :=
  funext fun a => match a with | ⟨0, _⟩ => rfl | ⟨1, _⟩ => rfl
theorem index4 (t : Fin cfg0.N) : win0_4.index t = ![0, 0] :=
  funext fun a => match a with | ⟨0, _⟩ => rfl | ⟨1, _⟩ => rfl

/-- The batch, the head and the query tile of a point. -/
def batchOf (t : Fin cfg0.N) : Fin 8 := grid0.coords t 0
def headOf (t : Fin cfg0.N) : Fin 6 := grid0.coords t 1
def tileOf (t : Fin cfg0.N) : Fin 33 := grid0.coords t 2

/-- Row `r` of the point's query tile. -/
def rowOf (t : Fin cfg0.N) (r : Fin 256) : Fin 8448 := ⟨(tileOf t).val * 256 + r.val, by have := (tileOf t).isLt; omega⟩

theorem keys_rowOf (t : Fin cfg0.N) (r : Fin 256) : DiffSpec.keys (rowOf t r).val = span (tileOf t).val := by
  unfold DiffSpec.keys span rowOf
  have := r.isLt
  by_cases h : (tileOf t).val = 0
  · rw [if_pos h, if_pos (by show (tileOf t).val * 256 + r.val < 256; omega)]
  · rw [if_neg h, if_neg (by show ¬ (tileOf t).val * 256 + r.val < 256; omega)]

theorem block0 (c : Dev nD) (t : Fin cfg0.N) (r : Fin 256) (d : Fin 128) :
    iblk m c 0 t (ix3 (0 : Fin 1) r d) = V m c main_arg0 (ix3 (batchOf t) (rowOf t r) (DiffSpec.wide (headOf t) d)) := by
  blk_simp [iblk]
  refine congrArg _ ?_
  blk_ext [index0]
  · rfl
  · rfl
  · exact congrArg (· + d.val) (Nat.mul_comm (headOf t).val 128)

theorem block1 (c : Dev nD) (t : Fin cfg0.N) (k : Fin 8448) (d : Fin 128) :
    iblk m c 1 t (ix3 (0 : Fin 1) k d) = V m c main_arg1 (ix3 (batchOf t) k (DiffSpec.wide (headOf t) d)) := by
  blk_simp [iblk]
  refine congrArg _ ?_
  blk_ext [index1]
  · rfl
  · exact congrArg (· + d.val) (Nat.mul_comm (headOf t).val 128)

theorem block2 (c : Dev nD) (t : Fin cfg0.N) (k : Fin 8448) (d : Fin 128) :
    iblk m c 2 t (ix3 (0 : Fin 1) k d) = V m c main_arg2 (ix3 (batchOf t) k (DiffSpec.wide (headOf t) d)) := by
  blk_simp [iblk]
  refine congrArg _ ?_
  blk_ext [index2]
  · rfl
  · exact congrArg (· + d.val) (Nat.mul_comm (headOf t).val 128)

theorem block3 (c : Dev nD) (t : Fin cfg0.N) (i : Fin 4) (j : Fin 64) :
    iblk m c 3 t (ix2 i j) = V m c main_v4 (ix2 i j) := by
  blk_simp [iblk]
  refine congrArg _ ?_
  blk_ext [index3]

theorem block4 (c : Dev nD) (t : Fin cfg0.N) (e : Fin 128) :
    iblk m c 4 t (ix2 (0 : Fin 1) e) = V m c main_v5 (ix2 (0 : Fin 1) e) := by
  blk_simp [iblk]
  refine congrArg _ ?_
  blk_ext [index4]

/-- The specification at what the call finds in its arrays. -/
def goal (c : Dev nD) : DiffSpec.Tokens :=
  DiffSpec.out (V m c main_arg0) (V m c main_arg1) (V m c main_arg2) (fun j => V m c main_v4 (ix2 (0 : Fin 4) j))
    (fun j => V m c main_v4 (ix2 (1 : Fin 4) j)) (fun j => V m c main_v4 (ix2 (2 : Fin 4) j))
    (fun j => V m c main_v4 (ix2 (3 : Fin 4) j)) (fun e => V m c main_v5 (ix2 (0 : Fin 1) e))

/-- The specification at a point's row and lane. -/
theorem goal_apply (c : Dev nD) (b : Fin 8) (R : Fin 8448) (h : Fin 6) (d : Fin 128) :
    goal m c (ix3 b R (DiffSpec.wide h d))
      = DiffSpec.entry (V m c main_arg0) (V m c main_arg1) (V m c main_arg2) (fun j => V m c main_v4 (ix2 (0 : Fin 4) j))
    (fun j => V m c main_v4 (ix2 (1 : Fin 4) j)) (fun j => V m c main_v4 (ix2 (2 : Fin 4) j))
    (fun j => V m c main_v4 (ix2 (3 : Fin 4) j)) (fun e => V m c main_v5 (ix2 (0 : Fin 1) e)) b R h d := by
  unfold goal DiffSpec.out
  have e1 : ∀ hh, (⟨(DiffSpec.wide h d).val / 128, hh⟩ : Fin 6) = h := fun _ => Fin.ext (by
    show (128 * h.val + d.val) / 128 = h.val; omega)
  have e2 : ∀ hh, (⟨(DiffSpec.wide h d).val % 128, hh⟩ : Fin 128) = d := fun _ => Fin.ext (by
    show (128 * h.val + d.val) % 128 = d.val; omega)
  show DiffSpec.entry _ _ _ _ _ _ _ _ b R ⟨(DiffSpec.wide h d).val / 128, _⟩ ⟨(DiffSpec.wide h d).val % 128, _⟩ = _
  rw [e1, e2]

/-- What a point of the grid leaves at row `r` and lane `d` of its block. -/
theorem point (c : Dev nD) (hq : DiffSpec.Real' (V m c main_arg0)) (hk : DiffSpec.Real' (V m c main_arg1)) (t : Fin cfg0.N)
    (r : Fin 256) (d : Fin 128) :
    outsAt0 m c t (ix3 (0 : Fin 1) r d) = goal m c (ix3 (batchOf t) (rowOf t r) (DiffSpec.wide (headOf t) d)) := by
  rw [goal_apply]
  unfold outsAt0
  obtain ⟨M, l, a, hR, e⟩ := block_rows (i := grid0.coords t) c (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _) scM0_2 (Memref.isWhole_whole _)
    (iblk m c 0 t) (iblk m c 1 t) (iblk m c 2 t) (iblk m c 3 t) (iblk m c 4 t)
    (s := fun r' n => if h : r'.val < 256
      then DiffSpec.score (V m c main_arg0) (V m c main_arg1) (batchOf t) (headOf t) 0 (rowOf t ⟨r'.val, h⟩) n
      else DiffSpec.score (V m c main_arg0) (V m c main_arg1) (batchOf t) (headOf t) 1 (rowOf t ⟨r'.val - 256, by omega⟩) n)
    (v := fun n d => DiffSpec.value (V m c main_arg2) (batchOf t) (headOf t) n d)
    (fun r' k => by
      by_cases h : r'.val < 256
      · rw [dif_pos h, ← DiffSpec.dot_eq_score hq hk]
        refine (dot_lo (iblk m c 0 t) ⟨r'.val, h⟩ (fun d => iblk m c 1 t (ix3 (0 : Fin 1) k d))).trans ?_
        refine Finset.sum_congr rfl fun j _ => ?_
        rw [block0, block1]
        have : DiffSpec.wide (headOf t) ⟨j.val, by omega⟩ = DiffSpec.lane (headOf t) 0 j :=
          Fin.ext (by show 128 * _ + j.val = 128 * _ + (64 * 0 + j.val); omega)
        rw [this]
      · rw [dif_neg h, ← DiffSpec.dot_eq_score hq hk]
        have er : r' = ⟨256 + (⟨r'.val - 256, by omega⟩ : Fin 256).val, by omega⟩ := Fin.ext (by show r'.val = 256 + (r'.val - 256); omega)
        conv_lhs => rw [er]
        refine (dot_hi (iblk m c 0 t) ⟨r'.val - 256, by omega⟩ (fun d => iblk m c 1 t (ix3 (0 : Fin 1) k d))).trans ?_
        refine Finset.sum_congr rfl fun j _ => ?_
        rw [block0, block1]
        have : DiffSpec.wide (headOf t) ⟨64 + j.val, by omega⟩ = DiffSpec.lane (headOf t) 1 j :=
          Fin.ext (by show 128 * _ + (64 + j.val) = 128 * _ + (64 * 1 + j.val); omega)
        rw [this])
    (fun k d => by rw [block2, DiffSpec.value_lt])
  rw [e, k0_pay1, shapeCast_ab_1ab_apply, last_apply]
  have hp : 0 < span (tileOf t).val := by unfold span; split <;> omega
  have hlo := fun d => (hR ⟨r.val, by omega⟩).div_eq hp d
  have hhi := fun d => (hR ⟨256 + r.val, by omega⟩).div_eq hp d
  simp only [dif_pos r.isLt] at hlo
  simp only [dif_neg (show ¬ 256 + r.val < 256 by omega), Nat.add_sub_cancel_left] at hhi
  unfold DiffSpec.entry
  have e3 : ∀ i : Fin 4, (fun j => iblk m c 3 t (ix2 i j)) = fun j => V m c main_v4 (ix2 i j) := fun i => funext fun j => block3 m c t i j
  have e4 : (fun e => iblk m c 4 t (ix2 (0 : Fin 1) e)) = fun e => V m c main_v5 (ix2 (0 : Fin 1) e) := funext fun e => block4 m c t e
  rw [e3, e3, e3, e3, e4]
  congr 1
  funext d
  rw [hlo, hhi, DiffSpec.head, keys_rowOf]
  rfl

/-- The blocks cover the result. -/
theorem covers5 : win0_5.Covers := by
  refine Pipeline.Window.covers_of_indexMap_surj _ rfl (fun a => match a with | ⟨0, _⟩ => Nat.one_pos | ⟨1, _⟩ => (by omega : 0 < 256) | ⟨2, _⟩ => (by omega : 0 < 128))
    fun β => ?_
  refine ⟨fun a => match a with | ⟨0, _⟩ => β 0 | ⟨1, _⟩ => β 2 | ⟨2, _⟩ => β 1, fun a => ?_⟩
  match a with
  | ⟨0, _⟩ => exact word _ 8 (β 0).isLt (by norm_num)
  | ⟨1, _⟩ => exact word _ 33 (β 1).isLt (by norm_num)
  | ⟨2, _⟩ => exact word _ 6 (β 2).isLt (by norm_num)

/-- The array the call leaves is the specification. -/
theorem array (c : Dev nD) (hq : DiffSpec.Real' (V m c main_arg0)) (hk : DiffSpec.Real' (V m c main_arg1)) :
    (dats m 0 c).arrAt 5 cfg0.N = goal m c := by
  refine (dats m 0 c).arrAt_eq_of_covers 5 _ covers5 fun t hf y => ?_
  blk_simp
  rw [after0_5]
  obtain ⟨r, d, rfl⟩ : ∃ (r : Fin 256) (d : Fin 128), y = ix3 (0 : Fin 1) r d :=
    ⟨y 1, y 2, (eq_ix3 (n0 := 1) (n1 := 256) (n2 := 128) y).trans
      (congrArg (fun z : Fin 1 => ix3 z (y 1) (y 2)) (Subsingleton.elim _ _))⟩
  rw [point m c hq hk]
  refine congrArg _ ?_
  blk_ext [index5]
  · rfl
  · rfl
  · exact congrArg (· + d.val) (Nat.mul_comm 128 (headOf t).val)

/-- The four vectors, as the host stacks them. -/
theorem stacked (c : Dev nD) (j : Fin 64) :
    V m c main_v4 (ix2 (0 : Fin 4) j) = m ((c : Thread nD τ).loc main_arg3) (ix1 j)
    ∧ V m c main_v4 (ix2 (1 : Fin 4) j) = m ((c : Thread nD τ).loc main_arg4) (ix1 j)
    ∧ V m c main_v4 (ix2 (2 : Fin 4) j) = m ((c : Thread nD τ).loc main_arg5) (ix1 j)
    ∧ V m c main_v4 (ix2 (3 : Fin 4) j) = m ((c : Thread nD τ).loc main_arg6) (ix1 j) := by
  have e : V m c main_v4 = concatenate S4x64 0
      [⟨S1x64, broadcastInDim S1x64 ![1] bcast_S64_S1x64_1 (m ((c : Thread nD τ).loc main_arg3))⟩,
       ⟨S1x64, broadcastInDim S1x64 ![1] bcast_S64_S1x64_1 (m ((c : Thread nD τ).loc main_arg4))⟩,
       ⟨S1x64, broadcastInDim S1x64 ![1] bcast_S64_S1x64_1 (m ((c : Thread nD τ).loc main_arg5))⟩,
       ⟨S1x64, broadcastInDim S1x64 ![1] bcast_S64_S1x64_1 (m ((c : Thread nD τ).loc main_arg6))⟩]
       concatenates_S1x64_S1x64_S1x64_S1x64_S4x64_d0 := by
    unfold V
    after_results_simp <;> rfl
  rw [e]
  refine ⟨?_, ?_, ?_, ?_⟩
  · exact (concatenate_apply_piece 0 _ _ (ix2 (0 : Fin 4) j) 0 (by simp) S1x64 _ rfl rfl 0 rfl (ix2 (0 : Fin 1) j)
      (fun b => match b with | ⟨0, _⟩ => fun h => absurd rfl h | ⟨1, _⟩ => fun _ => rfl) rfl).trans
      (broadcastInDim_apply _ _ _ _ (ix1 j) fun a => match a with | ⟨0, _⟩ => rfl)
  · exact (concatenate_apply_piece 0 _ _ (ix2 (1 : Fin 4) j) 1 (by simp) S1x64 _ rfl rfl 1 rfl (ix2 (0 : Fin 1) j)
      (fun b => match b with | ⟨0, _⟩ => fun h => absurd rfl h | ⟨1, _⟩ => fun _ => rfl) rfl).trans
      (broadcastInDim_apply _ _ _ _ (ix1 j) fun a => match a with | ⟨0, _⟩ => rfl)
  · exact (concatenate_apply_piece 0 _ _ (ix2 (2 : Fin 4) j) 2 (by simp) S1x64 _ rfl rfl 2 rfl (ix2 (0 : Fin 1) j)
      (fun b => match b with | ⟨0, _⟩ => fun h => absurd rfl h | ⟨1, _⟩ => fun _ => rfl) rfl).trans
      (broadcastInDim_apply _ _ _ _ (ix1 j) fun a => match a with | ⟨0, _⟩ => rfl)
  · exact (concatenate_apply_piece 0 _ _ (ix2 (3 : Fin 4) j) 3 (by simp) S1x64 _ rfl rfl 3 rfl (ix2 (0 : Fin 1) j)
      (fun b => match b with | ⟨0, _⟩ => fun h => absurd rfl h | ⟨1, _⟩ => fun _ => rfl) rfl).trans
      (broadcastInDim_apply _ _ _ _ (ix1 j) fun a => match a with | ⟨0, _⟩ => rfl)

/-- The gain, as the host reshapes it. -/
theorem gain (c : Dev nD) (e : Fin 128) :
    V m c main_v5 (ix2 (0 : Fin 1) e) = m ((c : Thread nD τ).loc main_arg7) (ix1 e) := by
  have h : V m c main_v5 = shapeCast S1x128 (m ((c : Thread nD τ).loc main_arg7)) shapeCasts_S128_S1x128 := by
    unfold V
    after_results_simp <;> rfl
  rw [h]
  exact shapeCast_a_1a_apply _ _ _ _

end Cert.Diff

end
-- ==== Proof.Weights.lean ====
/-
  A softmax written out over all its scores at once: each quotient is the weight, whatever real number the scores are
  shifted by, and sums of weights times values are the average.
-/
module

public import proofs.«01_k».proof.Proof.Softmax

@[expose] public section

noncomputable section

namespace Cert.Softmax

open Idealize.ShloMosaic Finset

/-- One quotient of a softmax. -/
theorem div_weight (s : ℕ → ℝ) {n : ℕ} (hn : 0 < n) (M : ℝ) (k : ℕ) :
    Ideal.div (Ideal.exp ((s k : EReal) - M)) (0 + ∑ j : Fin n, Ideal.exp ((s j.val : EReal) - M)) = (weight s n k : EReal) := by
  have e : ∀ j, Ideal.exp ((s j : EReal) - M) = ((Real.exp (s j - M) : ℝ) : EReal) := fun j => by
    rw [← EReal.coe_sub, Ideal.exp_coe]
  simp only [e, zero_add, ← coe_sum]
  rw [← Finset.sum_range (fun j => Real.exp (s j - M)), Ideal.div_coe (sum_exp_pos s M hn).ne', ← EReal.coe_mul, mul_one_div,
    weight_shift]

/-- The average as a sum over the keys' indices. -/
theorem soft_fin (s : ℕ → ℝ) (v : ℕ → EReal) (n : ℕ) : ∑ k : Fin n, (weight s n k.val : EReal) * v k.val = soft s v n :=
  (Finset.sum_range (fun k => (weight s n k : EReal) * v k)).symm

/-- Weighing values by a difference of two softmaxes is the difference of the two averages. -/
theorem soft_diff (s0 s1 : ℕ → ℝ) (v : ℕ → EReal) (hv : ∀ k, ∃ x : ℝ, v k = x) {w : EReal} (hw : ∃ x : ℝ, w = x) (n : ℕ) :
    ∑ k : Fin n, ((weight s0 n k.val : EReal) - w * (weight s1 n k.val : EReal)) * v k.val = soft s0 v n - w * soft s1 v n := by
  choose x hx using hv
  obtain ⟨y, rfl⟩ := hw
  obtain rfl : v = fun k => (x k : EReal) := funext hx
  rw [soft_real, soft_real, ← EReal.coe_mul, ← EReal.coe_sub, Finset.mul_sum, ← Finset.sum_sub_distrib, coe_sum,
    Finset.sum_range (fun k => ((weight s0 n k * x k - y * (weight s1 n k * x k) : ℝ) : EReal))]
  refine Finset.sum_congr rfl fun k _ => ?_
  rw [← EReal.coe_mul, ← EReal.coe_sub, ← EReal.coe_mul]
  congr 1
  ring

/-- The greater of minus infinity and the greatest of real numbers is a real number. -/
theorem max_real {n : ℕ} (hn : 0 < n) (f : Fin n → EReal) (hf : ∀ k, ∃ x : ℝ, f k = x) :
    ∃ x : ℝ, max (⊥ : EReal) ((Finset.univ : Finset (Fin n)).fold max (⊥ : EReal) f) = x := by
  obtain ⟨x, hx⟩ := fold_max_real Finset.univ ⟨⟨0, hn⟩, Finset.mem_univ _⟩ f hf
  exact ⟨x, by rw [hx]; exact max_eq_right bot_le⟩

end Cert.Softmax

end
-- ==== Proof.DiffRefHeads.lean ====
/-
  What the reference's differential attention reads: the heads of queries, keys and values, and the weight of the second
  softmax.
-/
module

public import proofs.«01_k».proof.Proof.DiffSpec
public import proofs.«01_k».proof.Proof.Weights
public import proofs.«01_k».proof.Proof.Tile
public import proofs.«01_k».proof.Proof.Gen.ReferenceIdeal.Read

@[expose] public section

noncomputable section

namespace Cert.DiffRef

open Idealize.ShloMosaic Idealize.ShloMosaic.TcCoe Idealize.SL.Sem Idealize.ShloMosaic.ValueIdx
open Cert.ReferenceIdeal Cert.ReferenceIdeal.Gen Cert.ReferenceIdeal.Read Cert.Softmax

theorem q_head (x0 : DiffSpec.Tokens) (b : Fin 8) (h : Fin 6) (p : Fin 2) (R : Fin 8448) (j : Fin 64) :
    val_main_v10 (F := Ideal) x0 (ix5 b h p R j) = x0 (ix3 b R (DiffSpec.lane h p j)) := by
  rw [val_main_v10_apply, val_main_v9_apply]
  refine congrArg x0 (funext fun a => Fin.ext ?_)
  match a with
  | ⟨0, _⟩ => show ((((b.val * 8448 + R.val) * 6 + h.val) * 2 + p.val) * 64 + j.val) / 6488064 = b.val; omega
  | ⟨1, _⟩ => show ((((b.val * 8448 + R.val) * 6 + h.val) * 2 + p.val) * 64 + j.val) / 768 % 8448 = R.val; omega
  | ⟨2, _⟩ => show ((((b.val * 8448 + R.val) * 6 + h.val) * 2 + p.val) * 64 + j.val) % 768 = 128 * h.val + (64 * p.val + j.val); omega

theorem k_head (x1 : DiffSpec.Tokens) (b : Fin 8) (h : Fin 6) (p : Fin 2) (K : Fin 8448) (j : Fin 64) :
    val_main_v13 (F := Ideal) x1 (ix5 b h p K j) = x1 (ix3 b K (DiffSpec.lane h p j)) := by
  rw [val_main_v13_apply, val_main_v12_apply]
  refine congrArg x1 (funext fun a => Fin.ext ?_)
  match a with
  | ⟨0, _⟩ => show ((((b.val * 8448 + K.val) * 6 + h.val) * 2 + p.val) * 64 + j.val) / 6488064 = b.val; omega
  | ⟨1, _⟩ => show ((((b.val * 8448 + K.val) * 6 + h.val) * 2 + p.val) * 64 + j.val) / 768 % 8448 = K.val; omega
  | ⟨2, _⟩ => show ((((b.val * 8448 + K.val) * 6 + h.val) * 2 + p.val) * 64 + j.val) % 768 = 128 * h.val + (64 * p.val + j.val); omega

theorem v_head (x2 : DiffSpec.Tokens) (b : Fin 8) (h : Fin 6) (K : Fin 8448) (d : Fin 128) :
    val_main_v16 (F := Ideal) x2 (ix4 b h K d) = x2 (ix3 b K (DiffSpec.wide h d)) := by
  rw [val_main_v16_apply, val_main_v15_apply]
  refine congrArg x2 (funext fun a => Fin.ext ?_)
  match a with
  | ⟨0, _⟩ => show (((b.val * 8448 + K.val) * 6 + h.val) * 128 + d.val) / 6488064 = b.val; omega
  | ⟨1, _⟩ => show (((b.val * 8448 + K.val) * 6 + h.val) * 128 + d.val) / 768 % 8448 = K.val; omega
  | ⟨2, _⟩ => show (((b.val * 8448 + K.val) * 6 + h.val) * 128 + d.val) % 768 = 128 * h.val + d.val; omega

/-- A sum over the indices of a vector is the sum over its one coordinate. -/
theorem sum_vector {n : ℕ} (f : (⟨1, ![n]⟩ : Shape).Idx → EReal) : ∑ i, f i = ∑ j : Fin n, f (ix1 j) :=
  (Equiv.sum_comp (⟨fun j => ix1 j, fun i => i 0, fun _ => rfl, fun i => funext fun a => match a with | ⟨0, _⟩ => rfl⟩ :
    Fin n ≃ (⟨1, ![n]⟩ : Shape).Idx) f).symm

theorem weight_apply (x3 x4 x5 x6 : (⟨1, ![64]⟩ : Shape).Idx → EReal) (i : S_.Idx) :
    val_main_v7 (F := Ideal) x3 x4 x5 x6 i
      = DiffSpec.lam (fun j => x3 (ix1 j)) (fun j => x4 (ix1 j)) (fun j => x5 (ix1 j)) (fun j => x6 (ix1 j)) := by
  rw [val_main_v7_apply, val_main_v6_apply, val_main_v2_apply, val_main_v5_apply, val_main_v1_apply, val_main_v4_apply,
    sum_vector, sum_vector]
  show Ideal.exp (Ideal.ofBits .f32 0x00000000#32 + ∑ j : Fin 64, x3 (ix1 j) * x4 (ix1 j))
    - Ideal.exp (Ideal.ofBits .f32 0x00000000#32 + ∑ j : Fin 64, x5 (ix1 j) * x6 (ix1 j)) + _ = _
  rw [Ideal.ofBits_zero_f32, zero_add, zero_add]
  rfl

/-- The weight of the second softmax is a real number when the four vectors are. -/
theorem lam_real {l1 l2 l3 l4 : Fin 64 → EReal} (h1 : ∀ j, ∃ r : ℝ, l1 j = r) (h2 : ∀ j, ∃ r : ℝ, l2 j = r)
    (h3 : ∀ j, ∃ r : ℝ, l3 j = r) (h4 : ∀ j, ∃ r : ℝ, l4 j = r) : ∃ r : ℝ, DiffSpec.lam l1 l2 l3 l4 = r := by
  obtain ⟨a, ha⟩ := DiffSpec.sum_real Finset.univ fun j => DiffSpec.mul_real (h1 j) (h2 j)
  obtain ⟨b, hb⟩ := DiffSpec.sum_real Finset.univ fun j => DiffSpec.mul_real (h3 j) (h4 j)
  have hc : ∃ r : ℝ, Ideal.ofBits .f32 0x3E4CCCCD#32 = r := by
    simp only [Ideal.ofBits, Ideal.ieee]
    rw [if_neg (by decide), if_neg (by decide)]
    exact ⟨_, rfl⟩
  obtain ⟨z, hz⟩ := hc
  rw [DiffSpec.lam, ha, hb, hz, Ideal.exp_coe, Ideal.exp_coe, ← EReal.coe_sub, ← EReal.coe_add]
  exact ⟨_, rfl⟩

/-- The values of a head are real numbers. -/
theorem value_real {v : DiffSpec.Tokens} (hv : DiffSpec.Real' v) (b : Fin 8) (h : Fin 6) (d : Fin 128) (n : ℕ) :
    ∃ r : ℝ, DiffSpec.value v b h n d = r := by
  unfold DiffSpec.value
  split
  · exact hv _
  · exact ⟨0, rfl⟩

end Cert.DiffRef

end
-- ==== Proof.DiffRefLatents.lean ====
/-
  The reference's differential attention of the queries after the context, over all 8448 keys.
-/
module

public import proofs.«01_k».proof.Proof.DiffRefHeads

@[expose] public section

noncomputable section

namespace Cert.DiffRef

open Idealize.ShloMosaic Idealize.ShloMosaic.TcCoe Idealize.SL.Sem Idealize.ShloMosaic.ValueIdx
open Cert.ReferenceIdeal Cert.ReferenceIdeal.Gen Cert.ReferenceIdeal.Read Cert.Softmax

/-- The row of the whole sequence a query stands at. -/
def rowL (R : Fin 8192) : Fin 8448 := ⟨256 + R.val, by omega⟩

/-- Key `k` of the whole sequence. -/
def keyL (k : Fin 8448) : Fin 8448 := ⟨k.val, by omega⟩

theorem scoreL {x0 x1 : DiffSpec.Tokens} (hq : DiffSpec.Real' x0) (hk : DiffSpec.Real' x1) (b : Fin 8) (h : Fin 6) (p : Fin 2)
    (R : Fin 8192) (k : Fin 8448) :
    val_main_v18 (F := Ideal) x0 x1 (ix5 b h p R k) = (DiffSpec.score x0 x1 b h p (rowL R) k.val : EReal) := by
  rw [val_main_v18_apply, ← show (keyL k).val = k.val from rfl, ← DiffSpec.dot_eq_score hq hk]
  refine Finset.sum_congr rfl fun j _ => ?_
  rw [val_main_v17_apply]
  refine congrArg₂ (· * ·) ((congrArg _ (funext fun a => Fin.ext ?_)).trans (q_head x0 b h p (rowL R) j))
    ((congrArg _ (funext fun a => Fin.ext ?_)).trans (k_head x1 b h p (keyL k) j))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The shift is a real number. -/
theorem shiftL {x0 x1 : DiffSpec.Tokens} (hq : DiffSpec.Real' x0) (hk : DiffSpec.Real' x1) (b : Fin 8) (h : Fin 6) (p : Fin 2)
    (R : Fin 8192) : ∃ M : ℝ, val_main_v21 (F := Ideal) x0 x1 (ix4 b h p R) = (M : EReal) := by
  obtain ⟨M, hM⟩ := max_real (n := 8448) (by omega) (fun k => val_main_v18 (F := Ideal) x0 x1 (ix5 b h p R k))
    fun k => ⟨_, scoreL hq hk b h p R k⟩
  refine ⟨M, hM ▸ ?_⟩
  rw [val_main_v21_apply, val_main_v20_apply, val_main_v19]
  rw [Host.reduce_eq_fold_single FloatOps.maximumf _ _ reducesTo_S8x6x2x8192x8448_S8x6x2x8192_d4
    (by decide : S8x6x2x8192x8448.Reduces [4] S8x6x2x8192) h_S_]
  show max (Ideal.ofBits .f32 0xFF800000#32) (Finset.fold max (Ideal.ofBits .f32 0xFF800000#32) _ _) = _
  rw [Cert.Tile.ofBits_neg_inf]
  refine congrArg (max (⊥ : EReal)) (congrArg (fun f => Finset.fold max (⊥ : EReal) f Finset.univ) (funext fun k => ?_))
  refine congrArg (val_main_v18 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

/-- One quotient of the softmax. -/
theorem quotientL {x0 x1 : DiffSpec.Tokens} (hq : DiffSpec.Real' x0) (hk : DiffSpec.Real' x1) (b : Fin 8) (h : Fin 6) (p : Fin 2)
    (R : Fin 8192) (k : Fin 8448) :
    val_main_v29 (F := Ideal) x0 x1 (ix5 b h p R k) = (weight (DiffSpec.score x0 x1 b h p (rowL R)) 8448 k.val : EReal) := by
  obtain ⟨M, hM⟩ := shiftL hq hk b h p R
  have e : ∀ j : Fin 8448, val_main_v25 (F := Ideal) x0 x1 (ix5 b h p R j)
      = Ideal.exp ((DiffSpec.score x0 x1 b h p (rowL R) j.val : EReal) - M) := by
    intro j
    rw [val_main_v25_apply, val_main_v24_apply, val_main_v23_apply, val_main_v22_apply, scoreL hq hk]
    have : idx_main_v22 (idx_main_v23 (ix5 b h p R j)) = ix4 b h p R := funext fun a => match a with
      | ⟨0, _⟩ => rfl | ⟨1, _⟩ => rfl | ⟨2, _⟩ => rfl | ⟨3, _⟩ => rfl
    rw [this, hM]
    rfl
  rw [val_main_v29_apply, val_main_v28_apply, val_main_v27_apply, val_main_v26_apply, e]
  rw [← div_weight (DiffSpec.score x0 x1 b h p (rowL R)) (n := 8448) (by omega) M k.val]
  refine congrArg₂ Ideal.div rfl (congrArg₂ (· + ·) Ideal.ofBits_zero_f32 (Finset.sum_congr rfl fun j _ => ?_))
  rw [← e]
  refine congrArg (val_main_v25 (F := Ideal) x0 x1) (funext fun a => ?_)
  match a with
  | ⟨0, _⟩ => rfl
  | ⟨1, _⟩ => rfl
  | ⟨2, _⟩ => rfl
  | ⟨3, _⟩ => rfl
  | ⟨4, _⟩ => rfl

/-- Half 0 of the weights. -/
theorem firstL (x0 x1 : DiffSpec.Tokens) (b : Fin 8) (h : Fin 6) (R : Fin 8192) (k : Fin 8448) :
    val_main_v31 (F := Ideal) x0 x1 (ix4 b h R k) = val_main_v29 (F := Ideal) x0 x1 (ix5 b h 0 R k) := by
  rw [val_main_v31_apply, val_main_v30_apply]
  refine congrArg (val_main_v29 (F := Ideal) x0 x1) (funext fun a => Fin.ext ?_)
  match a with
  | ⟨0, _⟩ => show (((b.val * 6 + h.val) * 8192 + R.val) * 8448 + k.val) / 415236096 = b.val; omega
  | ⟨1, _⟩ => show (((b.val * 6 + h.val) * 8192 + R.val) * 8448 + k.val) / 69206016 % 6 = h.val; omega
  | ⟨2, _⟩ => rfl
  | ⟨3, _⟩ => show (((b.val * 6 + h.val) * 8192 + R.val) * 8448 + k.val) / 8448 % 8192 = R.val; omega
  | ⟨4, _⟩ => show (((b.val * 6 + h.val) * 8192 + R.val) * 8448 + k.val) % 8448 = k.val; omega

/-- Half 1 of the weights. -/
theorem secondL (x0 x1 : DiffSpec.Tokens) (b : Fin 8) (h : Fin 6) (R : Fin 8192) (k : Fin 8448) :
    val_main_v33 (F := Ideal) x0 x1 (ix4 b h R k) = val_main_v29 (F := Ideal) x0 x1 (ix5 b h 1 R k) := by
  rw [val_main_v33_apply, val_main_v32_apply]
  refine congrArg (val_main_v29 (F := Ideal) x0 x1) (funext fun a => Fin.ext ?_)
  match a with
  | ⟨0, _⟩ => show (((b.val * 6 + h.val) * 8192 + R.val) * 8448 + k.val) / 415236096 = b.val; omega
  | ⟨1, _⟩ => show (((b.val * 6 + h.val) * 8192 + R.val) * 8448 + k.val) / 69206016 % 6 = h.val; omega
  | ⟨2, _⟩ => rfl
  | ⟨3, _⟩ => show (((b.val * 6 + h.val) * 8192 + R.val) * 8448 + k.val) / 8448 % 8192 = R.val; omega
  | ⟨4, _⟩ => show (((b.val * 6 + h.val) * 8192 + R.val) * 8448 + k.val) % 8448 = k.val; omega

/-- The head before the norm. -/
theorem headL {x0 x1 x2 : DiffSpec.Tokens} (hq : DiffSpec.Real' x0) (hk : DiffSpec.Real' x1) (hv : DiffSpec.Real' x2)
    (x3 x4 x5 x6 : (⟨1, ![64]⟩ : Shape).Idx → EReal)
    (hl : ∃ r : ℝ, DiffSpec.lam (fun j => x3 (ix1 j)) (fun j => x4 (ix1 j)) (fun j => x5 (ix1 j)) (fun j => x6 (ix1 j)) = r)
    (b : Fin 8) (h : Fin 6) (R : Fin 8192) (d : Fin 128) :
    val_main_v37 (F := Ideal) x0 x1 x2 x3 x4 x5 x6 (ix4 b h R d)
      = DiffSpec.head x0 x1 x2 (DiffSpec.lam (fun j => x3 (ix1 j)) (fun j => x4 (ix1 j)) (fun j => x5 (ix1 j)) (fun j => x6 (ix1 j)))
        b h (rowL R) d := by
  have hn : DiffSpec.keys (rowL R).val = 8448 := by
    unfold DiffSpec.keys rowL
    rw [if_neg (by show ¬ 256 + R.val < 256; omega)]
  rw [DiffSpec.head, hn, ← soft_diff _ _ _ (fun n => value_real hv b h d n) hl, val_main_v37_apply]
  refine Finset.sum_congr rfl fun k _ => ?_
  have el : lidx_main_v37 (ix4 b h R d) k = ix4 b h R k := funext fun a => match a with
    | ⟨0, _⟩ => rfl | ⟨1, _⟩ => rfl | ⟨2, _⟩ => rfl | ⟨3, _⟩ => rfl
  have er : val_main_v16 (F := Ideal) x2 (ridx_main_v37 (ix4 b h R d) k) = DiffSpec.value x2 b h k.val d := by
    rw [DiffSpec.value_lt x2 b h k d, ← v_head x2 b h k d]
    exact congrArg _ (funext fun a => match a with
      | ⟨0, _⟩ => rfl | ⟨1, _⟩ => rfl | ⟨2, _⟩ => rfl | ⟨3, _⟩ => rfl)
  rw [el, er, val_main_v36_apply, val_main_v35_apply, val_main_v34_apply, weight_apply, firstL, secondL, quotientL hq hk, quotientL hq hk]
  rfl

end Cert.DiffRef

end
-- ==== Proof.DiffRefContext.lean ====
/-
  The reference's differential attention of the context's queries, over the context's 256 keys.
-/
module

public import proofs.«01_k».proof.Proof.DiffRefHeads

@[expose] public section

noncomputable section

namespace Cert.DiffRef

open Idealize.ShloMosaic Idealize.ShloMosaic.TcCoe Idealize.SL.Sem Idealize.ShloMosaic.ValueIdx
open Cert.ReferenceIdeal Cert.ReferenceIdeal.Gen Cert.ReferenceIdeal.Read Cert.Softmax

/-- The row of the whole sequence a query stands at. -/
def rowC (R : Fin 256) : Fin 8448 := ⟨R.val, by omega⟩

/-- Key `k` of the whole sequence. -/
def keyC (k : Fin 256) : Fin 8448 := ⟨k.val, by omega⟩

theorem scoreC {x0 x1 : DiffSpec.Tokens} (hq : DiffSpec.Real' x0) (hk : DiffSpec.Real' x1) (b : Fin 8) (h : Fin 6) (p : Fin 2)
    (R : Fin 256) (k : Fin 256) :
    val_main_v41 (F := Ideal) x0 x1 (ix5 b h p R k) = (DiffSpec.score x0 x1 b h p (rowC R) k.val : EReal) := by
  rw [val_main_v41_apply, ← show (keyC k).val = k.val from rfl, ← DiffSpec.dot_eq_score hq hk]
  refine Finset.sum_congr rfl fun j _ => ?_
  rw [val_main_v38_apply, val_main_v39_apply]
  refine congrArg₂ (· * ·) ((congrArg _ (funext fun a => Fin.ext ?_)).trans (q_head x0 b h p (rowC R) j))
    ((congrArg _ (funext fun a => Fin.ext ?_)).trans (k_head x1 b h p (keyC k) j))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The shift is a real number. -/
theorem shiftC {x0 x1 : DiffSpec.Tokens} (hq : DiffSpec.Real' x0) (hk : DiffSpec.Real' x1) (b : Fin 8) (h : Fin 6) (p : Fin 2)
    (R : Fin 256) : ∃ M : ℝ, val_main_v44 (F := Ideal) x0 x1 (ix4 b h p R) = (M : EReal) := by
  obtain ⟨M, hM⟩ := max_real (n := 256) (by omega) (fun k => val_main_v41 (F := Ideal) x0 x1 (ix5 b h p R k))
    fun k => ⟨_, scoreC hq hk b h p R k⟩
  refine ⟨M, hM ▸ ?_⟩
  rw [val_main_v44_apply, val_main_v43_apply, val_main_v42]
  rw [Host.reduce_eq_fold_single FloatOps.maximumf _ _ reducesTo_S8x6x2x256x256_S8x6x2x256_d4
    (by decide : S8x6x2x256x256.Reduces [4] S8x6x2x256) h_S_]
  show max (Ideal.ofBits .f32 0xFF800000#32) (Finset.fold max (Ideal.ofBits .f32 0xFF800000#32) _ _) = _
  rw [Cert.Tile.ofBits_neg_inf]
  refine congrArg (max (⊥ : EReal)) (congrArg (fun f => Finset.fold max (⊥ : EReal) f Finset.univ) (funext fun k => ?_))
  refine congrArg (val_main_v41 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

/-- One quotient of the softmax. -/
theorem quotientC {x0 x1 : DiffSpec.Tokens} (hq : DiffSpec.Real' x0) (hk : DiffSpec.Real' x1) (b : Fin 8) (h : Fin 6) (p : Fin 2)
    (R : Fin 256) (k : Fin 256) :
    val_main_v52 (F := Ideal) x0 x1 (ix5 b h p R k) = (weight (DiffSpec.score x0 x1 b h p (rowC R)) 256 k.val : EReal) := by
  obtain ⟨M, hM⟩ := shiftC hq hk b h p R
  have e : ∀ j : Fin 256, val_main_v48 (F := Ideal) x0 x1 (ix5 b h p R j)
      = Ideal.exp ((DiffSpec.score x0 x1 b h p (rowC R) j.val : EReal) - M) := by
    intro j
    rw [val_main_v48_apply, val_main_v47_apply, val_main_v46_apply, val_main_v45_apply, scoreC hq hk]
    have : idx_main_v45 (idx_main_v46 (ix5 b h p R j)) = ix4 b h p R := funext fun a => match a with
      | ⟨0, _⟩ => rfl | ⟨1, _⟩ => rfl | ⟨2, _⟩ => rfl | ⟨3, _⟩ => rfl
    rw [this, hM]
    rfl
  rw [val_main_v52_apply, val_main_v51_apply, val_main_v50_apply, val_main_v49_apply, e]
  rw [← div_weight (DiffSpec.score x0 x1 b h p (rowC R)) (n := 256) (by omega) M k.val]
  refine congrArg₂ Ideal.div rfl (congrArg₂ (· + ·) Ideal.ofBits_zero_f32 (Finset.sum_congr rfl fun j _ => ?_))
  rw [← e]
  refine congrArg (val_main_v48 (F := Ideal) x0 x1) (funext fun a => ?_)
  match a with
  | ⟨0, _⟩ => rfl
  | ⟨1, _⟩ => rfl
  | ⟨2, _⟩ => rfl
  | ⟨3, _⟩ => rfl
  | ⟨4, _⟩ => rfl

/-- Half 0 of the weights. -/
theorem firstC (x0 x1 : DiffSpec.Tokens) (b : Fin 8) (h : Fin 6) (R : Fin 256) (k : Fin 256) :
    val_main_v54 (F := Ideal) x0 x1 (ix4 b h R k) = val_main_v52 (F := Ideal) x0 x1 (ix5 b h 0 R k) := by
  rw [val_main_v54_apply, val_main_v53_apply]
  refine congrArg (val_main_v52 (F := Ideal) x0 x1) (funext fun a => Fin.ext ?_)
  match a with
  | ⟨0, _⟩ => show (((b.val * 6 + h.val) * 256 + R.val) * 256 + k.val) / 393216 = b.val; omega
  | ⟨1, _⟩ => show (((b.val * 6 + h.val) * 256 + R.val) * 256 + k.val) / 65536 % 6 = h.val; omega
  | ⟨2, _⟩ => rfl
  | ⟨3, _⟩ => show (((b.val * 6 + h.val) * 256 + R.val) * 256 + k.val) / 256 % 256 = R.val; omega
  | ⟨4, _⟩ => show (((b.val * 6 + h.val) * 256 + R.val) * 256 + k.val) % 256 = k.val; omega

/-- Half 1 of the weights. -/
theorem secondC (x0 x1 : DiffSpec.Tokens) (b : Fin 8) (h : Fin 6) (R : Fin 256) (k : Fin 256) :
    val_main_v56 (F := Ideal) x0 x1 (ix4 b h R k) = val_main_v52 (F := Ideal) x0 x1 (ix5 b h 1 R k) := by
  rw [val_main_v56_apply, val_main_v55_apply]
  refine congrArg (val_main_v52 (F := Ideal) x0 x1) (funext fun a => Fin.ext ?_)
  match a with
  | ⟨0, _⟩ => show (((b.val * 6 + h.val) * 256 + R.val) * 256 + k.val) / 393216 = b.val; omega
  | ⟨1, _⟩ => show (((b.val * 6 + h.val) * 256 + R.val) * 256 + k.val) / 65536 % 6 = h.val; omega
  | ⟨2, _⟩ => rfl
  | ⟨3, _⟩ => show (((b.val * 6 + h.val) * 256 + R.val) * 256 + k.val) / 256 % 256 = R.val; omega
  | ⟨4, _⟩ => show (((b.val * 6 + h.val) * 256 + R.val) * 256 + k.val) % 256 = k.val; omega

/-- The head before the norm. -/
theorem headC {x0 x1 x2 : DiffSpec.Tokens} (hq : DiffSpec.Real' x0) (hk : DiffSpec.Real' x1) (hv : DiffSpec.Real' x2)
    (x3 x4 x5 x6 : (⟨1, ![64]⟩ : Shape).Idx → EReal)
    (hl : ∃ r : ℝ, DiffSpec.lam (fun j => x3 (ix1 j)) (fun j => x4 (ix1 j)) (fun j => x5 (ix1 j)) (fun j => x6 (ix1 j)) = r)
    (b : Fin 8) (h : Fin 6) (R : Fin 256) (d : Fin 128) :
    val_main_v60 (F := Ideal) x0 x1 x2 x3 x4 x5 x6 (ix4 b h R d)
      = DiffSpec.head x0 x1 x2 (DiffSpec.lam (fun j => x3 (ix1 j)) (fun j => x4 (ix1 j)) (fun j => x5 (ix1 j)) (fun j => x6 (ix1 j)))
        b h (rowC R) d := by
  have hn : DiffSpec.keys (rowC R).val = 256 := by
    unfold DiffSpec.keys rowC
    rw [if_pos R.isLt]
  rw [DiffSpec.head, hn, ← soft_diff _ _ _ (fun n => value_real hv b h d n) hl, val_main_v60_apply]
  refine Finset.sum_congr rfl fun k _ => ?_
  have el : lidx_main_v60 (ix4 b h R d) k = ix4 b h R k := funext fun a => match a with
    | ⟨0, _⟩ => rfl | ⟨1, _⟩ => rfl | ⟨2, _⟩ => rfl | ⟨3, _⟩ => rfl
  have er : val_main_v40 (F := Ideal) x2 (ridx_main_v60 (ix4 b h R d) k) = DiffSpec.value x2 b h k.val d := by
    rw [← show (keyC k).val = k.val from rfl, DiffSpec.value_lt x2 b h (keyC k) d, ← v_head x2 b h (keyC k) d, val_main_v40_apply]
    exact congrArg _ (funext fun a => match a with
      | ⟨0, _⟩ => rfl | ⟨1, _⟩ => rfl | ⟨2, _⟩ => rfl | ⟨3, _⟩ => rfl)
  rw [el, er, val_main_v59_apply, val_main_v58_apply, val_main_v57_apply, weight_apply, firstC, secondC, quotientC hq hk, quotientC hq hk]
  rfl

end Cert.DiffRef

end
-- ==== Proof.DiffRef.lean ====
/-
  The reference's differential attention is the formula of `DiffSpec`.
-/
module

public import proofs.«01_k».proof.Proof.DiffRefLatents
public import proofs.«01_k».proof.Proof.DiffRefContext

@[expose] public section

noncomputable section

namespace Cert.DiffRef

open Idealize.ShloMosaic Idealize.ShloMosaic.TcCoe Idealize.SL.Sem Idealize.ShloMosaic.ValueIdx
open Cert.ReferenceIdeal Cert.ReferenceIdeal.Gen Cert.ReferenceIdeal.Read Cert.Softmax

section
variable {x0 x1 x2 : DiffSpec.Tokens} (hq : DiffSpec.Real' x0) (hk : DiffSpec.Real' x1) (hv : DiffSpec.Real' x2)
  (x3 x4 x5 x6 : (⟨1, ![64]⟩ : Shape).Idx → EReal) (x7 : (⟨1, ![128]⟩ : Shape).Idx → EReal)
  (hl : ∃ r : ℝ, DiffSpec.lam (fun j => x3 (ix1 j)) (fun j => x4 (ix1 j)) (fun j => x5 (ix1 j)) (fun j => x6 (ix1 j)) = r)

include hq hk hv hl in
/-- The context's rows and the latents' rows, one after the other. -/
theorem head (b : Fin 8) (h : Fin 6) (R : Fin 8448) (d : Fin 128) :
    val_main_v61 (F := Ideal) x0 x1 x2 x3 x4 x5 x6 (ix4 b h R d)
      = DiffSpec.head x0 x1 x2 (DiffSpec.lam (fun j => x3 (ix1 j)) (fun j => x4 (ix1 j)) (fun j => x5 (ix1 j)) (fun j => x6 (ix1 j)))
        b h R d := by
  unfold val_main_v61
  by_cases hR : R.val < 256
  · rw [show DiffSpec.head x0 x1 x2 _ b h R d = DiffSpec.head x0 x1 x2 _ b h (rowC ⟨R.val, hR⟩) d from rfl,
      ← headC hq hk hv x3 x4 x5 x6 hl b h ⟨R.val, hR⟩ d]
    generalize val_main_v60 (F := Ideal) x0 x1 x2 x3 x4 x5 x6 = u
    generalize val_main_v37 (F := Ideal) x0 x1 x2 x3 x4 x5 x6 = w
    exact concatenate_pair_apply_left (t := S8x6x8448x128) (a := 2) (s₁ := S8x6x256x128) (s₂ := S8x6x8192x128) _ _ _
      (ix4 b h R d) (hr := rfl) (i := ix4 (n0 := 8) (n1 := 6) (n2 := 256) (n3 := 128) b h ⟨R.val, hR⟩ d) (hi := fun a => match a with
        | ⟨0, _⟩ => rfl | ⟨1, _⟩ => rfl | ⟨2, _⟩ => rfl | ⟨3, _⟩ => rfl)
  · have hr : R.val - 256 < 8192 := by omega
    have e : R = rowL ⟨R.val - 256, hr⟩ := Fin.ext (by show R.val = 256 + (R.val - 256); omega)
    rw [show DiffSpec.head x0 x1 x2 _ b h R d = DiffSpec.head x0 x1 x2 _ b h (rowL ⟨R.val - 256, hr⟩) d from by rw [← e],
      ← headL hq hk hv x3 x4 x5 x6 hl b h ⟨R.val - 256, hr⟩ d]
    generalize val_main_v60 (F := Ideal) x0 x1 x2 x3 x4 x5 x6 = u
    generalize val_main_v37 (F := Ideal) x0 x1 x2 x3 x4 x5 x6 = w
    exact concatenate_pair_apply_right (t := S8x6x8448x128) (a := 2) (s₁ := S8x6x256x128) (s₂ := S8x6x8192x128) _ _ _
      (ix4 b h R d) (hr := rfl) (hr₂ := rfl)
      (i := ix4 (n0 := 8) (n1 := 6) (n2 := 8192) (n3 := 128) b h ⟨R.val - 256, hr⟩ d) (hi := fun a ha => match a with
        | ⟨0, _⟩ => rfl | ⟨1, _⟩ => rfl | ⟨2, _⟩ => absurd rfl ha | ⟨3, _⟩ => rfl)
      (ha := by show R.val - 256 + 256 = R.val; omega)

/-- The mean square of a head. -/
theorem square (b : Fin 8) (h : Fin 6) (R : Fin 8448) (o : Fin 128 → EReal)
    (ho : ∀ d, val_main_v61 (F := Ideal) x0 x1 x2 x3 x4 x5 x6 (ix4 b h R d) = o d) :
    val_main_v63 (F := Ideal) x0 x1 x2 x3 x4 x5 x6 (ix3 b h R) = ∑ e, o e * o e := by
  rw [val_main_v63_apply]
  refine (congrArg₂ (· + ·) Ideal.ofBits_zero_f32 (Finset.sum_congr rfl fun e _ => ?_)).trans (zero_add _)
  have ei : idx_main_v63 (ix3 b h R) e = ix4 b h R e := funext fun a => match a with
    | ⟨0, _⟩ => rfl | ⟨1, _⟩ => rfl | ⟨2, _⟩ => rfl | ⟨3, _⟩ => rfl
  rw [ei, val_main_v62_apply, ho]
  rfl

/-- The norm of a head. -/
theorem norm (b : Fin 8) (h : Fin 6) (R : Fin 8448) (o : Fin 128 → EReal)
    (ho : ∀ d, val_main_v61 (F := Ideal) x0 x1 x2 x3 x4 x5 x6 (ix4 b h R d) = o d) (d : Fin 128) :
    val_main_v76 (F := Ideal) x0 x1 x2 x3 x4 x5 x6 x7 (ix4 b h R d) = DiffSpec.norm o (fun e => x7 (ix1 e)) d := by
  have e1 : idx_main_v64 (idx_main_v70 (ix4 b h R d)) = ix3 b h R := funext fun a => match a with
    | ⟨0, _⟩ => rfl | ⟨1, _⟩ => rfl | ⟨2, _⟩ => rfl
  have e2 : idx_main_v72 (idx_main_v73 (ix4 b h R d)) = ix1 d := funext fun a => match a with
    | ⟨0, _⟩ => rfl
  rw [val_main_v76_apply, val_main_v75_apply, val_main_v74_apply, val_main_v73_apply, val_main_v72_apply, val_main_v71_apply,
    val_main_v70_apply, val_main_v69_apply, val_main_v68_apply, val_main_v67_apply, val_main_v66_apply, val_main_v65_apply,
    val_main_v64_apply, ho, e1, e2, square x3 x4 x5 x6 b h R o ho]
  rfl

include hq hk hv hl in
/-- The whole result. -/
theorem out : val_main_v79 (F := Ideal) x0 x1 x2 x3 x4 x5 x6 x7
    = DiffSpec.out x0 x1 x2 (fun j => x3 (ix1 j)) (fun j => x4 (ix1 j)) (fun j => x5 (ix1 j)) (fun j => x6 (ix1 j))
      (fun e => x7 (ix1 e)) := by
  funext i
  have h2 : (i 2).val < 768 := (i 2).isLt
  have h1 : (i 1).val < 8448 := (i 1).isLt
  have h0 : (i 0).val < 8 := (i 0).isLt
  rw [val_main_v79_apply, val_main_v78_apply, val_main_v77_apply]
  have e : idx_main_v77 (idx_main_v78 i)
      = ix4 (n0 := 8) (n1 := 6) (n2 := 8448) (n3 := 128) (i 0) ⟨(i 2).val / 128, by omega⟩ (i 1) ⟨(i 2).val % 128, by omega⟩ :=
    funext fun a => Fin.ext (match a with
    | ⟨0, _⟩ => by show (((i 0).val * 8448 + (i 1).val) * 768 + (i 2).val) / 6488064 = (i 0).val; omega
    | ⟨1, _⟩ => by show (((i 0).val * 8448 + (i 1).val) * 768 + (i 2).val) / 128 % 6 = (i 2).val / 128; omega
    | ⟨2, _⟩ => by show (((i 0).val * 8448 + (i 1).val) * 768 + (i 2).val) / 768 % 8448 = (i 1).val; omega
    | ⟨3, _⟩ => by show (((i 0).val * 8448 + (i 1).val) * 768 + (i 2).val) % 128 = (i 2).val % 128; omega)
  exact (congrArg (val_main_v76 (F := Ideal) x0 x1 x2 x3 x4 x5 x6 x7) e).trans
    (norm x3 x4 x5 x6 x7 _ _ _ _ (fun d => head hq hk hv x3 x4 x5 x6 hl _ _ _ d) _)

end

end Cert.DiffRef

end
-- ==== Proof.Finite.lean ====
/-
  What the preconditions ask of one entry: an entry whose size is below infinity is a real number.
-/
module

public import proofs.«01_k».proof.Proof.Tile

@[expose] public section

noncomputable section

namespace Cert.Finite

open Idealize.ShloMosaic Idealize.ShloMosaic.ValueIdx

/-- An entry the comparison accepts is a real number. -/
theorem real_of_olt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => exact absurd h (by simp [Ideal.cmp])
  | top => exact absurd h (by simp [Ideal.cmp])
  | coe r => exact ⟨r, rfl⟩

/-- Both of two truth values joined are true. -/
theorem both {x y : BitVec 1} (h : IntOp.andi x y = 1#1) : x = 1#1 ∧ y = 1#1 := by
  revert x y
  decide

end Cert.Finite

end
-- ==== Proof.DiffClaim.lean ====
/-
  The differential attention and its reference end with the same array.
-/
module

public import proofs.«01_k».proof.Defs
public import proofs.«01_k».proof.Proof.DiffArray
public import proofs.«01_k».proof.Proof.DiffRef
public import proofs.«01_k».proof.Proof.Finite
public import proofs.«01_k».proof.Proof.Gen.Pre_diff_finite
public import proofs.«01_k».proof.Proof.Gen.ReferenceIdeal.Run

@[expose] public section

noncomputable section

namespace Cert.Diff

open Idealize.ShloMosaic Idealize.SL.Sem Idealize.ShloMosaic.ValueIdx Idealize.ShloMosaic.TcCoe Cert.Finite

/-- The precondition, entry by entry. -/
theorem finite {x0 x1 x2 : DiffSpec.Tokens} {x3 x4 x5 x6 : (⟨1, ![64]⟩ : Shape).Idx → EReal}
    {x7 : (⟨1, ![128]⟩ : Shape).Idx → EReal}
    (h : (Cert.Pre_diff_finite.fn (F := Ideal) x0 x1 x2 x3 x4 x5 x6 x7).1 = (fun _ => 1#1)
      ∧ (Cert.Pre_diff_finite.fn (F := Ideal) x0 x1 x2 x3 x4 x5 x6 x7).2 = (fun _ => 1#1)) :
    DiffSpec.Real' x0 ∧ DiffSpec.Real' x1 ∧ DiffSpec.Real' x2 ∧ (∀ j, ∃ r : ℝ, x3 j = r) ∧ (∀ j, ∃ r : ℝ, x4 j = r)
      ∧ (∀ j, ∃ r : ℝ, x5 j = r) ∧ (∀ j, ∃ r : ℝ, x6 j = r) := by
  have h1 := fun i => both (congrFun h.1 i)
  have h2 := fun i => both (congrFun h.2 i)
  exact ⟨fun i => real_of_olt _ (both (h1 i).1).1, fun i => real_of_olt _ (both (h1 i).1).2, fun i => real_of_olt _ (h1 i).2,
    fun j => real_of_olt _ (both (both (h2 j).1).1).1, fun j => real_of_olt _ (both (both (h2 j).1).1).2,
    fun j => real_of_olt _ (both (h2 j).1).2, fun j => real_of_olt _ (h2 j).2⟩

/-- What both programs compute. -/
def result (m : (ℓ : Loc Cert.KernelIdeal.nD Cert.KernelIdeal.τ Cert.KernelIdeal.sig) → Buf (Elt Ideal) ℓ)
    (c : Dev Cert.KernelIdeal.nD) : DiffSpec.Tokens :=
  DiffSpec.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (fun j => m ((c.tc : Thread Cert.KernelIdeal.nD Cert.KernelIdeal.τ).loc Cert.KernelIdeal.main_arg3) (ix1 j))
    (fun j => m ((c.tc : Thread Cert.KernelIdeal.nD Cert.KernelIdeal.τ).loc Cert.KernelIdeal.main_arg4) (ix1 j))
    (fun j => m ((c.tc : Thread Cert.KernelIdeal.nD Cert.KernelIdeal.τ).loc Cert.KernelIdeal.main_arg5) (ix1 j))
    (fun j => m ((c.tc : Thread Cert.KernelIdeal.nD Cert.KernelIdeal.τ).loc Cert.KernelIdeal.main_arg6) (ix1 j))
    (fun e => m ((c.tc : Thread Cert.KernelIdeal.nD Cert.KernelIdeal.τ).loc Cert.KernelIdeal.main_arg7) (ix1 e))

/-- The kernel's array, from its arguments. -/
theorem kernel_result (m : (ℓ : Loc Cert.KernelIdeal.nD Cert.KernelIdeal.τ Cert.KernelIdeal.sig) → Buf (Elt Ideal) ℓ)
    (h : Cert.Pre_KernelIdeal_diff_finite m) (c : Dev Cert.KernelIdeal.nD) :
    (Cert.KernelIdeal.Gen.dats m 0 c).arrAt 5 Cert.KernelIdeal.cfg0.N = result m c := by
  obtain ⟨h0, h1, -⟩ := finite (h c)
  rw [array m c (fun i => by rw [Cert.KernelIdeal.Gen.V_main_arg0]; exact h0 i)
    (fun i => by rw [Cert.KernelIdeal.Gen.V_main_arg1]; exact h1 i)]
  unfold goal result
  rw [Cert.KernelIdeal.Gen.V_main_arg0, Cert.KernelIdeal.Gen.V_main_arg1, Cert.KernelIdeal.Gen.V_main_arg2,
    funext fun j => (stacked m c j).1, funext fun j => (stacked m c j).2.1, funext fun j => (stacked m c j).2.2.1,
    funext fun j => (stacked m c j).2.2.2, funext fun e => gain m c e]

theorem algebraic : Cert.algebraic_KernelIdeal_ReferenceIdeal_pre_diff_finite := by
  intro m ρ m' ρ' hpre hag
  refine ⟨result m, ?_, ?_⟩
  · exact (θ_run _ _ _).mono (fun _ h c => ⟨(h c).1.trans (kernel_result m hpre c), (h c).2⟩)
      (Cert.KernelIdeal.Value.run_blocks m ρ)
  · refine (θ_run _ _ _).mono (fun _ h c => ⟨(h c).1.trans ?_, (h c).2⟩) (Cert.ReferenceIdeal.Value.run m' ρ')
    obtain ⟨h0, h1, h2, h3, h4, h5, h6⟩ := finite (hpre c)
    obtain ⟨e0, e1, e2, e3, e4, e5, e6, e7⟩ := hag c
    rw [Cert.ReferenceIdeal.Read.val_main_v79_eq, e0, e1, e2, e3, e4, e5, e6, e7]
    exact Cert.DiffRef.out h0 h1 h2 _ _ _ _ _ (Cert.DiffRef.lam_real (fun j => h3 _) (fun j => h4 _) (fun j => h5 _) fun j => h6 _)

end Cert.Diff

end
-- ==== Proof.GqaTrip.lean ====
/-
  The grouped-query attention kernel's loop: one trip takes 512 more keys, and the loop takes a latent tile through all of
  them. A tile's carried buffers (shift, sum, weighted sums) hold the online softmax state of its 1024 rows: the tile's
  256 queries in each of the group's four heads, head after head.
-/
module

public import proofs.«01_k».proof.Proof.DiffTile
public import proofs.«01_k».proof.Proof.Gen.Kernel2Ideal.Loops
public import Idealize.ShloMosaic.Lib.VecWindow
public import Idealize.ShloMosaic.Lib.Tactic
public import Idealize.ShloMosaic.Lib.Pipeline.ValueKit.Tiles

@[expose] public section

noncomputable section

namespace Cert.Gqa

open Idealize.ShloMosaic Idealize.ShloMosaic.TcCoe Idealize.SL.Sem Idealize.ShloMosaic.ValueIdx
open Cert.Kernel2Ideal Cert.Kernel2Ideal.Gen Cert.Softmax Cert.Tile

/-- A latent tile (any but the first) makes 16 trips, the first tile none. -/
theorem trips1 (i : grid0.Coords) : (k0_t1_loop i).trips = if (i 2).val = 0 then 0 else 16 := by
  have h : ∀ n : Fin 33, (Scf.Loop.trips (⟨0#32, Scalar.addi 0#32 (Scalar.muli (Scalar.divsi (Scalar.subi
      (Scalar.select (Scalar.cmpi .sgt (BitVec.ofNat 32 n.val) 0#32) 16#32 0#32) 0#32) 1#32) 1#32), 1#32⟩ : Scf.Loop 32))
      = if n.val = 0 then 0 else 16 := by decide +kernel
  exact h ⟨(i 2).val, (i 2).isLt⟩

/-- The remainder loop makes no trip. -/
theorem trips2 (i : grid0.Coords) : (k0_t2_loop i).trips = 0 := by
  have h : ∀ n : Fin 33, (Scf.Loop.trips (⟨Scalar.addi 0#32 (Scalar.muli (Scalar.divsi (Scalar.subi
      (Scalar.select (Scalar.cmpi .sgt (BitVec.ofNat 32 n.val) 0#32) 16#32 0#32) 0#32) 1#32) 1#32),
      Scalar.addi 0#32 (Scalar.subi (Scalar.select (Scalar.cmpi .sgt (BitVec.ofNat 32 n.val) 0#32) 16#32 0#32) 0#32), 1#32⟩ : Scf.Loop 32))
      = 0 := by decide +kernel
  exact h ⟨(i 2).val, (i 2).isLt⟩

theorem trip_lt (i : grid0.Coords) (k : Fin (k0_t1_loop i).trips) : k.val < 16 := by
  have h := k.isLt
  have e := trips1 i
  split at e <;> omega

/-- Trip `k` loads the rows from `256 + 512 k`. -/
theorem off1 (i : grid0.Coords) (k : Fin (k0_t1_loop i).trips) : k0_off1 i k = ![0, 256 + 512 * k.val, 0] := by
  have h : ∀ n : Fin 16, (Scalar.indexCast (Scalar.addi 256#32 (Scalar.muli (Scf.iv 0#32 1#32 n.val) 512#32)) : Index).toNat
      = 256 + 512 * n.val := by decide +kernel
  have e := h ⟨k.val, trip_lt i k⟩
  funext a
  match a with
  | ⟨0, _⟩ => rfl
  | ⟨1, _⟩ => exact e
  | ⟨2, _⟩ => rfl

section Chunk

variable {s : Fin 1024 → ℕ → ℝ} {v : ℕ → Fin 128 → EReal} {n : ℕ}

/-- A trip's arithmetic: 512 keys more for each of the 1024 rows. -/
theorem chunk_rows (q : FVec Ideal S1024x128 .bf16) (k w : Vec Ideal S1x512x128 .bf16) (m l : Vec Ideal S1024x1 .f32)
    (a : Vec Ideal S1024x128 .f32)
    (hS : ∀ r (j : Fin 512), ∑ d : Fin 128, (q (ix2 r d) * k (ix3 (0 : Fin 1) j d) : EReal) = (s r (n + j.val) : EReal))
    (hw : ∀ (j : Fin 512) d, w (ix3 (0 : Fin 1) j d) = v (n + j.val) d) (h : Rows s v n m l a) :
    Rows s v (n + 512) (k0_pay1 (k0_pay8 q k m)) (k0_pay11 q k m l) (k0_pay12 q k w m a) := by
  refine tile_step (T := 512) (by decide) h (k0_pay7 q k) (shapeCast S512x128 w shapeCasts_S1x512x128_S512x128) ?_ ?_
    reduces_S1024x512_S1024 (.inl rfl) rfl rfl shapeCasts_S1024_S1024x1 broadcasts_S1024x1_S1024x512 broadcasts_S1024x1_S1024x128
    dot_S1024x512_S512x128_S1024x128_1_0_0_1_n_n rfl bitsLt_bf16_f32 (α := k0_pay9 q k m) (p := k0_pay10 q k m) ?_ ?_ ?_ ?_ ?_
  · intro r j
    rw [← hS]
    unfold k0_pay7
    refine (matmulNT_apply _ rfl _ _ r j).trans (Finset.sum_congr rfl fun d _ => ?_)
    rw [shapeCast_1ab_ab_apply]
  · intro j d
    rw [shapeCast_1ab_ab_apply, hw]
  · unfold k0_pay1 k0_pay8
    exact shapeCast_self _ _
  · unfold k0_pay9 k0_pay1
    rw [shapeCast_self]
  · unfold k0_pay10 k0_pay1
    rw [shapeCast_self]
  · unfold k0_pay11
    exact shapeCast_self _ _
  · unfold k0_pay12
    exact shapeCast_self _ _

end Chunk

section Loop

variable (c : Dev nD) (i : grid0.Coords) (arg3 : Memref sig .tc .vmem S1x256x256 .bf16) (harg3 : arg3.IsWhole)
  (arg4 : Memref sig .tc .vmem S1x8448x128 .bf16) (harg4 : arg4.IsWhole) (arg5 : Memref sig .tc .vmem S1x8448x128 .bf16) (harg5 : arg5.IsWhole)
  (arg6 : Memref sig .tc .vmem S1x256x256 .bf16) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x128 .f32) (harg9 : arg9.IsWhole)
  (q : FVec Ideal S1024x128 .bf16) (z : BitVec 32) (x1 x2 : Vec Ideal S1x8448x128 .bf16) {s : Fin 1024 → ℕ → ℝ} {v : ℕ → Fin 128 → EReal}

/-- One trip moves the carried rows on by its 512 keys. -/
theorem trip_rows
    (hS : ∀ r (k : Fin 8448), ∑ d : Fin 128, (q (ix2 r d) * x1 (ix3 (0 : Fin 1) k d) : EReal) = (s r k.val : EReal))
    (hV : ∀ (k : Fin 8448) d, x2 (ix3 (0 : Fin 1) k d) = v k.val d) (k : Fin (k0_t1_loop i).trips)
    (f7 : BufTy.Contents (Elt Ideal) arg7.view.ty) (f8 : BufTy.Contents (Elt Ideal) arg8.view.ty) (f9 : BufTy.Contents (Elt Ideal) arg9.view.ty)
    (h : Rows s v (256 + 512 * k.val) (arg7.view.read (Elt Ideal) f7) (arg8.view.read (Elt Ideal) f8) (arg9.view.read (Elt Ideal) f9))
    (g7 : BufTy.Contents (Elt Ideal) arg7.view.ty) (g8 : BufTy.Contents (Elt Ideal) arg8.view.ty) (g9 : BufTy.Contents (Elt Ideal) arg9.view.ty)
    (L7 L8 : List (View.Piece (Elt Ideal) S1024x1 .f32)) (L9 : List (View.Piece (Elt Ideal) S1024x128 .f32)) :
    let T := tripL_k0_t1 (F := Ideal) Variants.none c none i arg3 harg3 arg4 harg4 arg5 harg5 arg6 harg6 arg7 harg7 arg8 harg8 arg9 harg9
      q z (harg4.unread x1) (harg5.unread x2) k f7 f8 f9
    Rows s v (256 + 512 * (k.val + 1)) (arg7.view.read (Elt Ideal) (arg7.view.writes (Elt Ideal) g7 (T.1 ++ L7)))
      (arg8.view.read (Elt Ideal) (arg8.view.writes (Elt Ideal) g8 (T.2.1 ++ L8)))
      (arg9.view.read (Elt Ideal) (arg9.view.writes (Elt Ideal) g9 (T.2.2 ++ L9))) := by
  have hk := trip_lt i k
  intro T
  have hT : T = tripL_k0_t1 (F := Ideal) Variants.none c none i arg3 harg3 arg4 harg4 arg5 harg5 arg6 harg6 arg7 harg7 arg8 harg8 arg9 harg9
      q z (harg4.unread x1) (harg5.unread x2) k f7 f8 f9 := rfl
  rw [hT]
  unfold tripL_k0_t1 trip_k0_t1
  dsimp only
  sl_unfold_words
  simp only [List.cons_append, List.nil_append]
  rw [View.read_writes_full (s := S1024x1), View.read_writes_full (s := S1024x1), View.read_writes_full (s := S1024x128)]
  simp only [View.readAt_full (s := S1024x1), View.readAt_full (s := S1024x128), View.readAt_eq_ld, harg4.read_unread, harg5.read_unread]
  have e : 256 + 512 * (k.val + 1) = 256 + 512 * k.val + 512 := by ring
  rw [e]
  refine chunk_rows q _ _ _ _ _ (fun r j => ?_) (fun j d => ?_) h
  · have hj : 256 + 512 * k.val + j.val < 8448 := by omega
    rw [← hS r ⟨_, hj⟩]
    exact Finset.sum_congr rfl fun d _ => congrArg _ (Diff.ld_chunk x1 _ _ (off1 i k) _ j d hj)
  · have hj : 256 + 512 * k.val + j.val < 8448 := by omega
    rw [← hV ⟨_, hj⟩]
    exact Diff.ld_chunk x2 _ _ (off1 i k) _ j d hj

/-- The loop after `k` trips. -/
theorem loop_rows
    (hS : ∀ r (k : Fin 8448), ∑ d : Fin 128, (q (ix2 r d) * x1 (ix3 (0 : Fin 1) k d) : EReal) = (s r k.val : EReal))
    (hV : ∀ (k : Fin 8448) d, x2 (ix3 (0 : Fin 1) k d) = v k.val d)
    (g7 : BufTy.Contents (Elt Ideal) arg7.view.ty) (g8 : BufTy.Contents (Elt Ideal) arg8.view.ty) (g9 : BufTy.Contents (Elt Ideal) arg9.view.ty)
    (h : Rows s v 256 (arg7.view.read (Elt Ideal) g7) (arg8.view.read (Elt Ideal) g8) (arg9.view.read (Elt Ideal) g9)) :
    ∀ k : ℕ, k ≤ (k0_t1_loop i).trips →
    let P := pb_k0_t1 (F := Ideal) Variants.none c none i arg3 harg3 arg4 harg4 arg5 harg5 arg6 harg6 arg7 harg7 arg8 harg8 arg9 harg9
      q z (harg4.unread x1) (harg5.unread x2) g7 g8 g9 k
    Rows s v (256 + 512 * k) (arg7.view.read (Elt Ideal) (arg7.view.writes (Elt Ideal) g7 P.1))
      (arg8.view.read (Elt Ideal) (arg8.view.writes (Elt Ideal) g8 P.2.1))
      (arg9.view.read (Elt Ideal) (arg9.view.writes (Elt Ideal) g9 P.2.2))
  | 0, _ => by
    intro P
    exact h
  | k + 1, hk => by
    have ih := loop_rows hS hV g7 g8 g9 h k (Nat.le_of_succ_le hk)
    intro P
    have e : P = _ := pb_k0_t1_succ (F := Ideal) Variants.none c none i arg3 harg3 arg4 harg4 arg5 harg5 arg6 harg6 arg7 harg7 arg8 harg8 arg9 harg9
      q z (harg4.unread x1) (harg5.unread x2) g7 g8 g9 ⟨k, hk⟩
    rw [e]
    exact trip_rows c i arg3 harg3 arg4 harg4 arg5 harg5 arg6 harg6 arg7 harg7 arg8 harg8 arg9 harg9 q z x1 x2
      hS hV ⟨k, hk⟩ _ _ _ ih g7 g8 g9 _ _ _

end Loop

end Cert.Gqa

end
-- ==== Proof.GqaBlock.lean ====
/-
  What one block of the grouped-query attention kernel leaves: the first 256 keys, then the loop's trips, then the
  division, and the four heads put side by side.
-/
module

public import proofs.«01_k».proof.Proof.GqaTrip
public import proofs.«01_k».proof.Proof.Gen.Kernel2Ideal.Frame
public import proofs.«01_k».proof.Proof.Gen.Kernel2Ideal.Value
public import Idealize.ShloMosaic.Lib.Pipeline.Value

@[expose] public section

noncomputable section

namespace Cert.Gqa

open Idealize.ShloMosaic Idealize.ShloMosaic.TcCoe Idealize.SL.Sem Idealize.ShloMosaic.ValueIdx
open Cert.Kernel2Ideal Cert.Kernel2Ideal.Gen Cert.Softmax Cert.Tile

section Chunk

variable {s : Fin 1024 → ℕ → ℝ} {v : ℕ → Fin 128 → EReal}

/-- The first 256 keys, from the starting buffers. -/
theorem first_rows (q : FVec Ideal S1024x128 .bf16) (k w : Vec Ideal S1x256x128 .bf16)
    (hS : ∀ r (j : Fin 256), ∑ d : Fin 128, (q (ix2 r d) * k (ix3 (0 : Fin 1) j d) : EReal) = (s r j.val : EReal))
    (hw : ∀ (j : Fin 256) d, w (ix3 (0 : Fin 1) j d) = v j.val d) :
    Rows s v 256 (k0_pay29 q k (k0_pay20 (F := Ideal))) (k0_pay27 q k (k0_pay20 (F := Ideal)) (k0_pay21 (F := Ideal)))
      (k0_pay28 q k w (k0_pay20 (F := Ideal)) (k0_pay22 (F := Ideal))) := by
  have h0 : Rows s v 0 (k0_pay20 (F := Ideal)) (k0_pay21 (F := Ideal)) (k0_pay22 (F := Ideal)) := by
    obtain ⟨M, hM⟩ := Diff.shift_real
    intro r
    refine Online.init M ?_ ?_ ?_
    · unfold k0_pay20
      rw [shapeCast_self]
      exact hM
    · unfold k0_pay21
      rw [shapeCast_self]
      exact Ideal.ofBits_zero_f32
    · intro d
      unfold k0_pay22
      rw [shapeCast_self]
      exact Ideal.ofBits_zero_f32
  have key := tile_step (T := 256) (by decide) h0 (k0_pay23 q k) (shapeCast S256x128 w shapeCasts_S1x256x128_S256x128)
    (m' := k0_pay29 q k (k0_pay20 (F := Ideal))) (l' := k0_pay27 q k (k0_pay20 (F := Ideal)) (k0_pay21 (F := Ideal)))
    (a' := k0_pay28 q k w (k0_pay20 (F := Ideal)) (k0_pay22 (F := Ideal))) ?_ ?_
    reduces_S1024x256_S1024 (.inl rfl) rfl rfl shapeCasts_S1024_S1024x1 broadcasts_S1024x1_S1024x256 broadcasts_S1024x1_S1024x128
    dot_S1024x256_S256x128_S1024x128_1_0_0_1_n_n rfl bitsLt_bf16_f32 (α := k0_pay25 q k (k0_pay20 (F := Ideal)))
    (p := k0_pay26 q k (k0_pay20 (F := Ideal))) ?_ ?_ ?_ ?_ ?_
  · simpa using key
  · intro r j
    rw [zero_add, ← hS]
    unfold k0_pay23
    refine (matmulNT_apply _ rfl _ _ r j).trans (Finset.sum_congr rfl fun d _ => ?_)
    rw [shapeCast_1ab_ab_apply]
  · intro j d
    rw [zero_add, shapeCast_1ab_ab_apply, hw]
  · unfold k0_pay29 k0_pay24
    exact shapeCast_self _ _
  · unfold k0_pay25 k0_pay29
    rw [shapeCast_self]
  · unfold k0_pay26 k0_pay29
    rw [shapeCast_self]
  · unfold k0_pay27
    exact shapeCast_self _ _
  · unfold k0_pay28
    exact shapeCast_self _ _

end Chunk

section Parts

variable (w1 w2 : Vec Ideal S1x256x128 .bf16) (inb1 : ∀ a, (![0, 0, 0] : Fin 3 → ℕ) a + S1x256x128.size a ≤ S1x256x256.size a)
  (inb2 : ∀ a, (![0, 0, 128] : Fin 3 → ℕ) a + S1x256x128.size a ≤ S1x256x256.size a)

/-- The block's two stores, read in the last 128 lanes: the second. -/
theorem parts_hi (r : Fin 256) (d : Fin 128) :
    View.canon (Val := Elt Ideal) (s := S1x256x256) (e := .bf16) [⟨Rect.unit ![0, 0, 128] S1x256x128.size inb2, w2⟩,
      ⟨Rect.unit ![0, 0, 0] S1x256x128.size inb1, w1⟩] (ix3 (0 : Fin 1) r (⟨128 + d.val, by omega⟩ : Fin 256)) = w2 (ix3 (0 : Fin 1) r d) := by
  have e : (ix3 (0 : Fin 1) r (⟨128 + d.val, by omega⟩ : Fin 256) : S1x256x256.Idx)
      = (Rect.unit (s := S1x256x256) ![0, 0, 128] S1x256x128.size inb2).emb (ix3 (0 : Fin 1) r d) := by
    refine funext fun a => Fin.ext ?_
    match a with
    | ⟨0, _⟩ => rfl
    | ⟨1, _⟩ => show r.val = 0 + 1 * r.val; omega
    | ⟨2, _⟩ => show 128 + d.val = 128 + 1 * d.val; omega
  rw [e]
  exact View.canon_cons_emb _ _ _ _

/-- Read in the first 128 lanes: the first. -/
theorem parts_lo (r : Fin 256) (d : Fin 128) :
    View.canon (Val := Elt Ideal) (s := S1x256x256) (e := .bf16) [⟨Rect.unit ![0, 0, 128] S1x256x128.size inb2, w2⟩,
      ⟨Rect.unit ![0, 0, 0] S1x256x128.size inb1, w1⟩] (ix3 (0 : Fin 1) r (⟨d.val, by omega⟩ : Fin 256)) = w1 (ix3 (0 : Fin 1) r d) := by
  have e : (ix3 (0 : Fin 1) r (⟨d.val, by omega⟩ : Fin 256) : S1x256x256.Idx)
      = (Rect.unit (s := S1x256x256) ![0, 0, 0] S1x256x128.size inb1).emb (ix3 (0 : Fin 1) r d) := by
    refine funext fun a => Fin.ext ?_
    match a with
    | ⟨0, _⟩ => rfl
    | ⟨1, _⟩ => show r.val = 0 + 1 * r.val; omega
    | ⟨2, _⟩ => show d.val = 0 + 1 * d.val; omega
  rw [View.canon_cons_of_not_mem]
  · rw [e]
    exact View.canon_cons_emb _ _ _ _
  · intro h
    have h2 : 128 ≤ d.val := ((Rect.mem_set_unit (inb := inb2)).mp h 2).1
    have := d.isLt
    omega

end Parts

variable (c : Dev nD) (i : grid0.Coords) (arg3 : Memref sig .tc .vmem S1x256x256 .bf16) (harg3 : arg3.IsWhole)
  (arg4 : Memref sig .tc .vmem S1x8448x128 .bf16) (harg4 : arg4.IsWhole) (arg5 : Memref sig .tc .vmem S1x8448x128 .bf16) (harg5 : arg5.IsWhole)
  (arg6 : Memref sig .tc .vmem S1x256x256 .bf16) (harg6 : arg6.IsWhole) (arg7 : Memref sig .tc .vmem S1024x1 .f32) (harg7 : arg7.IsWhole)
  (arg8 : Memref sig .tc .vmem S1024x1 .f32) (harg8 : arg8.IsWhole) (arg9 : Memref sig .tc .vmem S1024x128 .f32) (harg9 : arg9.IsWhole)

/-- The remainder loop stores nothing. -/
theorem rest_nil (q : FVec Ideal S1024x128 .bf16) (z : BitVec 32) (X4 : BufTy.Contents (Elt Ideal) arg4.view.ty) (X5 : BufTy.Contents (Elt Ideal) arg5.view.ty)
    (g7 : BufTy.Contents (Elt Ideal) arg7.view.ty) (g8 : BufTy.Contents (Elt Ideal) arg8.view.ty) (g9 : BufTy.Contents (Elt Ideal) arg9.view.ty)
    (n : ℕ) (hn : n = 0) :
    pb_k0_t2 (F := Ideal) Variants.none c none i arg3 harg3 arg4 harg4 arg5 harg5 arg6 harg6 arg7 harg7 arg8 harg8 arg9 harg9
      q z X4 X5 g7 g8 g9 n = ([], [], []) := by
  subst hn
  rfl

/-- The block's queries, 128 lanes of the 256, and their stack of 1024 rows. -/
def stack (x0 : Vec Ideal S1x256x256 .bf16) : FVec Ideal S1024x128 .bf16 :=
  k0_pay19 (View.ld (S := S1x256x256) (Val := Elt Ideal) (e' := .bf16) x0 (Rect.unit ![0, 0, 0] S1x256x128.size inb_S1x256x256_S1x256x128_0_0_0))
    (View.ld (S := S1x256x256) (Val := Elt Ideal) (e' := .bf16) x0 (Rect.unit ![0, 0, 128] S1x256x128.size inb_S1x256x256_S1x256x128_0_0_128))

set_option maxRecDepth 5000 in
/-- What the block stores, from the buffers its loop leaves: those hold the softmax state of its 1024 rows over the
    keys of its span. -/
theorem block_rows (x0 : Vec Ideal S1x256x256 .bf16) (x1 x2 : Vec Ideal S1x8448x128 .bf16)
    {s : Fin 1024 → ℕ → ℝ} {v : ℕ → Fin 128 → EReal}
    (hS : ∀ r (k : Fin 8448), ∑ d : Fin 128, (stack x0 (ix2 r d) * x1 (ix3 (0 : Fin 1) k d) : EReal) = (s r k.val : EReal))
    (hV : ∀ (k : Fin 8448) d, x2 (ix3 (0 : Fin 1) k d) = v k.val d) :
    ∃ m l a, Rows s v (Diff.span (i 2).val) m l a ∧
      out0_A_3 c i arg3 harg3 arg4 harg4 arg5 harg5 arg6 harg6 arg7 harg7 arg8 harg8 arg9 harg9 x0 x1 x2
        = View.canon (Val := Elt Ideal) (s := S1x256x256) (e := .bf16)
          [⟨Rect.unit ![0, 0, 128] S1x256x128.size inb_S1x256x256_S1x256x128_0_0_128, k0_pay6 (F := Ideal) a l⟩,
           ⟨Rect.unit ![0, 0, 0] S1x256x128.size inb_S1x256x256_S1x256x128_0_0_0, k0_pay5 (F := Ideal) a l⟩] := by
  unfold out0_A_3
  rw [View.read_writes_eq_canon _ _ _ (cover0_A_3 c i arg3 harg3 arg4 harg4 arg5 harg5 arg6 harg6 arg7 harg7 arg8 harg8 arg9 harg9 x0 x1 x2)]
  unfold kernelRun0_A
  dsimp only
  sl_unfold_words
  simp only [View.readAt_eq_ld, harg3.read_unread, harg4.read_unread, harg5.read_unread,
    View.ld_unit_zero (S := S1024x1) Diff.zero2, View.ld_unit_zero (S := S1024x128) Diff.zero2]
  have c7 := View.readCov_full (Val := Elt Ideal) (s := S1024x1) arg7.view (e := .f32) (off := ![0, 0]) (off' := ![0, 0])
    inb_S1024x1_S1024x1_0_0 inb_S1024x1_S1024x1_0_0 (k0_pay20 (F := Ideal)) []
  have c8 := View.readCov_full (Val := Elt Ideal) (s := S1024x1) arg8.view (e := .f32) (off := ![0, 0]) (off' := ![0, 0])
    inb_S1024x1_S1024x1_0_0 inb_S1024x1_S1024x1_0_0 (k0_pay21 (F := Ideal)) []
  have c9 := View.readCov_full (Val := Elt Ideal) (s := S1024x128) arg9.view (e := .f32) (off := ![0, 0]) (off' := ![0, 0])
    inb_S1024x128_S1024x128_0_0 inb_S1024x128_S1024x128_0_0 (k0_pay22 (F := Ideal)) []
  rw [c7, c8, c9, rest_nil (hn := trips2 i)]
  simp only [List.nil_append]
  refine ⟨?m, _, _, ?rows, rfl⟩
  rotate_left
  rw [Diff.readCov_eq, Diff.readCov_eq, View.writes_append, View.writes_append]
  have hn : Diff.span (i 2).val = 256 + 512 * (k0_t1_loop i).trips := by
    rw [trips1, Diff.span]
    split <;> rfl
  rw [hn]
  refine loop_rows c i arg3 harg3 arg4 harg4 arg5 harg5 arg6 harg6 arg7 harg7 arg8 harg8 arg9 harg9
    _ _ x1 x2 hS hV _ _ _ ?_ _ le_rfl
  rw [View.read_writes_full (s := S1024x1), View.read_writes_full (s := S1024x1), View.read_writes_full (s := S1024x128)]
  refine first_rows (stack x0) _ _ (fun r j => ?_) (fun j d => ?_)
  · rw [← hS r ⟨j.val, by omega⟩]
    exact Finset.sum_congr rfl fun d _ => congrArg _ (Diff.ld_first x1 _ j d)
  · rw [← hV ⟨j.val, by omega⟩]
    exact Diff.ld_first x2 _ j d

end Cert.Gqa

end
-- ==== Proof.GqaSpec.lean ====
/-
  Grouped-query attention over the extended reals, as both programs compute it: the softmax average of a group's values
  with the scores of one of its four query heads. A query of the context (its row before 256) sees the 256 keys of the
  context, any other query all 8448 keys.
-/
module

public import proofs.«01_k».proof.Proof.DiffSpec

@[expose] public section

noncomputable section

namespace Cert.GqaSpec

open Idealize.ShloMosaic Idealize.ShloMosaic.ValueIdx Cert.Softmax

/-- Batch, token, query feature. -/
abbrev Queries : Type := (⟨3, ![8, 8448, 512]⟩ : Shape).Idx → EReal

/-- Batch, token, key or value feature. -/
abbrev Keys : Type := (⟨3, ![8, 8448, 128]⟩ : Shape).Idx → EReal

/-- Feature `j` of head `x` of group `g`. -/
def lane (g : Fin 2) (x : Fin 4) (j : Fin 64) : Fin 512 := ⟨256 * g.val + (64 * x.val + j.val), by omega⟩

/-- Feature `j` of group `g`. -/
def shared (g : Fin 2) (j : Fin 64) : Fin 128 := ⟨64 * g.val + j.val, by omega⟩

/-- The product of a query of head `x` and a key of group `g`. -/
def dot (q : Queries) (k : Keys) (b : Fin 8) (g : Fin 2) (x : Fin 4) (R K : Fin 8448) : EReal :=
  ∑ j : Fin 64, q (ix3 b R (lane g x j)) * k (ix3 b K (shared g j))

/-- The score of key `n`, a real number. -/
def score (q : Queries) (k : Keys) (b : Fin 8) (g : Fin 2) (x : Fin 4) (R : Fin 8448) (n : ℕ) : ℝ :=
  if hn : n < 8448 then (dot q k b g x R ⟨n, hn⟩).toReal else 0

/-- The value of key `n` at feature `j` of group `g`. -/
def value (v : Keys) (b : Fin 8) (g : Fin 2) (n : ℕ) (j : Fin 64) : EReal :=
  if hn : n < 8448 then v (ix3 b ⟨n, hn⟩ (shared g j)) else 0

/-- The result at batch `b`, query `R` and feature `j` of head `x` of group `g`. -/
def entry (q : Queries) (k v : Keys) (b : Fin 8) (R : Fin 8448) (g : Fin 2) (x : Fin 4) (j : Fin 64) : EReal :=
  soft (score q k b g x R) (fun n => value v b g n j) (DiffSpec.keys R)

/-- The whole result. -/
def out (q : Queries) (k v : Keys) : Queries := fun i =>
  entry q k v (i 0) (i 1) ⟨(i 2).val / 256, by have : (i 2).val < 512 := (i 2).isLt; omega⟩
    ⟨(i 2).val / 64 % 4, by omega⟩ ⟨(i 2).val % 64, by omega⟩

theorem out_apply (q : Queries) (k v : Keys) (b : Fin 8) (R : Fin 8448) (g : Fin 2) (x : Fin 4) (j : Fin 64) :
    out q k v (ix3 b R (lane g x j)) = entry q k v b R g x j := by
  have e1 : ∀ hh, (⟨(lane g x j).val / 256, hh⟩ : Fin 2) = g := fun _ => Fin.ext (by
    show (256 * g.val + (64 * x.val + j.val)) / 256 = g.val; omega)
  have e2 : ∀ hh, (⟨(lane g x j).val / 64 % 4, hh⟩ : Fin 4) = x := fun _ => Fin.ext (by
    show (256 * g.val + (64 * x.val + j.val)) / 64 % 4 = x.val; omega)
  have e3 : ∀ hh, (⟨(lane g x j).val % 64, hh⟩ : Fin 64) = j := fun _ => Fin.ext (by
    show (256 * g.val + (64 * x.val + j.val)) % 64 = j.val; omega)
  show entry q k v b R ⟨(lane g x j).val / 256, _⟩ ⟨(lane g x j).val / 64 % 4, _⟩ ⟨(lane g x j).val % 64, _⟩ = _
  rw [e1, e2, e3]

/-- Every query feature is one of a head. -/
theorem lane_surj (l : Fin 512) : ∃ g x j, l = lane g x j :=
  ⟨⟨l.val / 256, by omega⟩, ⟨l.val / 64 % 4, by omega⟩, ⟨l.val % 64, by omega⟩, Fin.ext (by
    show l.val = 256 * (l.val / 256) + (64 * (l.val / 64 % 4) + l.val % 64); omega)⟩

theorem dot_eq_score {q : Queries} {k : Keys} (hq : ∀ i, ∃ r : ℝ, q i = r) (hk : ∀ i, ∃ r : ℝ, k i = r) (b : Fin 8) (g : Fin 2)
    (x : Fin 4) (R K : Fin 8448) : dot q k b g x R K = (score q k b g x R K.val : EReal) := by
  obtain ⟨r, hr⟩ := DiffSpec.sum_real Finset.univ
    (fun j : Fin 64 => DiffSpec.mul_real (hq (ix3 b R (lane g x j))) (hk (ix3 b K (shared g j))))
  have e : dot q k b g x R K = (r : EReal) := hr
  rw [score, dif_pos K.isLt]
  show _ = ((dot q k b g x R K).toReal : EReal)
  rw [e, EReal.toReal_coe]

theorem value_lt (v : Keys) (b : Fin 8) (g : Fin 2) (K : Fin 8448) (j : Fin 64) :
    value v b g K.val j = v (ix3 b K (shared g j)) := dif_pos K.isLt

end Cert.GqaSpec

end
-- ==== Proof.GqaTile.lean ====
/-
  The two ends of the grouped-query attention kernel's body, entry by entry: the queries it stacks (each head with the
  other half of its 128 lanes put to zero), and the last step, which divides and puts the four heads side by side.
-/
module

public import proofs.«01_k».proof.Proof.GqaBlock
public import proofs.«01_k».proof.Proof.GqaSpec

@[expose] public section

noncomputable section

namespace Cert.Gqa

open Idealize.ShloMosaic Idealize.ShloMosaic.TcCoe Idealize.SL.Sem Idealize.ShloMosaic.ValueIdx
open Cert.Kernel2Ideal Cert.Kernel2Ideal.Gen Cert.Softmax Cert.Tile

/-- The first 128 lanes of the queries. -/
theorem ld_lo (x : Vec Ideal S1x256x256 .bf16) (r : Fin 256) (d : Fin 128) :
    View.ld (S := S1x256x256) (Val := Elt Ideal) (e' := .bf16) x (Rect.unit ![0, 0, 0] S1x256x128.size inb_S1x256x256_S1x256x128_0_0_0)
      (ix3 (0 : Fin 1) r d) = x (ix3 (0 : Fin 1) r (⟨d.val, by omega⟩ : Fin 256)) := by
  rw [View.ld_apply]
  refine congrArg x (funext fun a => Fin.ext ?_)
  match a with
  | ⟨0, _⟩ => rfl
  | ⟨1, _⟩ => show 0 + 1 * r.val = r.val; omega
  | ⟨2, _⟩ => show 0 + 1 * d.val = d.val; omega

/-- The last 128 lanes of the queries. -/
theorem ld_hi (x : Vec Ideal S1x256x256 .bf16) (r : Fin 256) (d : Fin 128) :
    View.ld (S := S1x256x256) (Val := Elt Ideal) (e' := .bf16) x (Rect.unit ![0, 0, 128] S1x256x128.size inb_S1x256x256_S1x256x128_0_0_128)
      (ix3 (0 : Fin 1) r d) = x (ix3 (0 : Fin 1) r (⟨128 + d.val, by omega⟩ : Fin 256)) := by
  rw [View.ld_apply]
  refine congrArg x (funext fun a => Fin.ext ?_)
  match a with
  | ⟨0, _⟩ => rfl
  | ⟨1, _⟩ => show 0 + 1 * r.val = r.val; omega
  | ⟨2, _⟩ => show 128 + 1 * d.val = 128 + d.val; omega

/-- A stack of four tiles, read in one of them. -/
theorem four_apply (A B C D : FVec Ideal S256x128 .bf16) (r : Fin 256) (d : Fin 128) :
    let Y := concatenate S1024x128 0 [⟨S256x128, A⟩, ⟨S256x128, B⟩, ⟨S256x128, C⟩, ⟨S256x128, D⟩]
      concatenates_S256x128_S256x128_S256x128_S256x128_S1024x128_d0
    Y (ix2 (⟨256 * 0 + r.val, by omega⟩ : Fin 1024) d) = A (ix2 r d) ∧ Y (ix2 (⟨256 * 1 + r.val, by omega⟩ : Fin 1024) d) = B (ix2 r d)
    ∧ Y (ix2 (⟨256 * 2 + r.val, by omega⟩ : Fin 1024) d) = C (ix2 r d) ∧ Y (ix2 (⟨256 * 3 + r.val, by omega⟩ : Fin 1024) d) = D (ix2 r d) := by
  intro Y
  refine ⟨?_, ?_, ?_, ?_⟩
  · exact concatenate_apply_piece 0 [⟨S256x128, A⟩, ⟨S256x128, B⟩, ⟨S256x128, C⟩, ⟨S256x128, D⟩]
      concatenates_S256x128_S256x128_S256x128_S256x128_S1024x128_d0 (ix2 (⟨256 * 0 + r.val, by omega⟩ : Fin 1024) d) 0 (by simp)
      S256x128 A rfl rfl 0 rfl (ix2 r d) (fun b => match b with | ⟨0, _⟩ => fun h => absurd rfl h | ⟨1, _⟩ => fun _ => rfl)
      (by show 0 + r.val = 256 * 0 + r.val; omega)
  · exact concatenate_apply_piece 0 [⟨S256x128, A⟩, ⟨S256x128, B⟩, ⟨S256x128, C⟩, ⟨S256x128, D⟩]
      concatenates_S256x128_S256x128_S256x128_S256x128_S1024x128_d0 (ix2 (⟨256 * 1 + r.val, by omega⟩ : Fin 1024) d) 1 (by simp)
      S256x128 B rfl rfl 256 rfl (ix2 r d) (fun b => match b with | ⟨0, _⟩ => fun h => absurd rfl h | ⟨1, _⟩ => fun _ => rfl)
      rfl
  · exact concatenate_apply_piece 0 [⟨S256x128, A⟩, ⟨S256x128, B⟩, ⟨S256x128, C⟩, ⟨S256x128, D⟩]
      concatenates_S256x128_S256x128_S256x128_S256x128_S1024x128_d0 (ix2 (⟨256 * 2 + r.val, by omega⟩ : Fin 1024) d) 2 (by simp)
      S256x128 C rfl rfl 512 rfl (ix2 r d) (fun b => match b with | ⟨0, _⟩ => fun h => absurd rfl h | ⟨1, _⟩ => fun _ => rfl)
      rfl
  · exact concatenate_apply_piece 0 [⟨S256x128, A⟩, ⟨S256x128, B⟩, ⟨S256x128, C⟩, ⟨S256x128, D⟩]
      concatenates_S256x128_S256x128_S256x128_S256x128_S1024x128_d0 (ix2 (⟨256 * 3 + r.val, by omega⟩ : Fin 1024) d) 3 (by simp)
      S256x128 D rfl rfl 768 rfl (ix2 r d) (fun b => match b with | ⟨0, _⟩ => fun h => absurd rfl h | ⟨1, _⟩ => fun _ => rfl)
      rfl

/-- The stack of queries, head by head. -/
theorem stack_apply (x0 : Vec Ideal S1x256x256 .bf16) (r : Fin 256) (d : Fin 128) :
    stack x0 (ix2 (⟨256 * 0 + r.val, by omega⟩ : Fin 1024) d) = (if d.val < 64 then x0 (ix3 (0 : Fin 1) r (⟨d.val, by omega⟩ : Fin 256)) else 0 : EReal)
    ∧ stack x0 (ix2 (⟨256 * 1 + r.val, by omega⟩ : Fin 1024) d) = (if d.val < 64 then 0 else x0 (ix3 (0 : Fin 1) r (⟨d.val, by omega⟩ : Fin 256)) : EReal)
    ∧ stack x0 (ix2 (⟨256 * 2 + r.val, by omega⟩ : Fin 1024) d)
      = (if d.val < 64 then x0 (ix3 (0 : Fin 1) r (⟨128 + d.val, by omega⟩ : Fin 256)) else 0 : EReal)
    ∧ stack x0 (ix2 (⟨256 * 3 + r.val, by omega⟩ : Fin 1024) d)
      = (if d.val < 64 then 0 else x0 (ix3 (0 : Fin 1) r (⟨128 + d.val, by omega⟩ : Fin 256)) : EReal) := by
  unfold stack k0_pay19
  dsimp only
  refine ⟨(four_apply _ _ _ _ r d).1.trans ?_, (four_apply _ _ _ _ r d).2.1.trans ?_, (four_apply _ _ _ _ r d).2.2.1.trans ?_,
    (four_apply _ _ _ _ r d).2.2.2.trans ?_⟩
  · rw [Diff.pick, shapeCast_1ab_ab_apply, ld_lo]
    exact congrArg (fun z => if d.val < 64 then x0 (ix3 (0 : Fin 1) r (⟨d.val, by omega⟩ : Fin 256)) else z) Diff.zero_bf16
  · rw [Diff.pick, shapeCast_1ab_ab_apply, ld_lo]
    exact congrArg (fun z => if d.val < 64 then z else x0 (ix3 (0 : Fin 1) r (⟨d.val, by omega⟩ : Fin 256))) Diff.zero_bf16
  · rw [Diff.pick, shapeCast_1ab_ab_apply, ld_hi]
    exact congrArg (fun z => if d.val < 64 then x0 (ix3 (0 : Fin 1) r (⟨128 + d.val, by omega⟩ : Fin 256)) else z) Diff.zero_bf16
  · rw [Diff.pick, shapeCast_1ab_ab_apply, ld_hi]
    exact congrArg (fun z => if d.val < 64 then z else x0 (ix3 (0 : Fin 1) r (⟨128 + d.val, by omega⟩ : Fin 256))) Diff.zero_bf16

/-- The product of a stacked row of head `x` with 128 lanes: only the head's own 64 lanes count. -/
theorem stack_dot (x0 : Vec Ideal S1x256x256 .bf16) (x : Fin 4) (r : Fin 256) (y : Fin 128 → EReal) :
    ∑ d : Fin 128, (stack x0 (ix2 (⟨256 * x.val + r.val, by omega⟩ : Fin 1024) d) * y d : EReal)
      = ∑ j : Fin 64, (x0 (ix3 (0 : Fin 1) r (⟨64 * x.val + j.val, by omega⟩ : Fin 256)) * y ⟨64 * (x.val % 2) + j.val, by omega⟩ : EReal) := by
  match x with
  | ⟨0, _⟩ =>
    refine (Finset.sum_congr rfl fun d _ => congrArg (· * y d) (stack_apply x0 r d).1).trans ((Diff.half_lo _ y).trans ?_)
    refine Finset.sum_congr rfl fun j _ => ?_
    have e1 : (⟨j.val, by omega⟩ : Fin 256) = ⟨64 * 0 + j.val, by omega⟩ := Fin.ext (by show j.val = 64 * 0 + j.val; omega)
    have e2 : (⟨j.val, by omega⟩ : Fin 128) = ⟨64 * (0 % 2) + j.val, by omega⟩ := Fin.ext (by show j.val = 64 * (0 % 2) + j.val; omega)
    exact congrArg₂ (fun a b => (x0 (ix3 (0 : Fin 1) r a) * y b : EReal)) e1 e2
  | ⟨1, _⟩ =>
    refine (Finset.sum_congr rfl fun d _ => congrArg (· * y d) (stack_apply x0 r d).2.1).trans ((Diff.half_hi _ y).trans ?_)
    exact Finset.sum_congr rfl fun j _ => rfl
  | ⟨2, _⟩ =>
    refine (Finset.sum_congr rfl fun d _ => congrArg (· * y d) (stack_apply x0 r d).2.2.1).trans ((Diff.half_lo _ y).trans ?_)
    refine Finset.sum_congr rfl fun j _ => ?_
    have e2 : (⟨j.val, by omega⟩ : Fin 128) = ⟨64 * (2 % 2) + j.val, by omega⟩ := Fin.ext (by show j.val = 64 * (2 % 2) + j.val; omega)
    exact congrArg (fun b => (x0 (ix3 (0 : Fin 1) r (⟨128 + j.val, by omega⟩ : Fin 256)) * y b : EReal)) e2
  | ⟨3, _⟩ =>
    refine (Finset.sum_congr rfl fun d _ => congrArg (· * y d) (stack_apply x0 r d).2.2.2).trans ((Diff.half_hi _ y).trans ?_)
    refine Finset.sum_congr rfl fun j _ => ?_
    have e1 : (⟨128 + (⟨64 + j.val, by omega⟩ : Fin 128).val, by omega⟩ : Fin 256) = ⟨64 * 3 + j.val, by omega⟩ := Fin.ext (by
      show 128 + (64 + j.val) = 64 * 3 + j.val; omega)
    have e2 : (⟨64 + j.val, by omega⟩ : Fin 128) = ⟨64 * (3 % 2) + j.val, by omega⟩ := Fin.ext (by show 64 + j.val = 64 * (3 % 2) + j.val; omega)
    exact congrArg₂ (fun a b => (x0 (ix3 (0 : Fin 1) r a) * y b : EReal)) e1 e2

/-- A tile cut out of the quotients. -/
theorem quotient_cut (a : Vec Ideal S1024x128 .f32) (l : Vec Ideal S1024x1 .f32) (o : ℕ) (h : S1024x128.Slices ![o, 0] S256x128) (r : Fin 256)
    (d : Fin 128) (hr : o + r.val < 1024) :
    extractStridedSlice S256x128 ![o, 0] (k0_pay3 a l) h (ix2 r d)
      = Ideal.div (a (ix2 (⟨o + r.val, hr⟩ : Fin 1024) d)) (l (ix2 (⟨o + r.val, hr⟩ : Fin 1024) 0)) := by
  rw [extractStridedSlice_apply _ _ _ _ (ix2 (⟨o + r.val, hr⟩ : Fin 1024) d)
    (fun ax => match ax with | ⟨0, _⟩ => rfl | ⟨1, _⟩ => (Nat.zero_add _).symm), k0_pay3, divf_apply, broadcastCol_apply]

theorem first_apply (a : Vec Ideal S1024x128 .f32) (l : Vec Ideal S1024x1 .f32) (r : Fin 256) (d : Fin 128) :
    k0_pay5 (F := Ideal) a l (ix3 (0 : Fin 1) r d) = if d.val < 64
      then Ideal.div (a (ix2 (⟨0 + r.val, by omega⟩ : Fin 1024) d)) (l (ix2 (⟨0 + r.val, by omega⟩ : Fin 1024) 0))
      else Ideal.div (a (ix2 (⟨256 + r.val, by omega⟩ : Fin 1024) d)) (l (ix2 (⟨256 + r.val, by omega⟩ : Fin 1024) 0)) := by
  unfold k0_pay5 k0_pay4
  dsimp only
  rw [shapeCast_ab_1ab_apply, truncf_apply, Diff.pick, quotient_cut, quotient_cut]

theorem second_apply (a : Vec Ideal S1024x128 .f32) (l : Vec Ideal S1024x1 .f32) (r : Fin 256) (d : Fin 128) :
    k0_pay6 (F := Ideal) a l (ix3 (0 : Fin 1) r d) = if d.val < 64
      then Ideal.div (a (ix2 (⟨512 + r.val, by omega⟩ : Fin 1024) d)) (l (ix2 (⟨512 + r.val, by omega⟩ : Fin 1024) 0))
      else Ideal.div (a (ix2 (⟨768 + r.val, by omega⟩ : Fin 1024) d)) (l (ix2 (⟨768 + r.val, by omega⟩ : Fin 1024) 0)) := by
  unfold k0_pay6 k0_pay4
  dsimp only
  rw [shapeCast_ab_1ab_apply, truncf_apply, Diff.pick, quotient_cut, quotient_cut]

/-- The two halves of a block, as its two stores leave them. -/
def halves (a : Vec Ideal S1024x128 .f32) (l : Vec Ideal S1024x1 .f32) : Vec Ideal S1x256x256 .bf16 :=
  View.canon (Val := Elt Ideal) (s := S1x256x256) (e := .bf16)
    [⟨Rect.unit ![0, 0, 128] S1x256x128.size inb_S1x256x256_S1x256x128_0_0_128, k0_pay6 (F := Ideal) a l⟩,
     ⟨Rect.unit ![0, 0, 0] S1x256x128.size inb_S1x256x256_S1x256x128_0_0_0, k0_pay5 (F := Ideal) a l⟩]

theorem halves_lo (a : Vec Ideal S1024x128 .f32) (l : Vec Ideal S1024x1 .f32) (r : Fin 256) (e : Fin 256) (d : Fin 128) (h : e.val = d.val) :
    halves a l (ix3 (0 : Fin 1) r e) = k0_pay5 (F := Ideal) a l (ix3 (0 : Fin 1) r d) := by
  rw [show e = (⟨d.val, by omega⟩ : Fin 256) from Fin.ext h]
  exact parts_lo _ _ _ _ r d

theorem halves_hi (a : Vec Ideal S1024x128 .f32) (l : Vec Ideal S1024x1 .f32) (r : Fin 256) (e : Fin 256) (d : Fin 128)
    (h : e.val = 128 + d.val) : halves a l (ix3 (0 : Fin 1) r e) = k0_pay6 (F := Ideal) a l (ix3 (0 : Fin 1) r d) := by
  rw [show e = (⟨128 + d.val, by omega⟩ : Fin 256) from Fin.ext h]
  exact parts_hi _ _ _ _ r d

/-- What the block's two stores leave at feature `j` of head `x`: the quotient of the head's row. -/
theorem halves_apply (a : Vec Ideal S1024x128 .f32) (l : Vec Ideal S1024x1 .f32) (r : Fin 256) (x : Fin 4) (j : Fin 64) :
    halves a l (ix3 (0 : Fin 1) r (⟨64 * x.val + j.val, by omega⟩ : Fin 256))
      = Ideal.div (a (ix2 (⟨256 * x.val + r.val, by omega⟩ : Fin 1024) (⟨64 * (x.val % 2) + j.val, by omega⟩ : Fin 128)))
          (l (ix2 (⟨256 * x.val + r.val, by omega⟩ : Fin 1024) 0)) := by
  have hj := j.isLt
  have row : ∀ (o : ℕ) (ho : o + r.val < 1024), o = 256 * x.val → (⟨o + r.val, ho⟩ : Fin 1024) = ⟨256 * x.val + r.val, by omega⟩ :=
    fun o ho h => Fin.ext (congrArg (· + r.val) h)
  have hx : x.val = 0 ∨ x.val = 1 ∨ x.val = 2 ∨ x.val = 3 := by omega
  rcases hx with hx | hx | hx | hx
  · rw [halves_lo a l r _ (⟨64 * (x.val % 2) + j.val, by omega⟩ : Fin 128) (by show 64 * x.val + j.val = 64 * (x.val % 2) + j.val; omega),
      first_apply, if_pos (by show 64 * (x.val % 2) + j.val < 64; omega), row 0 _ (by omega)]
  · rw [halves_lo a l r _ (⟨64 * (x.val % 2) + j.val, by omega⟩ : Fin 128) (by show 64 * x.val + j.val = 64 * (x.val % 2) + j.val; omega),
      first_apply, if_neg (by show ¬ 64 * (x.val % 2) + j.val < 64; omega), row 256 _ (by omega)]
  · rw [halves_hi a l r _ (⟨64 * (x.val % 2) + j.val, by omega⟩ : Fin 128) (by show 64 * x.val + j.val = 128 + (64 * (x.val % 2) + j.val); omega),
      second_apply, if_pos (by show 64 * (x.val % 2) + j.val < 64; omega), row 512 _ (by omega)]
  · rw [halves_hi a l r _ (⟨64 * (x.val % 2) + j.val, by omega⟩ : Fin 128) (by show 64 * x.val + j.val = 128 + (64 * (x.val % 2) + j.val); omega),
      second_apply, if_neg (by show ¬ 64 * (x.val % 2) + j.val < 64; omega), row 768 _ (by omega)]

end Cert.Gqa

end
-- ==== Proof.GqaArray.lean ====
/-
  The array the grouped-query attention kernel leaves: its blocks, each what one point of the grid computes, cover the
  result, and each holds the specification's entries.
-/
module

public import proofs.«01_k».proof.Proof.GqaTile
public import proofs.«01_k».proof.Proof.DiffArray

@[expose] public section

noncomputable section

namespace Cert.Gqa

open Idealize.ShloMosaic Idealize.ShloMosaic.TcCoe Idealize.SL.Sem Idealize.ShloMosaic.ValueIdx
open Cert.Kernel2Ideal Cert.Kernel2Ideal.Gen Cert.Softmax Cert.Tile

variable (m : (ℓ : Loc nD τ sig) → Buf (Elt Ideal) ℓ)

theorem index0 (t : Fin cfg0.N) :
    win0_0.index t = ![(grid0.coords t 0).val, (grid0.coords t 2).val, (grid0.coords t 1).val] :=
  funext fun a => match a with
    | ⟨0, _⟩ => Diff.word _ 8 (grid0.coords t 0).isLt (by norm_num)
    | ⟨1, _⟩ => Diff.word _ 33 (grid0.coords t 2).isLt (by norm_num)
    | ⟨2, _⟩ => Diff.word _ 2 (grid0.coords t 1).isLt (by norm_num)
theorem index3 (t : Fin cfg0.N) :
    win0_3.index t = ![(grid0.coords t 0).val, (grid0.coords t 2).val, (grid0.coords t 1).val] :=
  funext fun a => match a with
    | ⟨0, _⟩ => Diff.word _ 8 (grid0.coords t 0).isLt (by norm_num)
    | ⟨1, _⟩ => Diff.word _ 33 (grid0.coords t 2).isLt (by norm_num)
    | ⟨2, _⟩ => Diff.word _ 2 (grid0.coords t 1).isLt (by norm_num)
theorem index1 (t : Fin cfg0.N) : win0_1.index t = ![(grid0.coords t 0).val, 0, (grid0.coords t 1).val] :=
  funext fun a => match a with
    | ⟨0, _⟩ => Diff.word _ 8 (grid0.coords t 0).isLt (by norm_num)
    | ⟨1, _⟩ => rfl
    | ⟨2, _⟩ => Diff.word _ 2 (grid0.coords t 1).isLt (by norm_num)
theorem index2 (t : Fin cfg0.N) : win0_2.index t = ![(grid0.coords t 0).val, 0, (grid0.coords t 1).val] :=
  funext fun a => match a with
    | ⟨0, _⟩ => Diff.word _ 8 (grid0.coords t 0).isLt (by norm_num)
    | ⟨1, _⟩ => rfl
    | ⟨2, _⟩ => Diff.word _ 2 (grid0.coords t 1).isLt (by norm_num)

/-- The batch, the group and the query tile of a point. -/
def batchOf (t : Fin cfg0.N) : Fin 8 := grid0.coords t 0
def groupOf (t : Fin cfg0.N) : Fin 2 := grid0.coords t 1
def tileOf (t : Fin cfg0.N) : Fin 33 := grid0.coords t 2

/-- Row `r` of the point's query tile. -/
def rowOf (t : Fin cfg0.N) (r : Fin 256) : Fin 8448 := ⟨(tileOf t).val * 256 + r.val, by have := (tileOf t).isLt; omega⟩

/-- Lane `d` of a group's 128 lanes: its 64 features, twice. -/
def twice (g : Fin 2) (d : Fin 128) : Fin 256 := ⟨128 * g.val + d.val, by omega⟩

theorem keys_rowOf (t : Fin cfg0.N) (r : Fin 256) : DiffSpec.keys (rowOf t r).val = Diff.span (tileOf t).val := by
  unfold DiffSpec.keys Diff.span rowOf
  have := r.isLt
  by_cases h : (tileOf t).val = 0
  · rw [if_pos h, if_pos (by show (tileOf t).val * 256 + r.val < 256; omega)]
  · rw [if_neg h, if_neg (by show ¬ (tileOf t).val * 256 + r.val < 256; omega)]

theorem block0 (c : Dev nD) (t : Fin cfg0.N) (r : Fin 256) (x : Fin 4) (j : Fin 64) :
    iblk m c 0 t (ix3 (0 : Fin 1) r (⟨64 * x.val + j.val, by omega⟩ : Fin 256))
      = V m c main_arg0 (ix3 (batchOf t) (rowOf t r) (GqaSpec.lane (groupOf t) x j)) := by
  blk_simp [iblk]
  refine congrArg _ ?_
  blk_ext [index0]
  · rfl
  · rfl
  · exact congrArg (· + (64 * x.val + j.val)) (Nat.mul_comm (groupOf t).val 256)

theorem block1 (c : Dev nD) (t : Fin cfg0.N) (k : Fin 8448) (d : Fin 128) :
    iblk m c 1 t (ix3 (0 : Fin 1) k d) = V m c main_v4 (ix3 (batchOf t) k (twice (groupOf t) d)) := by
  blk_simp [iblk]
  refine congrArg _ ?_
  blk_ext [index1]
  · rfl
  · exact congrArg (· + d.val) (Nat.mul_comm (groupOf t).val 128)

theorem block2 (c : Dev nD) (t : Fin cfg0.N) (k : Fin 8448) (d : Fin 128) :
    iblk m c 2 t (ix3 (0 : Fin 1) k d) = V m c main_v9 (ix3 (batchOf t) k (twice (groupOf t) d)) := by
  blk_simp [iblk]
  refine congrArg _ ?_
  blk_ext [index2]
  · rfl
  · exact congrArg (· + d.val) (Nat.mul_comm (groupOf t).val 128)

/-- The host's layout of keys and values: the 64 features of each group, twice. -/
theorem twice_apply (X : FVec Ideal S8x8448x128 .bf16) (b : Fin 8) (k : Fin 8448) (g : Fin 2) (d : Fin 128) :
    concatenate S8x8448x256 2
      [⟨S8x8448x64, extractStridedSlice S8x8448x64 ![0, 0, 0] X slices_S8x8448x128_S8x8448x64_0_0_0⟩,
       ⟨S8x8448x64, extractStridedSlice S8x8448x64 ![0, 0, 0] X slices_S8x8448x128_S8x8448x64_0_0_0⟩,
       ⟨S8x8448x64, extractStridedSlice S8x8448x64 ![0, 0, 64] X slices_S8x8448x128_S8x8448x64_0_0_64⟩,
       ⟨S8x8448x64, extractStridedSlice S8x8448x64 ![0, 0, 64] X slices_S8x8448x128_S8x8448x64_0_0_64⟩]
      concatenates_S8x8448x64_S8x8448x64_S8x8448x64_S8x8448x64_S8x8448x256_d2 (ix3 b k (twice g d))
      = X (ix3 b k (GqaSpec.shared g ⟨d.val % 64, by omega⟩)) := by
  have slice0 : ∀ e : Fin 64, extractStridedSlice S8x8448x64 ![0, 0, 0] X slices_S8x8448x128_S8x8448x64_0_0_0 (ix3 b k e)
      = X (ix3 b k (⟨0 + e.val, by omega⟩ : Fin 128)) := fun e => extractStridedSlice_apply _ _ _ _ _
    (fun a => match a with | ⟨0, _⟩ => (Nat.zero_add _).symm | ⟨1, _⟩ => (Nat.zero_add _).symm | ⟨2, _⟩ => rfl)
  have slice1 : ∀ e : Fin 64, extractStridedSlice S8x8448x64 ![0, 0, 64] X slices_S8x8448x128_S8x8448x64_0_0_64 (ix3 b k e)
      = X (ix3 b k (⟨64 + e.val, by omega⟩ : Fin 128)) := fun e => extractStridedSlice_apply _ _ _ _ _
    (fun a => match a with | ⟨0, _⟩ => (Nat.zero_add _).symm | ⟨1, _⟩ => (Nat.zero_add _).symm | ⟨2, _⟩ => rfl)
  generalize extractStridedSlice S8x8448x64 ![0, 0, 0] X slices_S8x8448x128_S8x8448x64_0_0_0 = A at *
  generalize extractStridedSlice S8x8448x64 ![0, 0, 64] X slices_S8x8448x128_S8x8448x64_0_0_64 = B at *
  have hd := d.isLt
  have lanes : ∀ (n : ℕ) (hn : n < 128), n = 64 * g.val + d.val % 64 → X (ix3 b k (⟨n, hn⟩ : Fin 128))
      = X (ix3 b k (GqaSpec.shared g ⟨d.val % 64, by omega⟩)) := fun n hn h => congrArg (fun z => X (ix3 b k z)) (Fin.ext h)
  have e : Fin 64 := ⟨d.val % 64, by omega⟩
  have cases4 : (g.val = 0 ∧ d.val < 64) ∨ (g.val = 0 ∧ 64 ≤ d.val) ∨ (g.val = 1 ∧ d.val < 64) ∨ (g.val = 1 ∧ 64 ≤ d.val) := by omega
  rcases cases4 with ⟨hg, h⟩ | ⟨hg, h⟩ | ⟨hg, h⟩ | ⟨hg, h⟩
  · exact (concatenate_apply_piece 2 [⟨S8x8448x64, A⟩, ⟨S8x8448x64, A⟩, ⟨S8x8448x64, B⟩, ⟨S8x8448x64, B⟩] _ (ix3 b k (twice g d)) 0 (by simp)
      S8x8448x64 A rfl rfl 0 rfl (ix3 b k (⟨d.val % 64, by omega⟩ : Fin 64))
      (fun b => match b with | ⟨0, _⟩ => fun _ => rfl | ⟨1, _⟩ => fun _ => rfl | ⟨2, _⟩ => fun h => absurd rfl h)
      (by show 0 + d.val % 64 = 128 * g.val + d.val; omega)).trans ((slice0 _).trans (lanes _ _ (by show 0 + d.val % 64 = _; omega)))
  · exact (concatenate_apply_piece 2 [⟨S8x8448x64, A⟩, ⟨S8x8448x64, A⟩, ⟨S8x8448x64, B⟩, ⟨S8x8448x64, B⟩] _ (ix3 b k (twice g d)) 1 (by simp)
      S8x8448x64 A rfl rfl 64 rfl (ix3 b k (⟨d.val % 64, by omega⟩ : Fin 64))
      (fun b => match b with | ⟨0, _⟩ => fun _ => rfl | ⟨1, _⟩ => fun _ => rfl | ⟨2, _⟩ => fun h => absurd rfl h)
      (by show 64 + d.val % 64 = 128 * g.val + d.val; omega)).trans ((slice0 _).trans (lanes _ _ (by show 0 + d.val % 64 = _; omega)))
  · exact (concatenate_apply_piece 2 [⟨S8x8448x64, A⟩, ⟨S8x8448x64, A⟩, ⟨S8x8448x64, B⟩, ⟨S8x8448x64, B⟩] _ (ix3 b k (twice g d)) 2 (by simp)
      S8x8448x64 B rfl rfl 128 rfl (ix3 b k (⟨d.val % 64, by omega⟩ : Fin 64))
      (fun b => match b with | ⟨0, _⟩ => fun _ => rfl | ⟨1, _⟩ => fun _ => rfl | ⟨2, _⟩ => fun h => absurd rfl h)
      (by show 128 + d.val % 64 = 128 * g.val + d.val; omega)).trans ((slice1 _).trans (lanes _ _ (by show 64 + d.val % 64 = _; omega)))
  · exact (concatenate_apply_piece 2 [⟨S8x8448x64, A⟩, ⟨S8x8448x64, A⟩, ⟨S8x8448x64, B⟩, ⟨S8x8448x64, B⟩] _ (ix3 b k (twice g d)) 3 (by simp)
      S8x8448x64 B rfl rfl 192 rfl (ix3 b k (⟨d.val % 64, by omega⟩ : Fin 64))
      (fun b => match b with | ⟨0, _⟩ => fun _ => rfl | ⟨1, _⟩ => fun _ => rfl | ⟨2, _⟩ => fun h => absurd rfl h)
      (by show 192 + d.val % 64 = 128 * g.val + d.val; omega)).trans ((slice1 _).trans (lanes _ _ (by show 64 + d.val % 64 = _; omega)))

theorem keys_twice (c : Dev nD) (b : Fin 8) (k : Fin 8448) (g : Fin 2) (d : Fin 128) :
    V m c main_v4 (ix3 b k (twice g d))
      = m ((c : Thread nD τ).loc main_arg1) (ix3 b k (GqaSpec.shared g ⟨d.val % 64, by omega⟩)) := by
  refine Eq.trans (congrFun ?_ _) (twice_apply (m ((c : Thread nD τ).loc main_arg1)) b k g d)
  unfold V
  after_results_simp <;> rfl

theorem values_twice (c : Dev nD) (b : Fin 8) (k : Fin 8448) (g : Fin 2) (d : Fin 128) :
    V m c main_v9 (ix3 b k (twice g d))
      = m ((c : Thread nD τ).loc main_arg2) (ix3 b k (GqaSpec.shared g ⟨d.val % 64, by omega⟩)) := by
  refine Eq.trans (congrFun ?_ _) (twice_apply (m ((c : Thread nD τ).loc main_arg2)) b k g d)
  unfold V
  after_results_simp <;> rfl

/-- The specification at the call's arguments. -/
def goal (c : Dev nD) : GqaSpec.Queries :=
  GqaSpec.out (m ((c : Thread nD τ).loc main_arg0)) (m ((c : Thread nD τ).loc main_arg1)) (m ((c : Thread nD τ).loc main_arg2))

/-- What a point of the grid leaves at row `r` and feature `j` of head `x`. -/
theorem point (c : Dev nD) (hq : ∀ i, ∃ r : ℝ, m ((c : Thread nD τ).loc main_arg0) i = (r : EReal))
    (hk : ∀ i, ∃ r : ℝ, m ((c : Thread nD τ).loc main_arg1) i = (r : EReal)) (t : Fin cfg0.N)
    (r : Fin 256) (x : Fin 4) (j : Fin 64) :
    outsAt0 m c t (ix3 (0 : Fin 1) r (⟨64 * x.val + j.val, by omega⟩ : Fin 256))
      = goal m c (ix3 (batchOf t) (rowOf t r) (GqaSpec.lane (groupOf t) x j)) := by
  unfold goal
  rw [GqaSpec.out_apply]
  unfold outsAt0
  obtain ⟨M, l, a, hR, e⟩ := block_rows (i := grid0.coords t) c (ms0_0 t) (hs0_0 t) (ms0_1 t) (hs0_1 t) (ms0_2 t) (hs0_2 t) (ms0_3 t) (hs0_3 t)
    scM0_0 (Memref.isWhole_whole _) scM0_1 (Memref.isWhole_whole _) scM0_2 (Memref.isWhole_whole _)
    (iblk m c 0 t) (iblk m c 1 t) (iblk m c 2 t)
    (s := fun r' n => GqaSpec.score (m ((c : Thread nD τ).loc main_arg0)) (m ((c : Thread nD τ).loc main_arg1)) (batchOf t) (groupOf t)
      ⟨r'.val / 256, by omega⟩ (rowOf t ⟨r'.val % 256, by omega⟩) n)
    (v := fun n d => GqaSpec.value (m ((c : Thread nD τ).loc main_arg2)) (batchOf t) (groupOf t) n ⟨d.val % 64, by omega⟩)
    (fun r' k => by
      rw [← GqaSpec.dot_eq_score hq hk]
      have er : r' = ⟨256 * (⟨r'.val / 256, by omega⟩ : Fin 4).val + (⟨r'.val % 256, by omega⟩ : Fin 256).val, by
          show 256 * (r'.val / 256) + r'.val % 256 < 1024; omega⟩ := Fin.ext (by
        show r'.val = 256 * (r'.val / 256) + r'.val % 256; omega)
      conv_lhs => rw [er]
      refine (stack_dot (iblk m c 0 t) ⟨r'.val / 256, by omega⟩ ⟨r'.val % 256, by omega⟩ (fun d => iblk m c 1 t (ix3 (0 : Fin 1) k d))).trans ?_
      refine Finset.sum_congr rfl fun j _ => ?_
      rw [block0, block1, keys_twice, V_main_arg0]
      refine congrArg (fun z : EReal => (show EReal from m ((c : Thread nD τ).loc main_arg0) (ix3 (batchOf t) (rowOf t ⟨r'.val % 256, by omega⟩)
        (GqaSpec.lane (groupOf t) ⟨r'.val / 256, by omega⟩ j))) * z) ?_
      refine congrArg (fun z => m ((c : Thread nD τ).loc main_arg1) (ix3 (batchOf t) k (GqaSpec.shared (groupOf t) z))) (Fin.ext ?_)
      show (64 * (r'.val / 256 % 2) + j.val) % 64 = j.val
      omega)
    (fun k d => by rw [block2, values_twice, GqaSpec.value_lt])
  rw [e]
  refine (halves_apply a l r x j).trans ?_
  have hp : 0 < Diff.span (tileOf t).val := by unfold Diff.span; split <;> omega
  refine ((hR ⟨256 * x.val + r.val, by omega⟩).div_eq hp ⟨64 * (x.val % 2) + j.val, by omega⟩).trans ?_
  have e1 : ∀ hh, (⟨(256 * x.val + r.val) / 256, hh⟩ : Fin 4) = x := fun _ => Fin.ext (by show (256 * x.val + r.val) / 256 = x.val; omega)
  have e2 : ∀ hh, (⟨(256 * x.val + r.val) % 256, hh⟩ : Fin 256) = r := fun _ => Fin.ext (by show (256 * x.val + r.val) % 256 = r.val; omega)
  have e3 : ∀ hh, (⟨(64 * (x.val % 2) + j.val) % 64, hh⟩ : Fin 64) = j := fun _ => Fin.ext (by
    show (64 * (x.val % 2) + j.val) % 64 = j.val; omega)
  unfold GqaSpec.entry
  rw [keys_rowOf]
  simp only [e1, e2, e3]
  rfl

/-- The blocks cover the result. -/
theorem covers3 : win0_3.Covers := by
  refine Pipeline.Window.covers_of_indexMap_surj _ rfl (fun a => match a with | ⟨0, _⟩ => Nat.one_pos | ⟨1, _⟩ => (by omega : 0 < 256) | ⟨2, _⟩ => (by omega : 0 < 256))
    fun β => ?_
  refine ⟨fun a => match a with | ⟨0, _⟩ => β 0 | ⟨1, _⟩ => β 2 | ⟨2, _⟩ => β 1, fun a => ?_⟩
  match a with
  | ⟨0, _⟩ => exact Diff.word _ 8 (β 0).isLt (by norm_num)
  | ⟨1, _⟩ => exact Diff.word _ 33 (β 1).isLt (by norm_num)
  | ⟨2, _⟩ => exact Diff.word _ 2 (β 2).isLt (by norm_num)

/-- The array the call leaves is the specification. -/
theorem array (c : Dev nD) (hq : ∀ i, ∃ r : ℝ, m ((c : Thread nD τ).loc main_arg0) i = (r : EReal))
    (hk : ∀ i, ∃ r : ℝ, m ((c : Thread nD τ).loc main_arg1) i = (r : EReal)) :
    (dats m 0 c).arrAt 3 cfg0.N = goal m c := by
  refine (dats m 0 c).arrAt_eq_of_covers 3 _ covers3 fun t hf y => ?_
  blk_simp
  rw [after0_3]
  obtain ⟨r, x, j, rfl⟩ : ∃ (r : Fin 256) (x : Fin 4) (j : Fin 64), y = ix3 (0 : Fin 1) r (⟨64 * x.val + j.val, by omega⟩ : Fin 256) := by
    have h2 : (y 2).val < 256 := (y 2).isLt
    have e : y = ix3 (0 : Fin 1) (y 1) (y 2) := (eq_ix3 (n0 := 1) (n1 := 256) (n2 := 256) y).trans
      (congrArg (fun z : Fin 1 => ix3 z (y 1) (y 2)) (Subsingleton.elim _ _))
    refine ⟨y 1, ⟨(y 2).val / 64, by omega⟩, ⟨(y 2).val % 64, by omega⟩, e.trans ?_⟩
    refine congrArg (fun z : Fin 256 => ix3 (0 : Fin 1) (y 1) z) (Fin.ext ?_)
    show (y 2).val = 64 * ((y 2).val / 64) + (y 2).val % 64
    omega
  rw [point m c hq hk]
  refine congrArg _ ?_
  blk_ext [index3]
  · rfl
  · rfl
  · exact congrArg (· + (64 * x.val + j.val)) (Nat.mul_comm 256 (groupOf t).val)

end Cert.Gqa

end
-- ==== Proof.GqaRefHeads.lean ====
/-
  What the reference's grouped-query attention reads: the heads of the queries, the groups of keys and values.
-/
module

public import proofs.«01_k».proof.Proof.GqaSpec
public import proofs.«01_k».proof.Proof.Weights
public import proofs.«01_k».proof.Proof.Tile
public import proofs.«01_k».proof.Proof.Gen.Reference2Ideal.Read

@[expose] public section

noncomputable section

namespace Cert.GqaRef

open Idealize.ShloMosaic Idealize.ShloMosaic.TcCoe Idealize.SL.Sem Idealize.ShloMosaic.ValueIdx
open Cert.Reference2Ideal Cert.Reference2Ideal.Gen Cert.Reference2Ideal.Read Cert.Softmax

theorem q_head (x0 : GqaSpec.Queries) (b : Fin 8) (g : Fin 2) (x : Fin 4) (R : Fin 8448) (j : Fin 64) :
    val_main_v2 (F := Ideal) x0 (ix5 b g x R j) = x0 (ix3 b R (GqaSpec.lane g x j)) := by
  rw [val_main_v2_apply, val_main_v1_apply, val_main_v0_apply]
  refine congrArg x0 (funext fun a => Fin.ext ?_)
  match a with
  | ⟨0, _⟩ => show (((((b.val * 8448 + R.val) * 2 + g.val) * 4 + x.val) * 64 + j.val)) / 4325376 = b.val; omega
  | ⟨1, _⟩ => show (((((b.val * 8448 + R.val) * 2 + g.val) * 4 + x.val) * 64 + j.val)) / 512 % 8448 = R.val; omega
  | ⟨2, _⟩ => show (((((b.val * 8448 + R.val) * 2 + g.val) * 4 + x.val) * 64 + j.val)) % 512 = 256 * g.val + (64 * x.val + j.val); omega

theorem k_head (x1 : GqaSpec.Keys) (b : Fin 8) (g : Fin 2) (K : Fin 8448) (j : Fin 64) :
    val_main_v5 (F := Ideal) x1 (ix4 b g K j) = x1 (ix3 b K (GqaSpec.shared g j)) := by
  rw [val_main_v5_apply, val_main_v4_apply, val_main_v3_apply]
  refine congrArg x1 (funext fun a => Fin.ext ?_)
  match a with
  | ⟨0, _⟩ => show ((((b.val * 8448 + K.val) * 2 + g.val) * 64 + j.val)) / 1081344 = b.val; omega
  | ⟨1, _⟩ => show ((((b.val * 8448 + K.val) * 2 + g.val) * 64 + j.val)) / 128 % 8448 = K.val; omega
  | ⟨2, _⟩ => show ((((b.val * 8448 + K.val) * 2 + g.val) * 64 + j.val)) % 128 = 64 * g.val + j.val; omega

theorem v_head (x2 : GqaSpec.Keys) (b : Fin 8) (g : Fin 2) (K : Fin 8448) (j : Fin 64) :
    val_main_v8 (F := Ideal) x2 (ix4 b g K j) = x2 (ix3 b K (GqaSpec.shared g j)) := by
  rw [val_main_v8_apply, val_main_v7_apply, val_main_v6_apply]
  refine congrArg x2 (funext fun a => Fin.ext ?_)
  match a with
  | ⟨0, _⟩ => show ((((b.val * 8448 + K.val) * 2 + g.val) * 64 + j.val)) / 1081344 = b.val; omega
  | ⟨1, _⟩ => show ((((b.val * 8448 + K.val) * 2 + g.val) * 64 + j.val)) / 128 % 8448 = K.val; omega
  | ⟨2, _⟩ => show ((((b.val * 8448 + K.val) * 2 + g.val) * 64 + j.val)) % 128 = 64 * g.val + j.val; omega

end Cert.GqaRef

end
-- ==== Proof.GqaRefLatents.lean ====
/-
  The reference's grouped-query attention of the queries after the context, over all 8448 keys.
-/
module

public import proofs.«01_k».proof.Proof.GqaRefHeads

@[expose] public section

noncomputable section

namespace Cert.GqaRef

open Idealize.ShloMosaic Idealize.ShloMosaic.TcCoe Idealize.SL.Sem Idealize.ShloMosaic.ValueIdx
open Cert.Reference2Ideal Cert.Reference2Ideal.Gen Cert.Reference2Ideal.Read Cert.Softmax

/-- The row of the whole sequence a query stands at. -/
def rowL (R : Fin 8192) : Fin 8448 := ⟨256 + R.val, by omega⟩

/-- Key `k` of the whole sequence. -/
def keyL (k : Fin 8448) : Fin 8448 := ⟨k.val, by omega⟩

theorem scoreL {x0 : GqaSpec.Queries} {x1 : GqaSpec.Keys} (hq : ∀ i, ∃ r : ℝ, x0 i = r) (hk : ∀ i, ∃ r : ℝ, x1 i = r) (b : Fin 8)
    (g : Fin 2) (x : Fin 4) (R : Fin 8192) (k : Fin 8448) :
    val_main_v10 (F := Ideal) x0 x1 (ix5 b g x R k) = (GqaSpec.score x0 x1 b g x (rowL R) k.val : EReal) := by
  rw [val_main_v10_apply, ← show (keyL k).val = k.val from rfl, ← GqaSpec.dot_eq_score hq hk]
  refine Finset.sum_congr rfl fun j _ => ?_
  rw [val_main_v9_apply]
  refine congrArg₂ (· * ·) ((congrArg _ (funext fun a => Fin.ext ?_)).trans (q_head x0 b g x (rowL R) j))
    ((congrArg _ (funext fun a => Fin.ext ?_)).trans (k_head x1 b g (keyL k) j))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

/-- The shift is a real number. -/
theorem shiftL {x0 : GqaSpec.Queries} {x1 : GqaSpec.Keys} (hq : ∀ i, ∃ r : ℝ, x0 i = r) (hk : ∀ i, ∃ r : ℝ, x1 i = r) (b : Fin 8)
    (g : Fin 2) (x : Fin 4) (R : Fin 8192) : ∃ M : ℝ, val_main_v13 (F := Ideal) x0 x1 (ix4 b g x R) = (M : EReal) := by
  obtain ⟨M, hM⟩ := max_real (n := 8448) (by omega) (fun k => val_main_v10 (F := Ideal) x0 x1 (ix5 b g x R k))
    fun k => ⟨_, scoreL hq hk b g x R k⟩
  refine ⟨M, hM ▸ ?_⟩
  rw [val_main_v13_apply, val_main_v12_apply, val_main_v11]
  rw [Host.reduce_eq_fold_single FloatOps.maximumf _ _ reducesTo_S8x2x4x8192x8448_S8x2x4x8192_d4
    (by decide : S8x2x4x8192x8448.Reduces [4] S8x2x4x8192) h_S_]
  show max (Ideal.ofBits .f32 0xFF800000#32) (Finset.fold max (Ideal.ofBits .f32 0xFF800000#32) _ _) = _
  rw [Cert.Tile.ofBits_neg_inf]
  refine congrArg (max (⊥ : EReal)) (congrArg (fun f => Finset.fold max (⊥ : EReal) f Finset.univ) (funext fun k => ?_))
  refine congrArg (val_main_v10 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

/-- One quotient of the softmax. -/
theorem quotientL {x0 : GqaSpec.Queries} {x1 : GqaSpec.Keys} (hq : ∀ i, ∃ r : ℝ, x0 i = r) (hk : ∀ i, ∃ r : ℝ, x1 i = r) (b : Fin 8)
    (g : Fin 2) (x : Fin 4) (R : Fin 8192) (k : Fin 8448) :
    val_main_v21 (F := Ideal) x0 x1 (ix5 b g x R k) = (weight (GqaSpec.score x0 x1 b g x (rowL R)) 8448 k.val : EReal) := by
  obtain ⟨M, hM⟩ := shiftL hq hk b g x R
  have e : ∀ j : Fin 8448, val_main_v17 (F := Ideal) x0 x1 (ix5 b g x R j)
      = Ideal.exp ((GqaSpec.score x0 x1 b g x (rowL R) j.val : EReal) - M) := by
    intro j
    rw [val_main_v17_apply, val_main_v16_apply, val_main_v15_apply, val_main_v14_apply, scoreL hq hk]
    have : idx_main_v14 (idx_main_v15 (ix5 b g x R j)) = ix4 b g x R := funext fun a => match a with
      | ⟨0, _⟩ => rfl | ⟨1, _⟩ => rfl | ⟨2, _⟩ => rfl | ⟨3, _⟩ => rfl
    rw [this, hM]
    rfl
  rw [val_main_v21_apply, val_main_v20_apply, val_main_v19_apply, val_main_v18_apply, e]
  rw [← div_weight (GqaSpec.score x0 x1 b g x (rowL R)) (n := 8448) (by omega) M k.val]
  refine congrArg₂ Ideal.div rfl (congrArg₂ (· + ·) Ideal.ofBits_zero_f32 (Finset.sum_congr rfl fun j _ => ?_))
  rw [← e]
  refine congrArg (val_main_v17 (F := Ideal) x0 x1) (funext fun a => ?_)
  match a with
  | ⟨0, _⟩ => rfl
  | ⟨1, _⟩ => rfl
  | ⟨2, _⟩ => rfl
  | ⟨3, _⟩ => rfl
  | ⟨4, _⟩ => rfl

/-- One head's softmax average of the values. -/
theorem headL {x0 : GqaSpec.Queries} {x1 : GqaSpec.Keys} (hq : ∀ i, ∃ r : ℝ, x0 i = r) (hk : ∀ i, ∃ r : ℝ, x1 i = r) (x2 : GqaSpec.Keys)
    (b : Fin 8) (g : Fin 2) (x : Fin 4) (R : Fin 8192) (j : Fin 64) :
    val_main_v22 (F := Ideal) x0 x1 x2 (ix5 b g x R j) = GqaSpec.entry x0 x1 x2 b (rowL R) g x j := by
  have hn : DiffSpec.keys (rowL R).val = 8448 := by
    unfold DiffSpec.keys rowL
    rw [if_neg (by show ¬ 256 + R.val < 256; omega)]
  rw [GqaSpec.entry, hn, ← soft_fin, val_main_v22_apply]
  refine Finset.sum_congr rfl fun k _ => ?_
  have el : lidx_main_v22 (ix5 b g x R j) k = ix5 b g x R k := funext fun a => match a with
    | ⟨0, _⟩ => rfl | ⟨1, _⟩ => rfl | ⟨2, _⟩ => rfl | ⟨3, _⟩ => rfl | ⟨4, _⟩ => rfl
  have er : val_main_v8 (F := Ideal) x2 (ridx_main_v22 (ix5 b g x R j) k) = GqaSpec.value x2 b g k.val j := by
    rw [GqaSpec.value_lt x2 b g k j, ← v_head x2 b g k j]
    exact congrArg _ (funext fun a => match a with
      | ⟨0, _⟩ => rfl | ⟨1, _⟩ => rfl | ⟨2, _⟩ => rfl | ⟨3, _⟩ => rfl)
  rw [el, er, quotientL hq hk]

end Cert.GqaRef

end
-- ==== Proof.GqaRefContext.lean ====
/-
  The reference's grouped-query attention of the context's queries, over the context's 256 keys.
-/
module

public import proofs.«01_k».proof.Proof.GqaRefHeads

@[expose] public section

noncomputable section

namespace Cert.GqaRef

open Idealize.ShloMosaic Idealize.ShloMosaic.TcCoe Idealize.SL.Sem Idealize.ShloMosaic.ValueIdx
open Cert.Reference2Ideal Cert.Reference2Ideal.Gen Cert.Reference2Ideal.Read Cert.Softmax

/-- The row of the whole sequence a query stands at. -/
def rowC (R : Fin 256) : Fin 8448 := ⟨R.val, by omega⟩

/-- Key `k` of the whole sequence. -/
def keyC (k : Fin 256) : Fin 8448 := ⟨k.val, by omega⟩

theorem scoreC {x0 : GqaSpec.Queries} {x1 : GqaSpec.Keys} (hq : ∀ i, ∃ r : ℝ, x0 i = r) (hk : ∀ i, ∃ r : ℝ, x1 i = r) (b : Fin 8)
    (g : Fin 2) (x : Fin 4) (R : Fin 256) (k : Fin 256) :
    val_main_v26 (F := Ideal) x0 x1 (ix5 b g x R k) = (GqaSpec.score x0 x1 b g x (rowC R) k.val : EReal) := by
  rw [val_main_v26_apply, ← show (keyC k).val = k.val from rfl, ← GqaSpec.dot_eq_score hq hk]
  refine Finset.sum_congr rfl fun j _ => ?_
  rw [val_main_v23_apply, val_main_v24_apply]
  refine congrArg₂ (· * ·) ((congrArg _ (funext fun a => Fin.ext ?_)).trans (q_head x0 b g x (rowC R) j))
    ((congrArg _ (funext fun a => Fin.ext ?_)).trans (k_head x1 b g (keyC k) j))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl

/-- The shift is a real number. -/
theorem shiftC {x0 : GqaSpec.Queries} {x1 : GqaSpec.Keys} (hq : ∀ i, ∃ r : ℝ, x0 i = r) (hk : ∀ i, ∃ r : ℝ, x1 i = r) (b : Fin 8)
    (g : Fin 2) (x : Fin 4) (R : Fin 256) : ∃ M : ℝ, val_main_v29 (F := Ideal) x0 x1 (ix4 b g x R) = (M : EReal) := by
  obtain ⟨M, hM⟩ := max_real (n := 256) (by omega) (fun k => val_main_v26 (F := Ideal) x0 x1 (ix5 b g x R k))
    fun k => ⟨_, scoreC hq hk b g x R k⟩
  refine ⟨M, hM ▸ ?_⟩
  rw [val_main_v29_apply, val_main_v28_apply, val_main_v27]
  rw [Host.reduce_eq_fold_single FloatOps.maximumf _ _ reducesTo_S8x2x4x256x256_S8x2x4x256_d4
    (by decide : S8x2x4x256x256.Reduces [4] S8x2x4x256) h_S_]
  show max (Ideal.ofBits .f32 0xFF800000#32) (Finset.fold max (Ideal.ofBits .f32 0xFF800000#32) _ _) = _
  rw [Cert.Tile.ofBits_neg_inf]
  refine congrArg (max (⊥ : EReal)) (congrArg (fun f => Finset.fold max (⊥ : EReal) f Finset.univ) (funext fun k => ?_))
  refine congrArg (val_main_v26 (F := Ideal) x0 x1) (funext fun a => Fin.ext ?_)
  match a with
  | ⟨0, _⟩ => rfl
  | ⟨1, _⟩ => rfl
  | ⟨2, _⟩ => rfl
  | ⟨3, _⟩ => rfl
  | ⟨4, _⟩ => rfl

/-- One quotient of the softmax. -/
theorem quotientC {x0 : GqaSpec.Queries} {x1 : GqaSpec.Keys} (hq : ∀ i, ∃ r : ℝ, x0 i = r) (hk : ∀ i, ∃ r : ℝ, x1 i = r) (b : Fin 8)
    (g : Fin 2) (x : Fin 4) (R : Fin 256) (k : Fin 256) :
    val_main_v37 (F := Ideal) x0 x1 (ix5 b g x R k) = (weight (GqaSpec.score x0 x1 b g x (rowC R)) 256 k.val : EReal) := by
  obtain ⟨M, hM⟩ := shiftC hq hk b g x R
  have e : ∀ j : Fin 256, val_main_v33 (F := Ideal) x0 x1 (ix5 b g x R j)
      = Ideal.exp ((GqaSpec.score x0 x1 b g x (rowC R) j.val : EReal) - M) := by
    intro j
    rw [val_main_v33_apply, val_main_v32_apply, val_main_v31_apply, val_main_v30_apply, scoreC hq hk]
    have : idx_main_v30 (idx_main_v31 (ix5 b g x R j)) = ix4 b g x R := funext fun a => match a with
      | ⟨0, _⟩ => rfl | ⟨1, _⟩ => rfl | ⟨2, _⟩ => rfl | ⟨3, _⟩ => rfl
    rw [this, hM]
    rfl
  rw [val_main_v37_apply, val_main_v36_apply, val_main_v35_apply, val_main_v34_apply, e]
  rw [← div_weight (GqaSpec.score x0 x1 b g x (rowC R)) (n := 256) (by omega) M k.val]
  refine congrArg₂ Ideal.div rfl (congrArg₂ (· + ·) Ideal.ofBits_zero_f32 (Finset.sum_congr rfl fun j _ => ?_))
  rw [← e]
  refine congrArg (val_main_v33 (F := Ideal) x0 x1) (funext fun a => ?_)
  match a with
  | ⟨0, _⟩ => rfl
  | ⟨1, _⟩ => rfl
  | ⟨2, _⟩ => rfl
  | ⟨3, _⟩ => rfl
  | ⟨4, _⟩ => rfl

/-- One head's softmax average of the values. -/
theorem headC {x0 : GqaSpec.Queries} {x1 : GqaSpec.Keys} (hq : ∀ i, ∃ r : ℝ, x0 i = r) (hk : ∀ i, ∃ r : ℝ, x1 i = r) (x2 : GqaSpec.Keys)
    (b : Fin 8) (g : Fin 2) (x : Fin 4) (R : Fin 256) (j : Fin 64) :
    val_main_v38 (F := Ideal) x0 x1 x2 (ix5 b g x R j) = GqaSpec.entry x0 x1 x2 b (rowC R) g x j := by
  have hn : DiffSpec.keys (rowC R).val = 256 := by
    unfold DiffSpec.keys rowC
    rw [if_pos R.isLt]
  rw [GqaSpec.entry, hn, ← soft_fin, val_main_v38_apply]
  refine Finset.sum_congr rfl fun k _ => ?_
  have el : lidx_main_v38 (ix5 b g x R j) k = ix5 b g x R k := funext fun a => match a with
    | ⟨0, _⟩ => rfl | ⟨1, _⟩ => rfl | ⟨2, _⟩ => rfl | ⟨3, _⟩ => rfl | ⟨4, _⟩ => rfl
  have er : val_main_v25 (F := Ideal) x2 (ridx_main_v38 (ix5 b g x R j) k) = GqaSpec.value x2 b g k.val j := by
    rw [← show (keyC k).val = k.val from rfl, GqaSpec.value_lt x2 b g (keyC k) j, ← v_head x2 b g (keyC k) j, val_main_v25_apply]
    exact congrArg _ (funext fun a => match a with
      | ⟨0, _⟩ => rfl | ⟨1, _⟩ => rfl | ⟨2, _⟩ => rfl | ⟨3, _⟩ => rfl)
  rw [el, er, quotientC hq hk]

end Cert.GqaRef

end
-- ==== Proof.GqaRef.lean ====
/-
  The reference's grouped-query attention is the formula of `GqaSpec`.
-/
module

public import proofs.«01_k».proof.Proof.GqaRefLatents
public import proofs.«01_k».proof.Proof.GqaRefContext

@[expose] public section

noncomputable section

namespace Cert.GqaRef

open Idealize.ShloMosaic Idealize.ShloMosaic.TcCoe Idealize.SL.Sem Idealize.ShloMosaic.ValueIdx
open Cert.Reference2Ideal Cert.Reference2Ideal.Gen Cert.Reference2Ideal.Read Cert.Softmax

section
variable {x0 : GqaSpec.Queries} {x1 : GqaSpec.Keys} (hq : ∀ i, ∃ r : ℝ, x0 i = r) (hk : ∀ i, ∃ r : ℝ, x1 i = r) (x2 : GqaSpec.Keys)

include hq hk in
/-- The context's rows and the latents' rows, one after the other. -/
theorem head (b : Fin 8) (g : Fin 2) (x : Fin 4) (R : Fin 8448) (j : Fin 64) :
    val_main_v39 (F := Ideal) x0 x1 x2 (ix5 b g x R j) = GqaSpec.entry x0 x1 x2 b R g x j := by
  unfold val_main_v39
  by_cases hR : R.val < 256
  · rw [show GqaSpec.entry x0 x1 x2 b R g x j = GqaSpec.entry x0 x1 x2 b (rowC ⟨R.val, hR⟩) g x j from rfl,
      ← headC hq hk x2 b g x ⟨R.val, hR⟩ j]
    generalize val_main_v38 (F := Ideal) x0 x1 x2 = u
    generalize val_main_v22 (F := Ideal) x0 x1 x2 = w
    exact concatenate_pair_apply_left (t := S8x2x4x8448x64) (a := 3) (s₁ := S8x2x4x256x64) (s₂ := S8x2x4x8192x64) _ _ _
      (ix5 b g x R j) (hr := rfl) (i := ix5 (n0 := 8) (n1 := 2) (n2 := 4) (n3 := 256) (n4 := 64) b g x ⟨R.val, hR⟩ j) (hi := fun a => match a with
        | ⟨0, _⟩ => rfl | ⟨1, _⟩ => rfl | ⟨2, _⟩ => rfl | ⟨3, _⟩ => rfl | ⟨4, _⟩ => rfl)
  · have hr : R.val - 256 < 8192 := by omega
    have e : R = rowL ⟨R.val - 256, hr⟩ := Fin.ext (by show R.val = 256 + (R.val - 256); omega)
    rw [show GqaSpec.entry x0 x1 x2 b R g x j = GqaSpec.entry x0 x1 x2 b (rowL ⟨R.val - 256, hr⟩) g x j from by rw [← e],
      ← headL hq hk x2 b g x ⟨R.val - 256, hr⟩ j]
    generalize val_main_v38 (F := Ideal) x0 x1 x2 = u
    generalize val_main_v22 (F := Ideal) x0 x1 x2 = w
    exact concatenate_pair_apply_right (t := S8x2x4x8448x64) (a := 3) (s₁ := S8x2x4x256x64) (s₂ := S8x2x4x8192x64) _ _ _
      (ix5 b g x R j) (hr := rfl) (hr₂ := rfl)
      (i := ix5 (n0 := 8) (n1 := 2) (n2 := 4) (n3 := 8192) (n4 := 64) b g x ⟨R.val - 256, hr⟩ j) (hi := fun a ha => match a with
        | ⟨0, _⟩ => rfl | ⟨1, _⟩ => rfl | ⟨2, _⟩ => rfl | ⟨3, _⟩ => absurd rfl ha | ⟨4, _⟩ => rfl)
      (ha := by show R.val - 256 + 256 = R.val; omega)

include hq hk in
/-- The whole result. -/
theorem out : val_main_v42 (F := Ideal) x0 x1 x2 = GqaSpec.out x0 x1 x2 := by
  funext i
  have h2 : (i 2).val < 512 := (i 2).isLt
  have h1 : (i 1).val < 8448 := (i 1).isLt
  have h0 : (i 0).val < 8 := (i 0).isLt
  rw [val_main_v42_apply, val_main_v41_apply, val_main_v40_apply]
  have e : idx_main_v40 (idx_main_v41 i)
      = ix5 (n0 := 8) (n1 := 2) (n2 := 4) (n3 := 8448) (n4 := 64) (i 0) ⟨(i 2).val / 256, by omega⟩ ⟨(i 2).val / 64 % 4, by omega⟩ (i 1)
        ⟨(i 2).val % 64, by omega⟩ :=
    funext fun a => Fin.ext (match a with
    | ⟨0, _⟩ => by show (((i 0).val * 8448 + (i 1).val) * 512 + (i 2).val) / 4325376 = (i 0).val; omega
    | ⟨1, _⟩ => by show (((i 0).val * 8448 + (i 1).val) * 512 + (i 2).val) / 256 % 2 = (i 2).val / 256; omega
    | ⟨2, _⟩ => by show (((i 0).val * 8448 + (i 1).val) * 512 + (i 2).val) / 64 % 4 = (i 2).val / 64 % 4; omega
    | ⟨3, _⟩ => by show (((i 0).val * 8448 + (i 1).val) * 512 + (i 2).val) / 512 % 8448 = (i 1).val; omega
    | ⟨4, _⟩ => by show (((i 0).val * 8448 + (i 1).val) * 512 + (i 2).val) % 64 = (i 2).val % 64; omega)
  exact (congrArg (val_main_v39 (F := Ideal) x0 x1 x2) e).trans (head hq hk x2 _ _ _ _ _)

end

end Cert.GqaRef

end
-- ==== Proof.GqaClaim.lean ====
/-
  The grouped-query attention and its reference end with the same array.
-/
module

public import proofs.«01_k».proof.Defs
public import proofs.«01_k».proof.Proof.GqaArray
public import proofs.«01_k».proof.Proof.GqaRef
public import proofs.«01_k».proof.Proof.Finite
public import proofs.«01_k».proof.Proof.Gen.Pre_gqa_finite
public import proofs.«01_k».proof.Proof.Gen.Reference2Ideal.Run

@[expose] public section

noncomputable section

namespace Cert.Gqa

open Idealize.ShloMosaic Idealize.SL.Sem Idealize.ShloMosaic.ValueIdx Idealize.ShloMosaic.TcCoe Cert.Finite

/-- The precondition, entry by entry. -/
theorem finite {x0 : (⟨3, ![8, 8448, 512]⟩ : Shape).Idx → EReal} {x1 x2 : (⟨3, ![8, 8448, 128]⟩ : Shape).Idx → EReal}
    (h : (Cert.Pre_gqa_finite.fn (F := Ideal) x0 x1 x2).1 = (fun _ => 1#1)
      ∧ (Cert.Pre_gqa_finite.fn (F := Ideal) x0 x1 x2).2 = (fun _ => 1#1)) :
    (∀ i, ∃ r : ℝ, x0 i = r) ∧ (∀ i, ∃ r : ℝ, x1 i = r) :=
  ⟨fun i => real_of_olt _ (congrFun h.1 i), fun i => real_of_olt _ (congrFun h.2 i)⟩

/-- The kernel's array, from its arguments. -/
theorem kernel_result (m : (ℓ : Loc Cert.Kernel2Ideal.nD Cert.Kernel2Ideal.τ Cert.Kernel2Ideal.sig) → Buf (Elt Ideal) ℓ)
    (h : Cert.Pre_Kernel2Ideal_gqa_finite m) (c : Dev Cert.Kernel2Ideal.nD) :
    (Cert.Kernel2Ideal.Gen.dats m 0 c).arrAt 3 Cert.Kernel2Ideal.cfg0.N = goal m c := by
  obtain ⟨h0, h1⟩ := finite (h c)
  exact array m c h0 h1

theorem algebraic : Cert.algebraic_Kernel2Ideal_Reference2Ideal_pre_gqa_finite := by
  intro m ρ m' ρ' hpre hag
  refine ⟨goal m, ?_, ?_⟩
  · exact (θ_run _ _ _).mono (fun _ h c => ⟨(h c).1.trans (kernel_result m hpre c), (h c).2⟩)
      (Cert.Kernel2Ideal.Value.run_blocks m ρ)
  · refine (θ_run _ _ _).mono (fun _ h c => ⟨(h c).1.trans ?_, (h c).2⟩) (Cert.Reference2Ideal.Value.run m' ρ')
    obtain ⟨h0, h1⟩ := finite (hpre c)
    obtain ⟨e0, e1, e2⟩ := hag c
    rw [Cert.Reference2Ideal.Read.val_main_v42_eq, e0, e1, e2]
    exact Cert.GqaRef.out h0 h1 _

end Cert.Gqa

end
-- ==== Proof.PeerSpec.lean ====
/-
  The scores of a token against the product keys, as a formula: each head and half projects the token to 128 numbers and
  takes their products with the 128 keys. Over real numbers the keys may be multiplied into the projection beforehand.
-/
module

public import proofs.«01_k».proof.Proof.DiffSpec

@[expose] public section

noncomputable section

namespace Cert.PeerSpec

open Idealize.ShloMosaic Idealize.ShloMosaic.ValueIdx

abbrev Tokens := (⟨3, ![8, 8448, 1024]⟩ : Shape).Idx → EReal
abbrev Weights := (⟨2, ![1024, 2048]⟩ : Shape).Idx → EReal
abbrev Keys := (⟨4, ![8, 2, 128, 128]⟩ : Shape).Idx → EReal
abbrev Scores := (⟨2, ![2048, 67584]⟩ : Shape).Idx → EReal

/-- Column of the projection that holds number `j` of half `p` of head `h`. -/
def column (h : Fin 8) (p : Fin 2) (j : Fin 128) : Fin 2048 := ⟨(2 * h.val + p.val) * 128 + j.val, by omega⟩

/-- Number `j` of the query of a token (given in two summands) for half `p` of head `h`. -/
def query (x y : Tokens) (w : Weights) (b : Fin 8) (s : Fin 8448) (h : Fin 8) (p : Fin 2) (j : Fin 128) : EReal :=
  ∑ d : Fin 1024, (x (ix3 b s d) + y (ix3 b s d)) * w (ix2 d (column h p j))

/-- The score of a token against key `n` of half `p` of head `h`. -/
def score (x y : Tokens) (w : Weights) (k : Keys) (b : Fin 8) (s : Fin 8448) (h : Fin 8) (p : Fin 2) (n : Fin 128) : EReal :=
  ∑ j : Fin 128, k (ix4 h p n j) * query x y w b s h p j

/-- All scores: a row for each half, head and key, a column for each token. -/
def out (x y : Tokens) (w : Weights) (k : Keys) : Scores := fun i =>
  score x y w k ⟨(i 1).val / 8448, by have : (i 1).val < 67584 := (i 1).isLt; omega⟩ ⟨(i 1).val % 8448, by omega⟩
    ⟨(i 0).val / 128 % 8, by omega⟩ ⟨(i 0).val / 1024, by have : (i 0).val < 2048 := (i 0).isLt; omega⟩ ⟨(i 0).val % 128, by omega⟩

/-- Key `n` of half `p` of head `h` multiplied into the projection. -/
def fold (w : Weights) (k : Keys) (h : Fin 8) (p : Fin 2) (n : Fin 128) (d : Fin 1024) : EReal :=
  ∑ j : Fin 128, k (ix4 h p n j) * w (ix2 d (column h p j))

theorem fold_real {w : Weights} {k : Keys} (hw : ∀ i, ∃ r : ℝ, w i = r) (hk : ∀ i, ∃ r : ℝ, k i = r) (h : Fin 8) (p : Fin 2)
    (n : Fin 128) (d : Fin 1024) : ∃ r : ℝ, fold w k h p n d = r :=
  DiffSpec.sum_real Finset.univ fun j => DiffSpec.mul_real (hk _) (hw _)

/-- Over real numbers a score is the product of the token with the folded key. -/
theorem fold_score {x y : Tokens} {w : Weights} {k : Keys} (hx : ∀ i, ∃ r : ℝ, x i = r) (hy : ∀ i, ∃ r : ℝ, y i = r)
    (hw : ∀ i, ∃ r : ℝ, w i = r) (hk : ∀ i, ∃ r : ℝ, k i = r) (b : Fin 8) (s : Fin 8448) (h : Fin 8) (p : Fin 2) (n : Fin 128) :
    (∑ d : Fin 1024, fold w k h p n d * x (ix3 b s d)) + ∑ d : Fin 1024, fold w k h p n d * y (ix3 b s d)
      = score x y w k b s h p n := by
  choose x' hx using hx
  choose y' hy using hy
  choose w' hw using hw
  choose k' hk using hk
  unfold score query fold
  simp only [hx, hy, hw, hk, ← EReal.coe_mul, ← EReal.coe_add, ← Softmax.coe_sum]
  refine congrArg _ ?_
  rw [← Finset.sum_add_distrib]
  simp only [Finset.sum_mul, Finset.mul_sum]
  rw [Finset.sum_comm]
  refine Finset.sum_congr rfl fun d _ => ?_
  rw [← Finset.sum_add_distrib]
  exact Finset.sum_congr rfl fun j _ => by ring

end Cert.PeerSpec

end
-- ==== Proof.PeerFold.lean ====
/-
  The first of the two calls: for each half and head it multiplies the 128 keys into the projection. What one point of
  its grid computes, and the two arrays it leaves: the folded keys, and zeros.
-/
module

public import proofs.«01_k».proof.Proof.PeerSpec
public import proofs.«01_k».proof.Proof.Tile
public import proofs.«01_k».proof.Proof.DiffArray
public import proofs.«01_k».proof.Proof.Gen.Kernel3Ideal.Frame

@[expose] public section

noncomputable section

namespace Cert.Peer

open Idealize.ShloMosaic Idealize.ShloMosaic.TcCoe Idealize.SL.Sem Idealize.ShloMosaic.ValueIdx
open Cert.Kernel3Ideal Cert.Kernel3Ideal.Gen Cert.Tile

/-- What is left of a real number when its rounding is taken away: over extended reals a rounding changes nothing. -/
theorem sub_self_real {x : EReal} (h : ∃ r : ℝ, x = r) : x - x = 0 := by
  obtain ⟨r, rfl⟩ := h
  exact (EReal.coe_sub r r).symm.trans (congrArg _ (sub_self r))

section
variable {x0 : Vec Ideal S1x128x128 .f32} {x1 : Vec Ideal S1x128x1024 .f32}
  (h0 : ∀ n j : Fin 128, ∃ r : ℝ, x0 (ix3 (0 : Fin 1) n j) = r) (h1 : ∀ (j : Fin 128) (d : Fin 1024), ∃ r : ℝ, x1 (ix3 (0 : Fin 1) j d) = r)

include h0 h1 in
theorem product_apply (n : Fin 128) (d : Fin 1024) :
    k0_pay1 (F := Ideal) x0 x1 (ix2 n d) = ∑ j : Fin 128, (x0 (ix3 (0 : Fin 1) n j) * x1 (ix3 (0 : Fin 1) j d) : EReal) := by
  unfold k0_pay1
  simp only [ValueIdx.addf_apply, matmulNN_apply (M := 128) (K := 128) (N := 1024) dot_S128x128_S128x1024_S128x1024_1_0_0_1_n_n rfl]
  have z0 : ∀ j : Fin 128, (x0 (ix3 (0 : Fin 1) n j) - x0 (ix3 (0 : Fin 1) n j) : EReal) = 0 := fun j => sub_self_real (h0 n j)
  have z1 : ∀ j : Fin 128, (x1 (ix3 (0 : Fin 1) j d) - x1 (ix3 (0 : Fin 1) j d) : EReal) = 0 := fun j => sub_self_real (h1 j d)
  simp only [ValueIdx.truncf_apply, ValueIdx.extf_apply, ValueIdx.subf_apply, shapeCast_1ab_ab_apply, z0, z1, zero_mul, mul_zero,
    Finset.sum_const_zero, add_zero]

include h0 h1 in
theorem product_real (n : Fin 128) (d : Fin 1024) : ∃ r : ℝ, k0_pay1 (F := Ideal) x0 x1 (ix2 n d) = r := by
  rw [product_apply h0 h1]
  exact DiffSpec.sum_real Finset.univ fun j => DiffSpec.mul_real (h0 n j) (h1 j d)

include h0 h1 in
theorem first_apply (n : Fin 128) (d : Fin 1024) :
    out0_2 (F := Ideal) x0 x1 (ix3 (0 : Fin 1) n d) = ∑ j : Fin 128, (x0 (ix3 (0 : Fin 1) n j) * x1 (ix3 (0 : Fin 1) j d) : EReal) := by
  unfold out0_2
  rw [View.canon_unit_zero (by decide), View.ld_unit_zero (by decide), View.ld_unit_zero (by decide)]
  unfold k0_pay3 k0_pay2
  dsimp only
  rw [shapeCast_ab_1ab_apply, ValueIdx.truncf_apply, product_apply h0 h1]

include h0 h1 in
theorem second_apply (n : Fin 128) (d : Fin 1024) : out0_3 (F := Ideal) x0 x1 (ix3 (0 : Fin 1) n d) = (0 : EReal) := by
  unfold out0_3
  rw [View.canon_unit_zero (by decide), View.ld_unit_zero (by decide), View.ld_unit_zero (by decide)]
  unfold k0_pay4 k0_pay2
  dsimp only
  rw [shapeCast_ab_1ab_apply, ValueIdx.truncf_apply, ValueIdx.subf_apply, ValueIdx.extf_apply, ValueIdx.truncf_apply]
  exact sub_self_real (product_real h0 h1 n d)

end

theorem index0_0 (t : Fin cfg0.N) : win0_0.index t = ![(grid0.coords t 0).val, 0, 0] :=
  funext fun a => match a with
    | ⟨0, _⟩ => Diff.word _ 16 (grid0.coords t 0).isLt (by norm_num)
    | ⟨1, _⟩ => rfl
    | ⟨2, _⟩ => rfl
theorem index0_1 (t : Fin cfg0.N) : win0_1.index t = ![(grid0.coords t 0).val, 0, 0] :=
  funext fun a => match a with
    | ⟨0, _⟩ => Diff.word _ 16 (grid0.coords t 0).isLt (by norm_num)
    | ⟨1, _⟩ => rfl
    | ⟨2, _⟩ => rfl
theorem index0_2 (t : Fin cfg0.N) : win0_2.index t = ![(grid0.coords t 0).val, 0, 0] :=
  funext fun a => match a with
    | ⟨0, _⟩ => Diff.word _ 16 (grid0.coords t 0).isLt (by norm_num)
    | ⟨1, _⟩ => rfl
    | ⟨2, _⟩ => rfl
theorem index0_3 (t : Fin cfg0.N) : win0_3.index t = ![(grid0.coords t 0).val, 0, 0] :=
  funext fun a => match a with
    | ⟨0, _⟩ => Diff.word _ 16 (grid0.coords t 0).isLt (by norm_num)
    | ⟨1, _⟩ => rfl
    | ⟨2, _⟩ => rfl

/-- The half and head of a point. -/
def pairOf (t : Fin cfg0.N) : Fin 16 := grid0.coords t 0

theorem covers0_2 : win0_2.Covers := by
  refine Pipeline.Window.covers_of_indexMap_surj _ rfl
    (fun a => match a with | ⟨0, _⟩ => Nat.one_pos | ⟨1, _⟩ => (by omega : 0 < 128) | ⟨2, _⟩ => (by omega : 0 < 1024)) fun β => ?_
  refine ⟨fun a => match a with | ⟨0, _⟩ => β 0, fun a => ?_⟩
  match a with
  | ⟨0, _⟩ => exact Diff.word _ 16 (β 0).isLt (by norm_num)
  | ⟨1, _⟩ => exact (Nat.lt_one_iff.mp (β 1).isLt).symm
  | ⟨2, _⟩ => exact (Nat.lt_one_iff.mp (β 2).isLt).symm

theorem covers0_3 : win0_3.Covers := by
  refine Pipeline.Window.covers_of_indexMap_surj _ rfl
    (fun a => match a with | ⟨0, _⟩ => Nat.one_pos | ⟨1, _⟩ => (by omega : 0 < 128) | ⟨2, _⟩ => (by omega : 0 < 1024)) fun β => ?_
  refine ⟨fun a => match a with | ⟨0, _⟩ => β 0, fun a => ?_⟩
  match a with
  | ⟨0, _⟩ => exact Diff.word _ 16 (β 0).isLt (by norm_num)
  | ⟨1, _⟩ => exact (Nat.lt_one_iff.mp (β 1).isLt).symm
  | ⟨2, _⟩ => exact (Nat.lt_one_iff.mp (β 2).isLt).symm

section
variable (V : (c : Dev nD) → (b : Ref sig .tc) → Buf (Elt Ideal) ((c : Thread nD τ).loc b)) (c : Dev nD)

theorem block0_0 (t : Fin cfg0.N) (n j : Fin 128) : iblk0 V c 0 t (ix3 (0 : Fin 1) n j) = V c main_v1 (ix3 (pairOf t) n j) := by
  blk_simp [iblk0]
  refine congrArg _ ?_
  blk_ext [index0_0]
  rfl

theorem block0_1 (t : Fin cfg0.N) (j : Fin 128) (d : Fin 1024) : iblk0 V c 1 t (ix3 (0 : Fin 1) j d) = V c main_v5 (ix3 (pairOf t) j d) := by
  blk_simp [iblk0]
  refine congrArg _ ?_
  blk_ext [index0_1]
  rfl

/-- The keys multiplied into the projection, as an array. -/
def folded : Vec Ideal S16x128x1024 .bf16 := fun i =>
  ∑ j : Fin 128, (show EReal from V c main_v1 (ix3 (n0 := 16) (n1 := 128) (n2 := 128) (i 0) (i 1) j))
    * (show EReal from V c main_v5 (ix3 (n0 := 16) (n1 := 128) (n2 := 1024) (i 0) j (i 2)))

/-- An index of a block, from its row and column. -/
theorem block_idx (y : S1x128x1024.Idx) : ∃ (n : Fin 128) (d : Fin 1024), y = ix3 (0 : Fin 1) n d := by
  have e : y = ix3 (0 : Fin 1) (y 1) (y 2) := (eq_ix3 (n0 := 1) (n1 := 128) (n2 := 1024) y).trans
    (congrArg (fun z : Fin 1 => ix3 z (y 1) (y 2)) (Subsingleton.elim _ _))
  exact ⟨y 1, y 2, e⟩

variable (h1 : ∀ i, ∃ r : ℝ, V c main_v1 i = (r : EReal)) (h5 : ∀ i, ∃ r : ℝ, V c main_v5 i = (r : EReal))

include h1 h5 in
/-- The first array: the folded keys. -/
theorem array0_2 : (dat0 V c).arrAt 2 cfg0.N = folded V c := by
  refine (dat0 V c).arrAt_eq_of_covers 2 _ covers0_2 fun t hf y => ?_
  blk_simp
  rw [after0_2]
  obtain ⟨n, d, rfl⟩ := block_idx y
  rw [first_apply (fun n j => by rw [block0_0]; exact h1 _) (fun j d => by rw [block0_1]; exact h5 _)]
  simp only [block0_0, block0_1]
  refine Eq.trans ?_ (congrArg (folded V c) (show ix3 (pairOf t) n d = _ from ?_))
  · rfl
  blk_ext [index0_2]
  rfl

include h1 h5 in
/-- The second array: what rounding leaves of them, nothing. -/
theorem array0_3 : (dat0 V c).arrAt 3 cfg0.N = fun _ => (0 : EReal) := by
  refine (dat0 V c).arrAt_eq_of_covers 3 _ covers0_3 fun t hf y => ?_
  blk_simp
  rw [after0_3]
  obtain ⟨n, d, rfl⟩ := block_idx y
  exact second_apply (fun n j => by rw [block0_0]; exact h1 _) (fun j d => by rw [block0_1]; exact h5 _) n d

end

end Cert.Peer

end
-- ==== Proof.PeerScores.lean ====
/-
  The second of the two calls: the folded keys times the tokens. What one point of its grid computes, and the array it
  leaves.
-/
module

public import proofs.«01_k».proof.Proof.PeerFold

@[expose] public section

noncomputable section

namespace Cert.Peer

open Idealize.ShloMosaic Idealize.ShloMosaic.TcCoe Idealize.SL.Sem Idealize.ShloMosaic.ValueIdx
open Cert.Kernel3Ideal Cert.Kernel3Ideal.Gen Cert.Tile

theorem scores_apply (k k' : Vec Ideal S2048x1024 .bf16) (x x' : Vec Ideal S512x1024 .bf16) (r : Fin 2048) (u : Fin 512) :
    out1_4 (F := Ideal) k k' x x' (ix2 r u)
      = ((∑ d : Fin 1024, (k (ix2 r d) * x (ix2 u d) : EReal)) + ∑ d : Fin 1024, (k (ix2 r d) * x' (ix2 u d) : EReal))
        + ∑ d : Fin 1024, (k' (ix2 r d) * x (ix2 u d) : EReal) := by
  unfold out1_4
  rw [View.canon_unit_zero (by decide), View.ld_unit_zero (by decide), View.ld_unit_zero (by decide), View.ld_unit_zero (by decide),
    View.ld_unit_zero (by decide)]
  unfold k1_pay1
  simp only [ValueIdx.addf_apply, matmulNT_apply (M := 2048) (K := 1024) (N := 512) dot_S2048x1024_S512x1024_S2048x512_1_1_0_0_n_n rfl,
    shapeCast_self]

theorem index1_0 (t : Fin cfg1.N) : win1_0.index t = ![0, 0] :=
  funext fun a => match a with | ⟨0, _⟩ => rfl | ⟨1, _⟩ => rfl
theorem index1_1 (t : Fin cfg1.N) : win1_1.index t = ![0, 0] :=
  funext fun a => match a with | ⟨0, _⟩ => rfl | ⟨1, _⟩ => rfl
theorem index1_2 (t : Fin cfg1.N) : win1_2.index t = ![(grid1.coords t 0).val, 0] :=
  funext fun a => match a with
    | ⟨0, _⟩ => Diff.word _ 132 (grid1.coords t 0).isLt (by norm_num)
    | ⟨1, _⟩ => rfl
theorem index1_3 (t : Fin cfg1.N) : win1_3.index t = ![(grid1.coords t 0).val, 0] :=
  funext fun a => match a with
    | ⟨0, _⟩ => Diff.word _ 132 (grid1.coords t 0).isLt (by norm_num)
    | ⟨1, _⟩ => rfl
theorem index1_4 (t : Fin cfg1.N) : win1_4.index t = ![0, (grid1.coords t 0).val] :=
  funext fun a => match a with
    | ⟨0, _⟩ => rfl
    | ⟨1, _⟩ => Diff.word _ 132 (grid1.coords t 0).isLt (by norm_num)

theorem covers1_4 : win1_4.Covers := by
  refine Pipeline.Window.covers_of_indexMap_surj _ rfl
    (fun a => match a with | ⟨0, _⟩ => (by omega : 0 < 2048) | ⟨1, _⟩ => (by omega : 0 < 512)) fun β => ?_
  refine ⟨fun a => match a with | ⟨0, _⟩ => β 1, fun a => ?_⟩
  match a with
  | ⟨0, _⟩ => exact (Nat.lt_one_iff.mp (β 0).isLt).symm
  | ⟨1, _⟩ => exact Diff.word _ 132 (β 1).isLt (by norm_num)

/-- Token `u` of a point's 512. -/
def tokenOf (t : Fin cfg1.N) (u : Fin 512) : Fin 67584 :=
  ⟨(grid1.coords t 0).val * 512 + u.val, by have : (grid1.coords t 0).val < 132 := (grid1.coords t 0).isLt; omega⟩

variable (V : (c : Dev nD) → (b : Ref sig .tc) → Buf (Elt Ideal) ((c : Thread nD τ).loc b)) (c : Dev nD)

theorem block1_0 (t : Fin cfg1.N) (r : Fin 2048) (d : Fin 1024) : iblk1 V c 0 t (ix2 r d) = V c main_v7 (ix2 r d) := by
  blk_simp [iblk1]
  refine congrArg _ ?_
  blk_ext [index1_0]
theorem block1_1 (t : Fin cfg1.N) (r : Fin 2048) (d : Fin 1024) : iblk1 V c 1 t (ix2 r d) = V c main_v8 (ix2 r d) := by
  blk_simp [iblk1]
  refine congrArg _ ?_
  blk_ext [index1_1]
theorem block1_2 (t : Fin cfg1.N) (u : Fin 512) (d : Fin 1024) : iblk1 V c 2 t (ix2 u d) = V c main_v9 (ix2 (tokenOf t u) d) := by
  blk_simp [iblk1]
  refine congrArg _ ?_
  blk_ext [index1_2]
  rfl
theorem block1_3 (t : Fin cfg1.N) (u : Fin 512) (d : Fin 1024) : iblk1 V c 3 t (ix2 u d) = V c main_v10 (ix2 (tokenOf t u) d) := by
  blk_simp [iblk1]
  refine congrArg _ ?_
  blk_ext [index1_3]
  rfl

/-- The scores, from the arrays the call finds. -/
def scored : Vec Ideal S2048x67584 .f32 := fun i =>
  ((∑ d : Fin 1024, (show EReal from V c main_v7 (ix2 (n0 := 2048) (n1 := 1024) (i 0) d)) * (show EReal from V c main_v9 (ix2 (n0 := 67584) (n1 := 1024) (i 1) d)))
    + ∑ d : Fin 1024, (show EReal from V c main_v7 (ix2 (n0 := 2048) (n1 := 1024) (i 0) d)) * (show EReal from V c main_v10 (ix2 (n0 := 67584) (n1 := 1024) (i 1) d)))
  + ∑ d : Fin 1024, (show EReal from V c main_v8 (ix2 (n0 := 2048) (n1 := 1024) (i 0) d)) * (show EReal from V c main_v9 (ix2 (n0 := 67584) (n1 := 1024) (i 1) d))

theorem array1_4 : (dat1 V c).arrAt 4 cfg1.N = scored V c := by
  refine (dat1 V c).arrAt_eq_of_covers 4 _ covers1_4 fun t hf y => ?_
  blk_simp
  rw [after1_4]
  obtain ⟨r, u, rfl⟩ : ∃ (r : Fin 2048) (u : Fin 512), y = ix2 r u := ⟨y 0, y 1, eq_ix2 (n0 := 2048) (n1 := 512) y⟩
  rw [scores_apply]
  simp only [block1_0, block1_1, block1_2, block1_3]
  refine Eq.trans ?_ (congrArg (scored V c) (show ix2 r (tokenOf t u) = _ from ?_))
  · rfl
  blk_ext [index1_4]
  rfl

end Cert.Peer

end
-- ==== Proof.PeerArray.lean ====
/-
  What the two calls find in their arrays, from the arguments of the program, and what the second one leaves: the scores.
-/
module

public import proofs.«01_k».proof.Proof.PeerScores

@[expose] public section

noncomputable section

namespace Cert.Peer

open Idealize.ShloMosaic Idealize.ShloMosaic.TcCoe Idealize.SL.Sem Idealize.ShloMosaic.ValueIdx
open Cert.Kernel3Ideal Cert.Kernel3Ideal.Gen Cert.Tile

variable (m : (ℓ : Loc nD τ sig) → Buf (Elt Ideal) ℓ) (ρ : Dev nD → PrngReg) (c : Dev nD)

abbrev tokens : PeerSpec.Tokens := m ((c.tc : Thread nD τ).loc main_arg0)
abbrev tokens' : PeerSpec.Tokens := m ((c.tc : Thread nD τ).loc main_arg1)
abbrev weights : PeerSpec.Weights := m ((c.tc : Thread nD τ).loc main_arg2)
abbrev keys : PeerSpec.Keys := m ((c.tc : Thread nD τ).loc main_arg3)

/-- What the program is to return. -/
abbrev goal : PeerSpec.Scores := PeerSpec.out (tokens m c) (tokens' m c) (weights m c) (keys m c)

/-- The half and the head of one of the 16 pairs. -/
def half (q : Fin 16) : Fin 2 := ⟨q.val / 8, by omega⟩
def head (q : Fin 16) : Fin 8 := ⟨q.val % 8, by omega⟩

theorem entry_keys : V1 m ρ c main_v1 = shapeCast S16x128x128 (transpose S2x8x128x128 [1, 0, 2, 3] (keys m c)
    transposes_S8x2x128x128_S2x8x128x128_1_0_2_3) shapeCasts_S2x8x128x128_S16x128x128 := by
  unfold V1 W1
  after_results_simp <;> rfl

theorem entry_weights : V1 m ρ c main_v5 = shapeCast S16x128x1024 (transpose S2x8x128x1024 [1, 0, 2, 3]
    (shapeCast S8x2x128x1024 (transpose S2048x1024 [1, 0] (weights m c) transposes_S1024x2048_S2048x1024_1_0)
      shapeCasts_S2048x1024_S8x2x128x1024) transposes_S8x2x128x1024_S2x8x128x1024_1_0_2_3) shapeCasts_S2x8x128x1024_S16x128x1024 := by
  unfold V1 W1
  after_results_simp <;> rfl

theorem keys_apply (q : Fin 16) (n j : Fin 128) : V1 m ρ c main_v1 (ix3 q n j) = keys m c (ix4 (head q) (half q) n j) := by
  rw [entry_keys, shapeCast_apply _ _ _ (ix4 (n0 := 2) (n1 := 8) (n2 := 128) (n3 := 128) (half q) (head q) n j) (by
    rw [Shape.rowMajor_val_three, Shape.rowMajor_val_four]
    show ((q.val / 8 * 8 + q.val % 8) * 128 + n.val) * 128 + j.val = (q.val * 128 + n.val) * 128 + j.val
    omega)]
  exact transpose_apply _ _ _ _ _ (fun b => match b with | ⟨0, _⟩ => rfl | ⟨1, _⟩ => rfl | ⟨2, _⟩ => rfl | ⟨3, _⟩ => rfl)

theorem weights_apply (q : Fin 16) (j : Fin 128) (d : Fin 1024) :
    V1 m ρ c main_v5 (ix3 q j d) = weights m c (ix2 d (PeerSpec.column (head q) (half q) j)) := by
  rw [entry_weights, shapeCast_apply _ _ _ (ix4 (n0 := 2) (n1 := 8) (n2 := 128) (n3 := 1024) (half q) (head q) j d) (by
    rw [Shape.rowMajor_val_three, Shape.rowMajor_val_four]
    show ((q.val / 8 * 8 + q.val % 8) * 128 + j.val) * 1024 + d.val = (q.val * 128 + j.val) * 1024 + d.val
    omega),
    transpose_apply _ _ _ _ (ix4 (n0 := 8) (n1 := 2) (n2 := 128) (n3 := 1024) (head q) (half q) j d)
      (fun b => match b with | ⟨0, _⟩ => rfl | ⟨1, _⟩ => rfl | ⟨2, _⟩ => rfl | ⟨3, _⟩ => rfl),
    shapeCast_apply _ _ _ (ix2 (n0 := 2048) (n1 := 1024) (PeerSpec.column (head q) (half q) j) d) (by
    rw [Shape.rowMajor_val_two, Shape.rowMajor_val_four]
    show ((2 * (q.val % 8) + q.val / 8) * 128 + j.val) * 1024 + d.val = ((q.val % 8 * 2 + q.val / 8) * 128 + j.val) * 1024 + d.val
    omega)]
  exact transpose_apply _ _ _ _ _ (fun b => match b with | ⟨0, _⟩ => rfl | ⟨1, _⟩ => rfl)

theorem entry_folded : V3 m ρ c main_v7 = shapeCast S2048x1024 (W2 m ρ c (Proc.devRef .tc main_v6_0)) shapeCasts_S16x128x1024_S2048x1024 := by
  unfold V3 W3
  after_results_simp <;> rfl
theorem entry_rest : V3 m ρ c main_v8 = shapeCast S2048x1024 (W2 m ρ c (Proc.devRef .tc main_v6_1)) shapeCasts_S16x128x1024_S2048x1024 := by
  unfold V3 W3
  after_results_simp <;> rfl
theorem entry_tokens : V3 m ρ c main_v9 = shapeCast S67584x1024 (tokens m c) shapeCasts_S8x8448x1024_S67584x1024 := by
  rw [show tokens m c = W2 m ρ c (Proc.devRef .tc main_arg0) from (W2_args m ρ c main_arg0 (by decide)).symm]
  unfold V3 W3
  after_results_simp <;> rfl
theorem entry_tokens' : V3 m ρ c main_v10 = shapeCast S67584x1024 (tokens' m c) shapeCasts_S8x8448x1024_S67584x1024 := by
  rw [show tokens' m c = W2 m ρ c (Proc.devRef .tc main_arg1) from (W2_args m ρ c main_arg1 (by decide)).symm]
  unfold V3 W3
  after_results_simp <;> rfl

/-- The batch and the position of a token. -/
def batch (u : Fin 67584) : Fin 8 := ⟨u.val / 8448, by omega⟩
def position (u : Fin 67584) : Fin 8448 := ⟨u.val % 8448, by omega⟩

theorem flat_tokens (x : PeerSpec.Tokens) (u : Fin 67584) (d : Fin 1024) :
    shapeCast S67584x1024 x shapeCasts_S8x8448x1024_S67584x1024 (ix2 u d) = x (ix3 (batch u) (position u) d) :=
  shapeCast_apply _ _ _ _ (by
    rw [Shape.rowMajor_val_three, Shape.rowMajor_val_two]
    show (u.val / 8448 * 8448 + u.val % 8448) * 1024 + d.val = u.val * 1024 + d.val
    omega)

/-- The pair and the key of a row of scores. -/
def pair (r : Fin 2048) : Fin 16 := ⟨r.val / 128, by omega⟩
def key (r : Fin 2048) : Fin 128 := ⟨r.val % 128, by omega⟩

theorem flat_folded (x : Vec Ideal S16x128x1024 .bf16) (r : Fin 2048) (d : Fin 1024) :
    shapeCast S2048x1024 x shapeCasts_S16x128x1024_S2048x1024 (ix2 r d) = x (ix3 (pair r) (key r) d) :=
  shapeCast_apply _ _ _ _ (by
    rw [Shape.rowMajor_val_three, Shape.rowMajor_val_two]
    show (r.val / 128 * 128 + r.val % 128) * 1024 + d.val = r.val * 1024 + d.val
    omega)

variable (h0 : ∀ i, ∃ r : ℝ, tokens m c i = r) (h1 : ∀ i, ∃ r : ℝ, tokens' m c i = r) (h2 : ∀ i, ∃ r : ℝ, weights m c i = r)
  (h3 : ∀ i, ∃ r : ℝ, keys m c i = r)

include h3 in
theorem keys_real (i : S16x128x128.Idx) : ∃ r : ℝ, V1 m ρ c main_v1 i = (r : EReal) := by
  obtain ⟨q, n, j, rfl⟩ : ∃ (q : Fin 16) (n j : Fin 128), i = ix3 q n j := ⟨i 0, i 1, i 2, eq_ix3 (n0 := 16) (n1 := 128) (n2 := 128) i⟩
  exact (h3 (ix4 (head q) (half q) n j)).imp fun r hr => (keys_apply m ρ c q n j).trans hr
include h2 in
theorem weights_real (i : S16x128x1024.Idx) : ∃ r : ℝ, V1 m ρ c main_v5 i = (r : EReal) := by
  obtain ⟨q, j, d, rfl⟩ : ∃ (q : Fin 16) (j : Fin 128) (d : Fin 1024), i = ix3 q j d :=
    ⟨i 0, i 1, i 2, eq_ix3 (n0 := 16) (n1 := 128) (n2 := 1024) i⟩
  exact (h2 (ix2 d (PeerSpec.column (head q) (half q) j))).imp fun r hr => (weights_apply m ρ c q j d).trans hr

/-- A folded key, from the arguments of the program. -/
theorem folded_apply (q : Fin 16) (n : Fin 128) (d : Fin 1024) :
    (folded (V1 m ρ) c (ix3 q n d) : EReal) = PeerSpec.fold (weights m c) (keys m c) (head q) (half q) n d := by
  show (∑ j : Fin 128, (show EReal from V1 m ρ c main_v1 (ix3 q n j)) * (show EReal from V1 m ρ c main_v5 (ix3 q j d)) : EReal) = _
  exact Finset.sum_congr rfl fun j _ => congrArg₂ (fun a b : EReal => a * b) (keys_apply m ρ c _ _ _) (weights_apply m ρ c _ _ _)

include h2 h3 in
/-- A row of the second call's first array: a folded key. -/
theorem row_folded (r : Fin 2048) (d : Fin 1024) :
    V3 m ρ c main_v7 (ix2 r d) = PeerSpec.fold (weights m c) (keys m c) (head (pair r)) (half (pair r)) (key r) d := by
  have e : W2 m ρ c (Proc.devRef .tc main_v6_0) = folded (V1 m ρ) c :=
    (W2_arr m ρ c 2).trans (array0_2 (V1 m ρ) c (keys_real m ρ c h3) (weights_real m ρ c h2))
  rw [entry_folded, e, flat_folded]
  exact folded_apply m ρ c _ _ _

include h2 h3 in
/-- A row of its second array: zeros. -/
theorem row_rest (r : Fin 2048) (d : Fin 1024) : V3 m ρ c main_v8 (ix2 r d) = (0 : EReal) := by
  have e : W2 m ρ c (Proc.devRef .tc main_v6_1) = (fun _ => (0 : EReal)) :=
    (W2_arr m ρ c 3).trans (array0_3 (V1 m ρ) c (keys_real m ρ c h3) (weights_real m ρ c h2))
  rw [entry_rest, e, flat_folded]

theorem row_tokens (u : Fin 67584) (d : Fin 1024) : V3 m ρ c main_v9 (ix2 u d) = tokens m c (ix3 (batch u) (position u) d) := by
  rw [entry_tokens]
  exact flat_tokens _ _ _
theorem row_tokens' (u : Fin 67584) (d : Fin 1024) : V3 m ρ c main_v10 (ix2 u d) = tokens' m c (ix3 (batch u) (position u) d) := by
  rw [entry_tokens']
  exact flat_tokens _ _ _

/-- Of the three products the one with the zeros vanishes. -/
theorem two_products {k k' x x' K X X' : Fin 1024 → EReal} (hk : ∀ d, k d = K d) (hk' : ∀ d, k' d = 0) (hx : ∀ d, x d = X d)
    (hx' : ∀ d, x' d = X' d) :
    (∑ d, k d * x d + ∑ d, k d * x' d) + ∑ d, k' d * x d = ∑ d, K d * X d + ∑ d, K d * X' d := by
  simp only [hk, hk', hx, hx', zero_mul, Finset.sum_const_zero, add_zero]

include h0 h1 h2 h3 in
/-- The array the program returns. -/
theorem array : (dat1 (V3 m ρ) c).arrAt 4 cfg1.N = goal m c := by
  rw [array1_4]
  funext i
  obtain ⟨r, u, rfl⟩ : ∃ (r : Fin 2048) (u : Fin 67584), i = ix2 r u := ⟨i 0, i 1, eq_ix2 (n0 := 2048) (n1 := 67584) i⟩
  refine (two_products (row_folded m ρ c h2 h3 r) (row_rest m ρ c h2 h3 r) (row_tokens m ρ c u) (row_tokens' m ρ c u)).trans ?_
  rw [PeerSpec.fold_score h0 h1 h2 h3]
  show PeerSpec.score _ _ _ _ _ _ _ _ _ = PeerSpec.score _ _ _ _ _ _ _ _ _
  have eh : half (pair r) = ⟨r.val / 1024, by omega⟩ := Fin.ext (by show r.val / 128 / 8 = r.val / 1024; omega)
  rw [eh]
  rfl

end Cert.Peer

end
-- ==== Proof.PeerRun.lean ====
/-
  The program runs, leaves its arguments as they were, and its result holds what the second call's grid wrote.
-/
module

public import proofs.«01_k».proof.Proof.Gen.Kernel3Ideal.Frame

@[expose] public section

noncomputable section

namespace Cert.Peer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch's implicit arguments are found by unfolding plain definitions in their types
set_option backward.isDefEq.respectTransparency.types false in
/-- Every run ends with the result at what the second call leaves, and with the arguments as they were. -/
theorem run : θ_run defs (onTc (τ := τ) (main (F := F))) ⟨m, fun _ => 0, ρ⟩ (fun r => ∀ c : Dev nD,
      r.2.mem ((c.tc : Thread nD τ).loc main_v11) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v11 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Peer

end
-- ==== Proof.PeerRef.lean ====
/-
  The reference's scores are the formula of `PeerSpec`.
-/
module

public import proofs.«01_k».proof.Proof.PeerSpec
public import proofs.«01_k».proof.Proof.Tile
public import proofs.«01_k».proof.Proof.Gen.Reference3Ideal.Read

@[expose] public section

noncomputable section

namespace Cert.PeerRef

open Idealize.ShloMosaic Idealize.ShloMosaic.TcCoe Idealize.SL.Sem Idealize.ShloMosaic.ValueIdx
open Cert.Reference3Ideal Cert.Reference3Ideal.Gen Cert.Reference3Ideal.Read

variable (x0 x1 : PeerSpec.Tokens) (x2 : PeerSpec.Weights) (x3 : PeerSpec.Keys)

theorem projected (b : Fin 8) (s : Fin 8448) (q : Fin 2048) :
    val_main_v3 (F := Ideal) x0 x1 x2 (ix3 b s q) = ∑ d : Fin 1024, (x0 (ix3 b s d) + x1 (ix3 b s d)) * x2 (ix2 d q) := by
  rw [val_main_v3_apply]
  refine Finset.sum_congr rfl fun d _ => ?_
  have el : lidx_main_v3 (ix3 b s q) d = ix3 b s d := funext fun a => Fin.ext (match a with | ⟨0, _⟩ => rfl | ⟨1, _⟩ => rfl | ⟨2, _⟩ => rfl)
  have er : ridx_main_v3 (ix3 b s q) d = ix2 d q := funext fun a => Fin.ext (match a with | ⟨0, _⟩ => rfl | ⟨1, _⟩ => rfl)
  rw [el, er]
  rfl

/-- The projection, by heads and halves. -/
theorem query (b : Fin 8) (s : Fin 8448) (h : Fin 8) (p : Fin 2) (j : Fin 128) :
    val_main_v4 (F := Ideal) x0 x1 x2 (ix5 b s h p j) = PeerSpec.query x0 x1 x2 b s h p j := by
  rw [val_main_v4_apply]
  have e : idx_main_v4 (ix5 b s h p j) = ix3 b s (PeerSpec.column h p j) := funext fun a => Fin.ext (match a with
    | ⟨0, _⟩ => by show ((((b.val * 8448 + s.val) * 8 + h.val) * 2 + p.val) * 128 + j.val) / 17301504 = b.val; omega
    | ⟨1, _⟩ => by show ((((b.val * 8448 + s.val) * 8 + h.val) * 2 + p.val) * 128 + j.val) / 2048 % 8448 = s.val; omega
    | ⟨2, _⟩ => by show ((((b.val * 8448 + s.val) * 8 + h.val) * 2 + p.val) * 128 + j.val) % 2048 = (2 * h.val + p.val) * 128 + j.val; omega)
  exact (congrArg _ e).trans (projected x0 x1 x2 b s _)

theorem score (h : Fin 8) (p : Fin 2) (n : Fin 128) (b : Fin 8) (s : Fin 8448) :
    val_main_v5 (F := Ideal) x0 x1 x2 x3 (ix5 h p n b s) = PeerSpec.score x0 x1 x2 x3 b s h p n := by
  rw [val_main_v5_apply]
  refine Finset.sum_congr rfl fun j _ => ?_
  have el : lidx_main_v5 (ix5 h p n b s) j = ix4 h p n j :=
    funext fun a => Fin.ext (match a with | ⟨0, _⟩ => rfl | ⟨1, _⟩ => rfl | ⟨2, _⟩ => rfl | ⟨3, _⟩ => rfl)
  have er : ridx_main_v5 (ix5 h p n b s) j = ix5 b s h p j :=
    funext fun a => Fin.ext (match a with | ⟨0, _⟩ => rfl | ⟨1, _⟩ => rfl | ⟨2, _⟩ => rfl | ⟨3, _⟩ => rfl | ⟨4, _⟩ => rfl)
  rw [el, er, query]

/-- The whole result. -/
theorem out : val_main_v8 (F := Ideal) x0 x1 x2 x3 = PeerSpec.out x0 x1 x2 x3 := by
  funext i
  have h1 : (i 1).val < 67584 := (i 1).isLt
  have h0 : (i 0).val < 2048 := (i 0).isLt
  rw [val_main_v8_apply, val_main_v7_apply, val_main_v6_apply]
  have e : idx_main_v6 (idx_main_v7 (idx_main_v8 i))
      = ix5 (n0 := 8) (n1 := 2) (n2 := 128) (n3 := 8) (n4 := 8448) ⟨(i 0).val / 128 % 8, by omega⟩ ⟨(i 0).val / 1024, by omega⟩
        ⟨(i 0).val % 128, by omega⟩ ⟨(i 1).val / 8448, by omega⟩ ⟨(i 1).val % 8448, by omega⟩ :=
    funext fun a => Fin.ext (match a with
    | ⟨0, _⟩ => by show ((i 0).val * 67584 + (i 1).val) / 8650752 % 8 = (i 0).val / 128 % 8; omega
    | ⟨1, _⟩ => by show ((i 0).val * 67584 + (i 1).val) / 69206016 = (i 0).val / 1024; omega
    | ⟨2, _⟩ => by show ((i 0).val * 67584 + (i 1).val) / 67584 % 128 = (i 0).val % 128; omega
    | ⟨3, _⟩ => by show ((i 0).val * 67584 + (i 1).val) / 8448 % 8 = (i 1).val / 8448; omega
    | ⟨4, _⟩ => by show ((i 0).val * 67584 + (i 1).val) % 8448 = (i 1).val % 8448; omega)
  exact (congrArg (val_main_v5 (F := Ideal) x0 x1 x2 x3) e).trans (score x0 x1 x2 x3 _ _ _ _ _)

end Cert.PeerRef

end
-- ==== Proof.PeerClaim.lean ====
/-
  The scores of the kernel and of its reference are the same array.
-/
module

public import proofs.«01_k».proof.Defs
public import proofs.«01_k».proof.Proof.PeerArray
public import proofs.«01_k».proof.Proof.PeerRun
public import proofs.«01_k».proof.Proof.PeerRef
public import proofs.«01_k».proof.Proof.Finite
public import proofs.«01_k».proof.Proof.Gen.Pre_peer_finite
public import proofs.«01_k».proof.Proof.Gen.Reference3Ideal.Run

@[expose] public section

noncomputable section

namespace Cert.Peer

open Idealize.ShloMosaic Idealize.SL.Sem Idealize.ShloMosaic.ValueIdx Idealize.ShloMosaic.TcCoe Cert.Finite

/-- The precondition, entry by entry. -/
theorem finite {x0 x1 : PeerSpec.Tokens} {x2 : PeerSpec.Weights} {x3 : PeerSpec.Keys}
    (h : (Cert.Pre_peer_finite.fn (F := Ideal) x0 x1 x2 x3).1 = (fun _ => 1#1)
      ∧ (Cert.Pre_peer_finite.fn (F := Ideal) x0 x1 x2 x3).2.1 = (fun _ => 1#1)
      ∧ (Cert.Pre_peer_finite.fn (F := Ideal) x0 x1 x2 x3).2.2 = (fun _ => 1#1)) :
    (∀ i, ∃ r : ℝ, x0 i = r) ∧ (∀ i, ∃ r : ℝ, x1 i = r) ∧ (∀ i, ∃ r : ℝ, x2 i = r) ∧ (∀ i, ∃ r : ℝ, x3 i = r) :=
  ⟨fun i => real_of_olt _ (both (congrFun h.1 i)).1, fun i => real_of_olt _ (both (congrFun h.1 i)).2,
    fun i => real_of_olt _ (congrFun h.2.1 i), fun i => real_of_olt _ (congrFun h.2.2 i)⟩

theorem algebraic : Cert.algebraic_Kernel3Ideal_Reference3Ideal_pre_peer_finite := by
  intro m ρ m' ρ' hpre hag
  refine ⟨goal m, ?_, ?_⟩
  · refine (θ_run _ _ _).mono (fun _ h c => ⟨(h c).1.trans ?_, (h c).2⟩) (run m ρ)
    obtain ⟨h0, h1, h2, h3⟩ := finite (hpre c)
    exact array m ρ c h0 h1 h2 h3
  · refine (θ_run _ _ _).mono (fun _ h c => ⟨(h c).1.trans ?_, (h c).2⟩) (Cert.Reference3Ideal.Value.run m' ρ')
    obtain ⟨e0, e1, e2, e3⟩ := hag c
    rw [Cert.Reference3Ideal.Read.val_main_v8_eq, e0, e1, e2, e3]
    exact Cert.PeerRef.out _ _ _ _

end Cert.Peer

end
-- ==== Proof.ProjHead.lean ====
/-
  The pieces of 128 columns the projection kernel stores for queries and keys: each column over the root mean square of
  its head's 64 columns, then turned by the rotary tables. Here each printed piece is written as one of two tiles.
-/
module

public import proofs.«01_k».proof.Proof.Tile
public import proofs.«01_k».proof.Proof.Gen.Kernel4Ideal.Value

@[expose] public section

noncomputable section

namespace Cert.Proj

open Idealize.ShloMosaic Idealize.ShloMosaic.TcCoe Idealize.SL.Sem Idealize.ShloMosaic.ValueIdx
open Cert.Kernel4Ideal Cert.Kernel4Ideal.Gen

variable {F : FTy → Type} [FloatOps F]

/-- The number of its block of 64, as the body computes it from a row or column number. -/
def blockNo (v : IVec S128x128 32) : IVec S128x128 32 :=
  select
    (andi
      (cmpi .ne
        (subi (extui 32 (cmpi .sgt v (broadcast S128x128 0#32)) natLt_1_32) (extui 32 (cmpi .slt v (broadcast S128x128 0#32)) natLt_1_32))
        (broadcast S128x128 (Scalar.subi (Scalar.extui (Scalar.cmpi .sgt 64#32 0#32)) (Scalar.extui (Scalar.cmpi .slt 64#32 0#32)))))
      (cmpi .ne (remsi v (broadcast S128x128 64#32)) (broadcast S128x128 0#32)))
    (subi (divsi v (broadcast S128x128 64#32)) (broadcast S128x128 1#32))
    (divsi v (broadcast S128x128 64#32))

/-- Ones where row and column lie in the same block of 64, zeros elsewhere. -/
def blocks : FVec F S128x128 .bf16 :=
  truncf .bf16
    (select (cmpi .eq (blockNo (iota .tc S128x128 32 [0] iota_S128x128_d0_w32)) (blockNo (iota .tc S128x128 32 [1] iota_S128x128_d1_w32)))
      (broadcast S128x128 (Scalar.ofBits .f32 0x3F800000#32 : F .f32)) (broadcast S128x128 (Scalar.ofBits .f32 0x00000000#32 : F .f32)))
    bitsLt_bf16_f32

/-- The head norm of a tile of two heads. -/
def normTile (y : FVec F S256x128 .f32) (g : FVec F S1x128 .f32) : FVec F S256x128 .f32 :=
  mulf
    (mulf y (rsqrt (addf
      (mulf
        (addf
          (matmul dot_S256x128_S128x128_S256x128_1_0_0_1_n_n none (truncf .bf16 (mulf y y) bitsLt_bf16_f32) blocks (constant S256x128 .f32 0x00000000#32))
          (matmul dot_S256x128_S128x128_S256x128_1_0_0_1_n_n none
            (truncf .bf16 (subf (mulf y y) (extf .f32 (truncf .bf16 (mulf y y) bitsLt_bf16_f32) bitsLt_bf16_f32)) bitsLt_bf16_f32) blocks
            (constant S256x128 .f32 0x00000000#32)))
        (broadcast S256x128 (Scalar.ofBits .f32 0x3C800000#32 : F .f32)))
      (broadcast S256x128 (Scalar.ofBits .f32 0x358637BD#32 : F .f32)))))
    (broadcastTo S256x128 g broadcasts_S1x128_S256x128)

/-- A tile turned by the tables: each column with the column 16 away. -/
def turnTile (n c s : FVec F S256x128 .f32) : FVec F S256x128 .f32 :=
  addf (mulf n c)
    (mulf
      (select
        (cmpi .eq (andi (iota .tc S256x128 32 [1] iota_S256x128_d1_w32) (broadcast S256x128 16#32)) (broadcast S256x128 0#32))
        (dynamicRotate 1 112#32 none n rotates_S256x128_d1) (dynamicRotate 1 16#32 none n rotates_S256x128_d1))
      s)

/-- The stored piece of the keys. -/
def keyPiece (y : FVec F S256x128 .f32) (g : FVec F S1x128 .f32) (c s : FVec F S256x128 .f32) : FVec F S1x256x128 .bf16 :=
  shapeCast S1x256x128
    (truncf .bf16
      (turnTile (normTile y (shapeCast S1x128 g shapeCasts_S1x128_S1x128)) (shapeCast S256x128 c shapeCasts_S256x128_S256x128)
        (shapeCast S256x128 s shapeCasts_S256x128_S256x128))
      bitsLt_bf16_f32)
    shapeCasts_S256x128_S1x256x128

/-- The stored piece of the queries, scaled by 1/8. -/
def queryPiece (y : FVec F S256x128 .f32) (g : FVec F S1x128 .f32) (c s : FVec F S256x128 .f32) : FVec F S1x256x128 .bf16 :=
  shapeCast S1x256x128
    (truncf .bf16
      (mulf
        (turnTile (normTile y (shapeCast S1x128 g shapeCasts_S1x128_S1x128)) (shapeCast S256x128 c shapeCasts_S256x128_S256x128)
          (shapeCast S256x128 s shapeCasts_S256x128_S256x128))
        (broadcast S256x128 (Scalar.ofBits .f32 0x3E000000#32 : F .f32)))
      bitsLt_bf16_f32)
    shapeCasts_S256x128_S1x256x128

/-- The tokens of a point, normed and modulated. -/
def tokens (x0 : Vec F S1x256x1024 .f32) (x1 : Vec F S1x1x6x1024 .f32) (x2 : Vec F S1x1024 .f32) : FVec F S256x1024 .bf16 :=
  k0_pay2 (View.ld x0 r0_0) (View.ld x2 r0_1) (View.ld x1 r0_2) (View.ld x1 r0_3)

/-- The tokens of a point times 768 columns of the weights. -/
def wide (x0 : Vec F S1x256x1024 .f32) (x1 : Vec F S1x1x6x1024 .f32) (x2 : Vec F S1x1024 .f32) (w : Vec F S1024x768 .bf16) :
    FVec F S256x768 .f32 :=
  k0_pay7 (tokens x0 x1 x2) (View.ld w r0_7)

section
variable (x0 : Vec F S1x256x1024 .f32) (x1 : Vec F S1x1x6x1024 .f32) (x2 : Vec F S1x1024 .f32) (x3 : Vec F S256x128 .f32)
  (x4 : Vec F S256x128 .f32) (x5 : Vec F S1024x256 .bf16) (x6 : Vec F S1024x768 .bf16) (x7 : Vec F S1x128 .f32)
  (x8 : Vec F S1024x768 .bf16) (x9 : Vec F S1x128 .f32) (x10 : Vec F S1024x768 .bf16)

set_option maxRecDepth 65536 in
/-- The six stored pieces of the queries. -/
theorem queries_eq : out0_12 x0 x1 x2 x3 x4 x5 x6 x7 x8 x9 x10
    = View.canon [⟨r0_14, queryPiece (extractStridedSlice S256x128 ![0, 640] (wide x0 x1 x2 x6) slices_S256x768_o0_640_S256x128) (View.ld x7 r0_8) (View.ld x3 r0_4) (View.ld x4 r0_4)⟩,
      ⟨r0_13, queryPiece (extractStridedSlice S256x128 ![0, 512] (wide x0 x1 x2 x6) slices_S256x768_o0_512_S256x128) (View.ld x7 r0_8) (View.ld x3 r0_4) (View.ld x4 r0_4)⟩,
      ⟨r0_12, queryPiece (extractStridedSlice S256x128 ![0, 384] (wide x0 x1 x2 x6) slices_S256x768_o0_384_S256x128) (View.ld x7 r0_8) (View.ld x3 r0_4) (View.ld x4 r0_4)⟩,
      ⟨r0_11, queryPiece (extractStridedSlice S256x128 ![0, 256] (wide x0 x1 x2 x6) slices_S256x768_o0_256_S256x128) (View.ld x7 r0_8) (View.ld x3 r0_4) (View.ld x4 r0_4)⟩,
      ⟨r0_10, queryPiece (extractStridedSlice S256x128 ![0, 128] (wide x0 x1 x2 x6) slices_S256x768_o0_128_S256x128) (View.ld x7 r0_8) (View.ld x3 r0_4) (View.ld x4 r0_4)⟩,
      ⟨r0_9, queryPiece (extractStridedSlice S256x128 ![0, 0] (wide x0 x1 x2 x6) slices_S256x768_o0_0_S256x128) (View.ld x7 r0_8) (View.ld x3 r0_4) (View.ld x4 r0_4)⟩] := rfl

set_option maxRecDepth 65536 in
/-- The six stored pieces of the keys. -/
theorem keys_eq : out0_13 x0 x1 x2 x3 x4 x5 x6 x7 x8 x9 x10
    = View.canon [⟨r0_14, keyPiece (extractStridedSlice S256x128 ![0, 640] (wide x0 x1 x2 x8) slices_S256x768_o0_640_S256x128) (View.ld x9 r0_8) (View.ld x3 r0_4) (View.ld x4 r0_4)⟩,
      ⟨r0_13, keyPiece (extractStridedSlice S256x128 ![0, 512] (wide x0 x1 x2 x8) slices_S256x768_o0_512_S256x128) (View.ld x9 r0_8) (View.ld x3 r0_4) (View.ld x4 r0_4)⟩,
      ⟨r0_12, keyPiece (extractStridedSlice S256x128 ![0, 384] (wide x0 x1 x2 x8) slices_S256x768_o0_384_S256x128) (View.ld x9 r0_8) (View.ld x3 r0_4) (View.ld x4 r0_4)⟩,
      ⟨r0_11, keyPiece (extractStridedSlice S256x128 ![0, 256] (wide x0 x1 x2 x8) slices_S256x768_o0_256_S256x128) (View.ld x9 r0_8) (View.ld x3 r0_4) (View.ld x4 r0_4)⟩,
      ⟨r0_10, keyPiece (extractStridedSlice S256x128 ![0, 128] (wide x0 x1 x2 x8) slices_S256x768_o0_128_S256x128) (View.ld x9 r0_8) (View.ld x3 r0_4) (View.ld x4 r0_4)⟩,
      ⟨r0_9, keyPiece (extractStridedSlice S256x128 ![0, 0] (wide x0 x1 x2 x8) slices_S256x768_o0_0_S256x128) (View.ld x9 r0_8) (View.ld x3 r0_4) (View.ld x4 r0_4)⟩] := rfl

end

end Cert.Proj

end
-- ==== Proof.ProjSpec.lean ====
/-
  The first layer's projection over the extended reals, as both programs compute it: a token over the root of its mean
  square, times a gain, modulated by its row's scale and shift; the weights' columns applied; and for queries and keys the
  norm of each head and, on the rows of the latents, the axial rotary embedding.
-/
module

public import proofs.«01_k».proof.Proof.DiffSpec

@[expose] public section

noncomputable section

namespace Cert.ProjSpec

open Idealize.ShloMosaic Idealize.ShloMosaic.ValueIdx

/-- Over the root of the mean square (`size` entries), times a gain. -/
def norm {n : ℕ} (size : EReal) (x g : Fin n → EReal) (d : Fin n) : EReal :=
  x d * Ideal.rsqrt (Ideal.div (∑ e, x e * x e) size + Ideal.ofBits .f32 0x358637BD#32) * g d

/-- Which of the two modulations a row takes: the context's on the first 256 rows, the latents' on the others. -/
def side (R : Fin 8448) : Fin 2 := if R.val < 256 then 0 else 1

/-- A token normed and modulated. -/
def token (x : (⟨3, ![8, 8448, 1024]⟩ : Shape).Idx → EReal) (md : (⟨4, ![8, 2, 6, 1024]⟩ : Shape).Idx → EReal) (g : Fin 1024 → EReal)
    (b : Fin 8) (R : Fin 8448) (d : Fin 1024) : EReal :=
  norm (Ideal.ofBits .f32 0x44800000#32) (fun e => x (ix3 b R e)) g d * (Ideal.ofBits .f32 0x3F800000#32 + md (ix4 b (side R) (1 : Fin 6) d))
    + md (ix4 b (side R) (0 : Fin 6) d)

/-- Column `j` of the projection. -/
def column (t : Fin 8 → Fin 8448 → Fin 1024 → EReal) (w : (⟨2, ![1024, 2560]⟩ : Shape).Idx → EReal) (b : Fin 8) (R : Fin 8448)
    (j : Fin 2560) : EReal :=
  ∑ d : Fin 1024, t b R d * w (ix2 d j)

/-- Tables of cosines and sines: latent, axis, frequency. -/
abbrev Table : Type := (⟨3, ![8192, 2, 16]⟩ : Shape).Idx → EReal

/-- The entry of a table a row of the latents and a feature of a head use. -/
def entry (T : Table) (R : Fin 8448) (j : Fin 64) : EReal :=
  T (ix3 (⟨R.val - 256, by omega⟩ : Fin 8192) (⟨j.val / 32, by omega⟩ : Fin 2) (⟨j.val % 16, by omega⟩ : Fin 16))

/-- The rotary embedding of one head: nothing on a row of the context; on a row of the latents each half of 32 features
    turns its first 16 against its second 16. -/
def turned (C S : Table) (y : Fin 64 → EReal) (R : Fin 8448) (j : Fin 64) : EReal :=
  if R.val < 256 then y j
  else if j.val % 32 < 16 then y j * entry C R j - y ⟨(j.val + 16) % 64, by omega⟩ * entry S R j
  else y j * entry C R j + y ⟨(j.val + 48) % 64, by omega⟩ * entry S R j

/-- Feature `j` of head `h` of the columns from `o` on. -/
def at' (o : Fin 3) (h : Fin 12) (j : Fin 64) : Fin 2560 := ⟨256 + 768 * o.val + (64 * h.val + j.val), by omega⟩

/-- A head of the queries or keys. -/
def head (p : Fin 2560 → EReal) (g : Fin 64 → EReal) (C S : Table) (o : Fin 3) (R : Fin 8448) (h : Fin 12) (j : Fin 64) : EReal :=
  turned C S (norm (Ideal.ofBits .f32 0x42800000#32) (fun e => p (at' o h e)) g) R j

end Cert.ProjSpec

end
-- ==== Proof.ProjLanes.lean ====
/-
  The projection kernel's two tiles at a row and column: the sum over a head's 64 columns, and the column 16 away.
-/
module

public import proofs.«01_k».proof.Proof.ProjHead
public import proofs.«01_k».proof.Proof.ProjSpec
public import Idealize.ShloMosaic.Lib.KernelVsHost

@[expose] public section

noncomputable section

namespace Cert.Proj

open Idealize.ShloMosaic Idealize.ShloMosaic.TcCoe Idealize.SL.Sem Idealize.ShloMosaic.ValueIdx
open Cert.Kernel4Ideal Cert.Kernel4Ideal.Gen Cert.Tile

/-- The block number of one word. -/
def wordBlock (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem blockNo_apply (v : IVec S128x128 32) (i : S128x128.Idx) : blockNo v i = wordBlock (v i) := by
  unfold blockNo wordBlock
  rw [select_apply]
  rfl

theorem wordBlock_ofNat (r : Fin 128) : wordBlock (BitVec.ofNat 32 r.val) = BitVec.ofNat 32 (r.val / 64) := by
  revert r
  decide +kernel

theorem one_f32 : Ideal.ofBits .f32 0x3F800000#32 = 1 := by
  simp [Ideal.ofBits, Ideal.ieee]
  rw [← EReal.coe_mul]
  norm_num

/-- The matrix of blocks at row `k` and column `l`. -/
theorem blocks_apply (k l : Fin 128) : blocks (F := Ideal) (ix2 k l) = (if k.val / 64 = l.val / 64 then 1 else 0 : EReal) := by
  unfold blocks
  rw [ValueIdx.truncf_apply, select_apply]
  show Scalar.select (IntOp.cmpi .eq (blockNo _ (ix2 k l)) (blockNo _ (ix2 k l))) (Ideal.ofBits .f32 0x3F800000#32 : EReal) (Ideal.ofBits .f32 0x00000000#32 : EReal) = _
  rw [blockNo_apply, blockNo_apply, iota_single_apply, iota_single_apply, one_f32, Ideal.ofBits_zero_f32]
  show Scalar.select (IntOp.cmpi .eq (wordBlock (BitVec.ofNat 32 k.val)) (wordBlock (BitVec.ofNat 32 l.val))) (1 : EReal) 0 = _
  rw [wordBlock_ofNat, wordBlock_ofNat]
  have hk := k.isLt
  have hl := l.isLt
  show (if BitVec.ofBool (BitVec.ofNat 32 (k.val / 64) == BitVec.ofNat 32 (l.val / 64)) = 1 then (1 : EReal) else 0) = _
  by_cases h : k.val / 64 = l.val / 64
  · rw [if_pos h, h, beq_self_eq_true]; rfl
  · have : (BitVec.ofNat 32 (k.val / 64) == BitVec.ofNat 32 (l.val / 64)) = false := by
      rw [beq_eq_false_iff_ne, ne_eq, ← BitVec.toNat_inj, BitVec.toNat_ofNat, BitVec.toNat_ofNat,
        Nat.mod_eq_of_lt (by omega), Nat.mod_eq_of_lt (by omega)]
      exact h
    rw [if_neg h, this]; rfl

/-- Column `e` of the head column `l` lies in. -/
def mate (l : Fin 128) (e : Fin 64) : Fin 128 := ⟨64 * (l.val / 64) + e.val, by omega⟩

/-- A sum over 128 columns of which only those of one head count. -/
theorem sum_block (f : Fin 128 → EReal) (l : Fin 128) :
    ∑ k : Fin 128, f k * (if k.val / 64 = l.val / 64 then 1 else 0) = ∑ e : Fin 64, f (mate l e) := by
  have hl := l.isLt
  rw [Fin.sum_univ_add (a := 64) (b := 64) (fun k : Fin 128 => f k * (if k.val / 64 = l.val / 64 then 1 else 0))]
  rcases (by omega : l.val / 64 = 0 ∨ l.val / 64 = 1) with h | h
  · rw [h]
    have z : ∑ i : Fin 64, f (Fin.natAdd 64 i) * (if (Fin.natAdd 64 i : Fin 128).val / 64 = 0 then (1 : EReal) else 0) = 0 :=
      Finset.sum_eq_zero fun i _ => by rw [if_neg (by rw [Fin.val_natAdd]; omega), mul_zero]
    rw [z, add_zero]
    refine Finset.sum_congr rfl fun i _ => ?_
    rw [if_pos (by rw [Fin.val_castAdd]; omega), mul_one]
    exact congrArg f (Fin.ext (by rw [Fin.val_castAdd]; show i.val = 64 * (l.val / 64) + i.val; omega))
  · rw [h]
    have z : ∑ i : Fin 64, f (Fin.castAdd 64 i) * (if (Fin.castAdd 64 i : Fin 128).val / 64 = 1 then (1 : EReal) else 0) = 0 :=
      Finset.sum_eq_zero fun i _ => by rw [if_neg (by rw [Fin.val_castAdd]; omega), mul_zero]
    rw [z, zero_add]
    refine Finset.sum_congr rfl fun i _ => ?_
    rw [if_pos (by rw [Fin.val_natAdd]; omega), mul_one]
    exact congrArg f (Fin.ext (by rw [Fin.val_natAdd]; show 64 + i.val = 64 * (l.val / 64) + i.val; omega))

/-- Dividing by 64 is multiplying by its reciprocal. -/
theorem div_64 (x : EReal) : x * Ideal.ofBits .f32 0x3C800000#32 = Ideal.div x (Ideal.ofBits .f32 0x42800000#32) := by
  have e1 : Ideal.ofBits .f32 0x42800000#32 = ((64 : ℝ) : EReal) := by
    simp [Ideal.ofBits, Ideal.ieee]
    rw [← EReal.coe_mul]
    norm_num
  have e2 : Ideal.ofBits .f32 0x3C800000#32 = ((1 / 64 : ℝ) : EReal) := by
    simp [Ideal.ofBits, Ideal.ieee]
    rw [← EReal.coe_mul]
    norm_num
  rw [e1, e2, Ideal.div_coe (by norm_num)]

/-- The normed tile at row `r` and column `l`. -/
theorem normTile_apply (y : FVec Ideal S256x128 .f32) (g : FVec Ideal S1x128 .f32) (r : Fin 256) (l : Fin 128)
    (hy : ∀ l, ∃ x : ℝ, y (ix2 r l) = x) :
    normTile y g (ix2 r l) = ProjSpec.norm (Ideal.ofBits .f32 0x42800000#32) (fun e => y (ix2 r (mate l e))) (fun e => g (ix2 0 (mate l e)))
      (⟨l.val % 64, by omega⟩ : Fin 64) := by
  have el : mate l ⟨l.val % 64, by omega⟩ = l := Fin.ext (by show 64 * (l.val / 64) + l.val % 64 = l.val; omega)
  unfold normTile
  rw [mulf_apply, mulf_apply, broadcastTo_1b_ab_apply, ProjSpec.norm, el]
  refine congrArg (fun z => (y (ix2 r l) * Ideal.rsqrt z * g (ix2 0 l) : EReal)) ?_
  rw [ValueIdx.addf_apply, mulf_apply]
  refine congrArg (fun z => (z + Ideal.ofBits .f32 0x358637BD#32 : EReal)) ?_
  refine Eq.trans (congrArg (fun z => (z * Ideal.ofBits .f32 0x3C800000#32 : EReal)) ?_) (div_64 _)
  simp only [ValueIdx.addf_apply, matmulNN_apply (M := 256) (K := 128) (N := 128) dot_S256x128_S128x128_S256x128_1_0_0_1_n_n rfl]
  have z : ∀ k : Fin 128, (y (ix2 r k) * y (ix2 r k) - y (ix2 r k) * y (ix2 r k) : EReal) = 0 := fun k => by
    obtain ⟨x, hx⟩ := DiffSpec.mul_real (hy k) (hy k)
    rw [hx]
    exact (EReal.coe_sub x x).symm.trans (congrArg _ (sub_self x))
  simp only [ValueIdx.truncf_apply, ValueIdx.extf_apply, ValueIdx.subf_apply, mulf_apply, z, zero_mul, Finset.sum_const_zero, add_zero, blocks_apply]
  exact sum_block (fun k => (y (ix2 r k) * y (ix2 r k) : EReal)) l

/-- The test on a column's bit of value 16. -/
theorem pick16 (A B : FVec Ideal S256x128 .f32) (r : Fin 256) (l : Fin 128) :
    select (cmpi .eq (andi (iota .tc S256x128 32 [1] iota_S256x128_d1_w32) (broadcast S256x128 16#32)) (broadcast S256x128 0#32)) A B (ix2 r l)
      = if l.val % 32 < 16 then A (ix2 r l) else B (ix2 r l) := by
  rw [select_apply]
  show Scalar.select (IntOp.cmpi .eq (IntOp.andi (iota .tc S256x128 32 [1] iota_S256x128_d1_w32 (ix2 r l)) 16#32) 0#32) _ _ = _
  rw [iota_single_apply]
  have h : ∀ l : Fin 128, IntOp.cmpi .eq (IntOp.andi (BitVec.ofNat 32 l.val) 16#32) 0#32 = if l.val % 32 < 16 then 1#1 else 0#1 := by
    decide +kernel
  show Scalar.select (IntOp.cmpi .eq (IntOp.andi (BitVec.ofNat 32 l.val) 16#32) 0#32) _ _ = _
  rw [h]
  by_cases hl : l.val % 32 < 16
  · rw [if_pos hl, if_pos hl]; rfl
  · rw [if_neg hl, if_neg hl]; rfl

/-- The turned tile at row `r` and column `l`. -/
theorem turnTile_apply (n c s : FVec Ideal S256x128 .f32) (r : Fin 256) (l : Fin 128) :
    turnTile n c s (ix2 r l)
      = (n (ix2 r l) * c (ix2 r l)
        + (if l.val % 32 < 16 then n (ix2 r (⟨(l.val + 16) % 128, by omega⟩ : Fin 128)) else n (ix2 r (⟨(l.val + 112) % 128, by omega⟩ : Fin 128)))
          * s (ix2 r l) : EReal) := by
  unfold turnTile
  rw [ValueIdx.addf_apply, mulf_apply, mulf_apply, pick16,
    dynamicRotate_apply _ _ _ _ _ (ix2 r (⟨(l.val + 16) % 128, by omega⟩ : Fin 128)) (fun b => match b with
      | ⟨0, _⟩ => rfl
      | ⟨1, _⟩ => by show (l.val + 16) % 128 = (l.val + 128 - 112) % 128; omega),
    dynamicRotate_apply _ _ _ _ _ (ix2 r (⟨(l.val + 112) % 128, by omega⟩ : Fin 128)) (fun b => match b with
      | ⟨0, _⟩ => rfl
      | ⟨1, _⟩ => by show (l.val + 112) % 128 = (l.val + 128 - 16) % 128; omega)]

end Cert.Proj

end
-- ==== Proof.ProjTile.lean ====
/-
  What one point of the projection kernel's grid leaves in its four blocks, at a row and a column.
-/
module

public import proofs.«01_k».proof.Proof.ProjLanes
public import proofs.«01_k».proof.Proof.PeerFold

@[expose] public section

noncomputable section

namespace Cert.Proj

open Idealize.ShloMosaic Idealize.ShloMosaic.TcCoe Idealize.SL.Sem Idealize.ShloMosaic.ValueIdx
open Cert.Kernel4Ideal Cert.Kernel4Ideal.Gen Cert.Tile

theorem zero2 : (![0, 0] : Fin 2 → Nat) = fun _ => 0 := funext fun a => by fin_cases a <;> rfl
theorem zero3 : (![0, 0, 0] : Fin 3 → Nat) = fun _ => 0 := funext fun a => by fin_cases a <;> rfl

/-- A token of the block, normed and modulated. -/
def tok (x0 : Vec Ideal S1x256x1024 .f32) (x1 : Vec Ideal S1x1x6x1024 .f32) (x2 : Vec Ideal S1x1024 .f32) (r : Fin 256) (d : Fin 1024) : EReal :=
  ProjSpec.norm (Ideal.ofBits .f32 0x44800000#32) (fun e => x0 (ix3 (0 : Fin 1) r e)) (fun e => x2 (ix2 (0 : Fin 1) e)) d
      * (Ideal.ofBits .f32 0x3F800000#32 + x1 (ix4 (0 : Fin 1) (0 : Fin 1) (1 : Fin 6) d))
    + x1 (ix4 (0 : Fin 1) (0 : Fin 1) (0 : Fin 6) d)

theorem ld_scale (x1 : Vec Ideal S1x1x6x1024 .f32) (d : Fin 1024) :
    shapeCast S1x1024 (View.ld x1 r0_2 : Vec Ideal S1x1x1x1024 .f32) shapeCasts_S1x1x1x1024_S1x1024 (ix2 (0 : Fin 1) d)
      = x1 (ix4 (0 : Fin 1) (0 : Fin 1) (1 : Fin 6) d) := by
  rw [shapeCast_apply _ _ _ (ix4 (0 : Fin 1) (0 : Fin 1) (0 : Fin 1) d) (by
    rw [Shape.rowMajor_val_two, Shape.rowMajor_val_four]; show ((0 * 1 + 0) * 1 + 0) * 1024 + d.val = 0 * 1024 + d.val; omega), View.ld_apply]
  refine congrArg x1 (funext fun a => Fin.ext ?_)
  match a with
  | ⟨0, _⟩ => rfl
  | ⟨1, _⟩ => rfl
  | ⟨2, _⟩ => rfl
  | ⟨3, _⟩ => show 0 + 1 * d.val = d.val; omega

theorem ld_shift (x1 : Vec Ideal S1x1x6x1024 .f32) (d : Fin 1024) :
    shapeCast S1x1024 (View.ld x1 r0_3 : Vec Ideal S1x1x1x1024 .f32) shapeCasts_S1x1x1x1024_S1x1024 (ix2 (0 : Fin 1) d)
      = x1 (ix4 (0 : Fin 1) (0 : Fin 1) (0 : Fin 6) d) := by
  rw [shapeCast_apply _ _ _ (ix4 (0 : Fin 1) (0 : Fin 1) (0 : Fin 1) d) (by
    rw [Shape.rowMajor_val_two, Shape.rowMajor_val_four]; show ((0 * 1 + 0) * 1 + 0) * 1024 + d.val = 0 * 1024 + d.val; omega), View.ld_apply]
  refine congrArg x1 (funext fun a => Fin.ext ?_)
  match a with
  | ⟨0, _⟩ => rfl
  | ⟨1, _⟩ => rfl
  | ⟨2, _⟩ => rfl
  | ⟨3, _⟩ => show 0 + 1 * d.val = d.val; omega

theorem tokens_apply (x0 : Vec Ideal S1x256x1024 .f32) (x1 : Vec Ideal S1x1x6x1024 .f32) (x2 : Vec Ideal S1x1024 .f32) (r : Fin 256) (d : Fin 1024) :
    tokens x0 x1 x2 (ix2 r d) = tok x0 x1 x2 r d := by
  unfold tokens k0_pay2
  rw [View.ld_unit_zero (S := S1x256x1024) zero3, View.ld_unit_zero (S := S1x1024) zero2]
  dsimp only
  rw [ValueIdx.truncf_apply, ValueIdx.addf_apply, mulf_apply, mulf_apply, mulf_apply, broadcastTo_1b_ab_apply, broadcastTo_1b_ab_apply, broadcastTo_1b_ab_apply,
    broadcastCol_apply, ValueIdx.addf_apply, ld_scale, ld_shift, shapeCast_self, shapeCast_1ab_ab_apply]
  unfold tok ProjSpec.norm
  refine congrArg (fun z => (x0 (ix3 (0 : Fin 1) r d) * Ideal.rsqrt z * x2 (ix2 (0 : Fin 1) d)
    * (Ideal.ofBits .f32 0x3F800000#32 + x1 (ix4 (0 : Fin 1) (0 : Fin 1) (1 : Fin 6) d)) + x1 (ix4 (0 : Fin 1) (0 : Fin 1) (0 : Fin 6) d) : EReal)) ?_
  rw [ValueIdx.addf_apply, ValueIdx.divf_apply, shapeCast_a_a1_apply]
  refine congrArg (fun z => (Ideal.div z (Ideal.ofBits .f32 0x44800000#32) + Ideal.ofBits .f32 0x358637BD#32 : EReal))
    ((rowSum_apply _ _ _ _ _ r).trans ?_)
  refine Finset.sum_congr rfl fun k _ => ?_
  rw [mulf_apply, shapeCast_1ab_ab_apply]

/-- The tokens times 768 columns of the weights. -/
theorem wide_apply (x0 : Vec Ideal S1x256x1024 .f32) (x1 : Vec Ideal S1x1x6x1024 .f32) (x2 : Vec Ideal S1x1024 .f32) (w : Vec Ideal S1024x768 .bf16)
    (r : Fin 256) (j : Fin 768) : wide x0 x1 x2 w (ix2 r j) = ∑ d : Fin 1024, tok x0 x1 x2 r d * w (ix2 d j) := by
  unfold wide k0_pay7
  rw [View.ld_unit_zero (S := S1024x768) zero2]
  rw [matmulNN_apply (M := 256) (K := 1024) (N := 768) dot_S256x1024_S1024x768_S256x768_1_0_0_1_n_n rfl]
  refine Finset.sum_congr rfl fun d _ => ?_
  rw [tokens_apply, shapeCast_self]

section
variable (x0 : Vec Ideal S1x256x1024 .f32) (x1 : Vec Ideal S1x1x6x1024 .f32) (x2 : Vec Ideal S1x1024 .f32) (x3 : Vec Ideal S256x128 .f32)
  (x4 : Vec Ideal S256x128 .f32) (x5 : Vec Ideal S1024x256 .bf16) (x6 : Vec Ideal S1024x768 .bf16) (x7 : Vec Ideal S1x128 .f32)
  (x8 : Vec Ideal S1024x768 .bf16) (x9 : Vec Ideal S1x128 .f32) (x10 : Vec Ideal S1024x768 .bf16)

/-- The first block: the 256 columns of the attention over a group. -/
theorem group_apply (r : Fin 256) (j : Fin 256) : out0_11 x0 x1 x2 x3 x4 x5 x6 x7 x8 x9 x10 (ix3 (0 : Fin 1) r j)
    = ∑ d : Fin 1024, tok x0 x1 x2 r d * x5 (ix2 d j) := by
  unfold out0_11
  rw [View.canon_unit_zero zero3]
  unfold k0_pay6 k0_pay5
  rw [View.ld_unit_zero (S := S1024x256) zero2]
  dsimp only
  rw [shapeCast_ab_1ab_apply]
  change matmul dot_S256x1024_S1024x256_S256x256_1_0_0_1_n_n none (tokens x0 x1 x2) _ _ _ = _
  rw [matmulNN_apply (M := 256) (K := 1024) (N := 256) dot_S256x1024_S1024x256_S256x256_1_0_0_1_n_n rfl]
  refine Finset.sum_congr rfl fun d _ => ?_
  rw [tokens_apply, shapeCast_self]

/-- The last block: the values. -/
theorem values_apply (r : Fin 256) (j : Fin 768) : out0_14 x0 x1 x2 x3 x4 x5 x6 x7 x8 x9 x10 (ix3 (0 : Fin 1) r j)
    = ∑ d : Fin 1024, tok x0 x1 x2 r d * x10 (ix2 d j) := by
  unfold out0_14
  rw [View.canon_unit_zero zero3]
  unfold k0_pay1 k0_pay101
  dsimp only
  rw [shapeCast_ab_1ab_apply, ValueIdx.truncf_apply]
  exact wide_apply x0 x1 x2 x10 r j

end

/-- One feature of a head turned by its entries of the tables. -/
def turn (n : Fin 64 → EReal) (c s : EReal) (j : Fin 64) : EReal :=
  n j * c + (if j.val % 32 < 16 then n ⟨(j.val + 16) % 64, by omega⟩ else n ⟨(j.val + 48) % 64, by omega⟩) * s

/-- A tile normed and turned. -/
theorem turned_apply (y : FVec Ideal S256x128 .f32) (g : FVec Ideal S1x128 .f32) (c s : FVec Ideal S256x128 .f32) (r : Fin 256) (l : Fin 128)
    (hy : ∀ l, ∃ x : ℝ, y (ix2 r l) = x) :
    turnTile (normTile y g) c s (ix2 r l)
      = turn (ProjSpec.norm (Ideal.ofBits .f32 0x42800000#32) (fun e => y (ix2 r (mate l e))) (fun e => g (ix2 0 (mate l e))))
        (c (ix2 r l)) (s (ix2 r l)) ⟨l.val % 64, by omega⟩ := by
  have hl := l.isLt
  rw [turnTile_apply, turn, normTile_apply y g r l hy]
  refine congrArg₂ (fun a z => (a * c (ix2 r l) + z * s (ix2 r l) : EReal)) rfl ?_
  by_cases h : l.val % 32 < 16
  · rw [if_pos h, if_pos (by show l.val % 64 % 32 < 16; omega), normTile_apply y g r _ hy]
    have e1 : mate (⟨(l.val + 16) % 128, by omega⟩ : Fin 128) = mate l := funext fun e => Fin.ext (by
      show 64 * ((l.val + 16) % 128 / 64) + e.val = 64 * (l.val / 64) + e.val; omega)
    rw [e1]
    exact congrArg _ (Fin.ext (by show (l.val + 16) % 128 % 64 = (l.val % 64 + 16) % 64; omega))
  · rw [if_neg h, if_neg (by show ¬ l.val % 64 % 32 < 16; omega), normTile_apply y g r _ hy]
    have e1 : mate (⟨(l.val + 112) % 128, by omega⟩ : Fin 128) = mate l := funext fun e => Fin.ext (by
      show 64 * ((l.val + 112) % 128 / 64) + e.val = 64 * (l.val / 64) + e.val; omega)
    rw [e1]
    exact congrArg _ (Fin.ext (by show (l.val + 112) % 128 % 64 = (l.val % 64 + 48) % 64; omega))

/-- A head of a block of 768 columns, normed and turned, at feature `j`. -/
def headEntry (W : FVec Ideal S256x768 .f32) (g : FVec Ideal S1x128 .f32) (c s : FVec Ideal S256x128 .f32) (r : Fin 256) (a : Fin 768) : EReal :=
  turn (ProjSpec.norm (Ideal.ofBits .f32 0x42800000#32) (fun e => W (ix2 r (⟨64 * (a.val / 64) + e.val, by omega⟩ : Fin 768)))
    (fun e => g (ix2 0 (⟨64 * (a.val / 64 % 2) + e.val, by omega⟩ : Fin 128))))
    (c (ix2 r (⟨a.val % 128, by omega⟩ : Fin 128))) (s (ix2 r (⟨a.val % 128, by omega⟩ : Fin 128))) ⟨a.val % 64, by omega⟩

/-- Two heads cut from the block are normed and turned as heads of the block. -/
theorem cut_apply (W : FVec Ideal S256x768 .f32) (g : FVec Ideal S1x128 .f32) (c s : FVec Ideal S256x128 .f32) (r : Fin 256) (l : Fin 128)
    (hW : ∀ a, ∃ x : ℝ, W (ix2 r a) = x) (k : Fin 6) (o : ℕ) (ho : o = 128 * k.val) (h : S256x768.Slices ![0, o] S256x128) :
    turnTile (normTile (extractStridedSlice S256x128 ![0, o] W h) g) c s (ix2 r l) = headEntry W g c s r ⟨128 * k.val + l.val, by omega⟩ := by
  have hk := k.isLt
  have hl := l.isLt
  have e : ∀ l : Fin 128, extractStridedSlice S256x128 ![0, o] W h (ix2 r l) = W (ix2 r (⟨128 * k.val + l.val, by omega⟩ : Fin 768)) := fun l =>
    extractStridedSlice_apply _ _ _ _ _ fun a => match a with
      | ⟨0, _⟩ => by show r.val = 0 + r.val; omega
      | ⟨1, _⟩ => by show 128 * k.val + l.val = o + l.val; omega
  rw [turned_apply _ _ _ _ _ _ fun l => by rw [e]; exact hW _]
  unfold headEntry
  have e1 : (fun f : Fin 64 => extractStridedSlice S256x128 ![0, o] W h (ix2 r (mate l f)))
      = fun f => W (ix2 r (⟨64 * ((128 * k.val + l.val) / 64) + f.val, by omega⟩ : Fin 768)) := funext fun f => by
    rw [e]
    exact congrArg (fun q => W (ix2 r q)) (Fin.ext (by
      show 128 * k.val + (64 * (l.val / 64) + f.val) = 64 * ((128 * k.val + l.val) / 64) + f.val; omega))
  have e2 : mate l = fun f => (⟨64 * ((128 * k.val + l.val) / 64 % 2) + f.val, by omega⟩ : Fin 128) := funext fun f => Fin.ext (by
    show 64 * (l.val / 64) + f.val = 64 * ((128 * k.val + l.val) / 64 % 2) + f.val; omega)
  have e3 : (⟨(128 * k.val + l.val) % 128, by omega⟩ : Fin 128) = l := Fin.ext (by show (128 * k.val + l.val) % 128 = l.val; omega)
  have e4 : (⟨(128 * k.val + l.val) % 64, by omega⟩ : Fin 64) = ⟨l.val % 64, by omega⟩ := Fin.ext (by
    show (128 * k.val + l.val) % 64 = l.val % 64; omega)
  rw [e1]
  show turn _ _ _ _ = turn (ProjSpec.norm _ _ (fun e => g (ix2 0 (⟨64 * ((128 * k.val + l.val) / 64 % 2) + e.val, _⟩ : Fin 128))))
    (c (ix2 r (⟨(128 * k.val + l.val) % 128, _⟩ : Fin 128))) (s (ix2 r (⟨(128 * k.val + l.val) % 128, _⟩ : Fin 128))) (⟨(128 * k.val + l.val) % 64, _⟩ : Fin 64)
  rw [e3, e4, e2]

/-- An index of a stored piece is a row and a column. -/
theorem inPiece (x : S1x256x128.Idx) : ∃ (r : Fin 256) (l : Fin 128), x = ix3 (0 : Fin 1) r l :=
  ⟨x 1, x 2, funext fun a => match a with
    | ⟨0, _⟩ => Fin.ext (Nat.lt_one_iff.mp (x 0).isLt)
    | ⟨1, _⟩ => rfl
    | ⟨2, _⟩ => rfl⟩

/-- Piece `k` of the keys. -/
theorem keyPiece_apply (W : FVec Ideal S256x768 .f32) (g : FVec Ideal S1x128 .f32) (c s : FVec Ideal S256x128 .f32)
    (hW : ∀ r a, ∃ x : ℝ, W (ix2 r a) = x) (k : Fin 6) (o : ℕ) (ho : o = 128 * k.val) (h : S256x768.Slices ![0, o] S256x128) (r : Fin 256) (l : Fin 128) :
    keyPiece (extractStridedSlice S256x128 ![0, o] W h) g c s (ix3 (0 : Fin 1) r l) = headEntry W g c s r ⟨128 * k.val + l.val, by omega⟩ := by
  unfold keyPiece
  rw [shapeCast_ab_1ab_apply, ValueIdx.truncf_apply, shapeCast_self, shapeCast_self, shapeCast_self]
  exact cut_apply W g c s r l (hW r) k o ho h

/-- Piece `k` of the queries. -/
theorem queryPiece_apply (W : FVec Ideal S256x768 .f32) (g : FVec Ideal S1x128 .f32) (c s : FVec Ideal S256x128 .f32)
    (hW : ∀ r a, ∃ x : ℝ, W (ix2 r a) = x) (k : Fin 6) (o : ℕ) (ho : o = 128 * k.val) (h : S256x768.Slices ![0, o] S256x128) (r : Fin 256) (l : Fin 128) :
    queryPiece (extractStridedSlice S256x128 ![0, o] W h) g c s (ix3 (0 : Fin 1) r l)
      = (headEntry W g c s r ⟨128 * k.val + l.val, by omega⟩ * Ideal.ofBits .f32 0x3E000000#32 : EReal) := by
  unfold queryPiece
  rw [shapeCast_ab_1ab_apply, ValueIdx.truncf_apply, mulf_apply, shapeCast_self, shapeCast_self, shapeCast_self]
  rw [cut_apply W g c s r l (hW r) k o ho h]
  rfl

section
variable (x0 : Vec Ideal S1x256x1024 .f32) (x1 : Vec Ideal S1x1x6x1024 .f32) (x2 : Vec Ideal S1x1024 .f32) (x3 : Vec Ideal S256x128 .f32)
  (x4 : Vec Ideal S256x128 .f32) (x5 : Vec Ideal S1024x256 .bf16) (x6 : Vec Ideal S1024x768 .bf16) (x7 : Vec Ideal S1x128 .f32)
  (x8 : Vec Ideal S1024x768 .bf16) (x9 : Vec Ideal S1x128 .f32) (x10 : Vec Ideal S1024x768 .bf16)

/-- The second block: the queries. -/
theorem queries_apply (hW : ∀ r a, ∃ x : ℝ, wide x0 x1 x2 x6 (ix2 r a) = x) (r : Fin 256) (a : Fin 768) :
    out0_12 x0 x1 x2 x3 x4 x5 x6 x7 x8 x9 x10 (ix3 (0 : Fin 1) r a) = (headEntry (wide x0 x1 x2 x6) x7 x3 x4 r a * Ideal.ofBits .f32 0x3E000000#32 : EReal) := by
  rw [queries_eq, View.ld_unit_zero (S := S1x128) zero2, View.ld_unit_zero (S := S256x128) zero2, View.ld_unit_zero (S := S256x128) zero2]
  refine View.canon_apply_of_pieces (Val := Elt Ideal) (e := .bf16)
    (fun y : S1x256x768.Idx => (headEntry (wide x0 x1 x2 x6) x7 x3 x4 (y 1) (y 2) * Ideal.ofBits .f32 0x3E000000#32 : EReal)) _ ?_ (ix3 (0 : Fin 1) r a)
    (cover0_12 _ _ _ _ _ _ _)
  intro pc hpc
  rcases List.mem_cons.mp hpc with rfl | hpc
  · exact fun x => by
      obtain ⟨r, l, rfl⟩ := inPiece x
      exact (queryPiece_apply _ _ _ _ hW 5 640 rfl _ r l).trans (congrArg₂ (fun r a => (headEntry (wide x0 x1 x2 x6) x7 x3 x4 r a * Ideal.ofBits .f32 0x3E000000#32 : EReal))
        (Fin.ext (by show r.val = 0 + 1 * r.val; omega)) (Fin.ext (by show 128 * 5 + l.val = 640 + 1 * l.val; omega)))
  rcases List.mem_cons.mp hpc with rfl | hpc
  · exact fun x => by
      obtain ⟨r, l, rfl⟩ := inPiece x
      exact (queryPiece_apply _ _ _ _ hW 4 512 rfl _ r l).trans (congrArg₂ (fun r a => (headEntry (wide x0 x1 x2 x6) x7 x3 x4 r a * Ideal.ofBits .f32 0x3E000000#32 : EReal))
        (Fin.ext (by show r.val = 0 + 1 * r.val; omega)) (Fin.ext (by show 128 * 4 + l.val = 512 + 1 * l.val; omega)))
  rcases List.mem_cons.mp hpc with rfl | hpc
  · exact fun x => by
      obtain ⟨r, l, rfl⟩ := inPiece x
      exact (queryPiece_apply _ _ _ _ hW 3 384 rfl _ r l).trans (congrArg₂ (fun r a => (headEntry (wide x0 x1 x2 x6) x7 x3 x4 r a * Ideal.ofBits .f32 0x3E000000#32 : EReal))
        (Fin.ext (by show r.val = 0 + 1 * r.val; omega)) (Fin.ext (by show 128 * 3 + l.val = 384 + 1 * l.val; omega)))
  rcases List.mem_cons.mp hpc with rfl | hpc
  · exact fun x => by
      obtain ⟨r, l, rfl⟩ := inPiece x
      exact (queryPiece_apply _ _ _ _ hW 2 256 rfl _ r l).trans (congrArg₂ (fun r a => (headEntry (wide x0 x1 x2 x6) x7 x3 x4 r a * Ideal.ofBits .f32 0x3E000000#32 : EReal))
        (Fin.ext (by show r.val = 0 + 1 * r.val; omega)) (Fin.ext (by show 128 * 2 + l.val = 256 + 1 * l.val; omega)))
  rcases List.mem_cons.mp hpc with rfl | hpc
  · exact fun x => by
      obtain ⟨r, l, rfl⟩ := inPiece x
      exact (queryPiece_apply _ _ _ _ hW 1 128 rfl _ r l).trans (congrArg₂ (fun r a => (headEntry (wide x0 x1 x2 x6) x7 x3 x4 r a * Ideal.ofBits .f32 0x3E000000#32 : EReal))
        (Fin.ext (by show r.val = 0 + 1 * r.val; omega)) (Fin.ext (by show 128 * 1 + l.val = 128 + 1 * l.val; omega)))
  rcases List.mem_cons.mp hpc with rfl | hpc
  · exact fun x => by
      obtain ⟨r, l, rfl⟩ := inPiece x
      exact (queryPiece_apply _ _ _ _ hW 0 0 rfl _ r l).trans (congrArg₂ (fun r a => (headEntry (wide x0 x1 x2 x6) x7 x3 x4 r a * Ideal.ofBits .f32 0x3E000000#32 : EReal))
        (Fin.ext (by show r.val = 0 + 1 * r.val; omega)) (Fin.ext (by show 128 * 0 + l.val = 0 + 1 * l.val; omega)))
  nomatch hpc

/-- The third block: the keys. -/
theorem keys_apply (hW : ∀ r a, ∃ x : ℝ, wide x0 x1 x2 x8 (ix2 r a) = x) (r : Fin 256) (a : Fin 768) :
    out0_13 x0 x1 x2 x3 x4 x5 x6 x7 x8 x9 x10 (ix3 (0 : Fin 1) r a) = (headEntry (wide x0 x1 x2 x8) x9 x3 x4 r a : EReal) := by
  rw [keys_eq, View.ld_unit_zero (S := S1x128) zero2, View.ld_unit_zero (S := S256x128) zero2, View.ld_unit_zero (S := S256x128) zero2]
  refine View.canon_apply_of_pieces (Val := Elt Ideal) (e := .bf16)
    (fun y : S1x256x768.Idx => (headEntry (wide x0 x1 x2 x8) x9 x3 x4 (y 1) (y 2) : EReal)) _ ?_ (ix3 (0 : Fin 1) r a)
    (cover0_13 _ _ _ _ _ _ _)
  intro pc hpc
  rcases List.mem_cons.mp hpc with rfl | hpc
  · exact fun x => by
      obtain ⟨r, l, rfl⟩ := inPiece x
      exact (keyPiece_apply _ _ _ _ hW 5 640 rfl _ r l).trans (congrArg₂ (fun r a => (headEntry (wide x0 x1 x2 x8) x9 x3 x4 r a : EReal))
        (Fin.ext (by show r.val = 0 + 1 * r.val; omega)) (Fin.ext (by show 128 * 5 + l.val = 640 + 1 * l.val; omega)))
  rcases List.mem_cons.mp hpc with rfl | hpc
  · exact fun x => by
      obtain ⟨r, l, rfl⟩ := inPiece x
      exact (keyPiece_apply _ _ _ _ hW 4 512 rfl _ r l).trans (congrArg₂ (fun r a => (headEntry (wide x0 x1 x2 x8) x9 x3 x4 r a : EReal))
        (Fin.ext (by show r.val = 0 + 1 * r.val; omega)) (Fin.ext (by show 128 * 4 + l.val = 512 + 1 * l.val; omega)))
  rcases List.mem_cons.mp hpc with rfl | hpc
  · exact fun x => by
      obtain ⟨r, l, rfl⟩ := inPiece x
      exact (keyPiece_apply _ _ _ _ hW 3 384 rfl _ r l).trans (congrArg₂ (fun r a => (headEntry (wide x0 x1 x2 x8) x9 x3 x4 r a : EReal))
        (Fin.ext (by show r.val = 0 + 1 * r.val; omega)) (Fin.ext (by show 128 * 3 + l.val = 384 + 1 * l.val; omega)))
  rcases List.mem_cons.mp hpc with rfl | hpc
  · exact fun x => by
      obtain ⟨r, l, rfl⟩ := inPiece x
      exact (keyPiece_apply _ _ _ _ hW 2 256 rfl _ r l).trans (congrArg₂ (fun r a => (headEntry (wide x0 x1 x2 x8) x9 x3 x4 r a : EReal))
        (Fin.ext (by show r.val = 0 + 1 * r.val; omega)) (Fin.ext (by show 128 * 2 + l.val = 256 + 1 * l.val; omega)))
  rcases List.mem_cons.mp hpc with rfl | hpc
  · exact fun x => by
      obtain ⟨r, l, rfl⟩ := inPiece x
      exact (keyPiece_apply _ _ _ _ hW 1 128 rfl _ r l).trans (congrArg₂ (fun r a => (headEntry (wide x0 x1 x2 x8) x9 x3 x4 r a : EReal))
        (Fin.ext (by show r.val = 0 + 1 * r.val; omega)) (Fin.ext (by show 128 * 1 + l.val = 128 + 1 * l.val; omega)))
  rcases List.mem_cons.mp hpc with rfl | hpc
  · exact fun x => by
      obtain ⟨r, l, rfl⟩ := inPiece x
      exact (keyPiece_apply _ _ _ _ hW 0 0 rfl _ r l).trans (congrArg₂ (fun r a => (headEntry (wide x0 x1 x2 x8) x9 x3 x4 r a : EReal))
        (Fin.ext (by show r.val = 0 + 1 * r.val; omega)) (Fin.ext (by show 128 * 0 + l.val = 0 + 1 * l.val; omega)))
  nomatch hpc

end

end Cert.Proj

end
-- ==== Proof.ProjHost.lean ====
/-
  What the projection's host program hands the kernel: the two tables of rotations, the weights' columns, the gains.
-/
module

public import proofs.«01_k».proof.Proof.ProjTile
public import proofs.«01_k».proof.Proof.Gen.Reference4Ideal.Read

@[expose] public section

noncomputable section

namespace Cert.Proj

open Idealize.ShloMosaic Idealize.ShloMosaic.TcCoe Idealize.SL.Sem Idealize.ShloMosaic.ValueIdx
open Cert.Kernel4Ideal Cert.Kernel4Ideal.Gen Cert.Tile

variable (m : (ℓ : Loc nD τ sig) → Buf (Elt Ideal) ℓ) (c : Dev nD)

/-- The cosines and the sines, latent, axis and frequency. -/
abbrev cosOf : ProjSpec.Table := Cert.Reference4Ideal.Read.val_main_v18 (F := Ideal)
abbrev sinOf : ProjSpec.Table := Cert.Reference4Ideal.Read.val_main_v19 (F := Ideal)

/-- The 16 entries of one axis. -/
def axis0 (T : FVec Ideal S8192x2x16 .f32) : FVec Ideal S8192x16 .f32 :=
  shapeCast S8192x16 (extractStridedSlice S8192x1x16 ![0, 0, 0] T slices_S8192x2x16_S8192x1x16_0_0_0) shapeCasts_S8192x1x16_S8192x16
def axis1 (T : FVec Ideal S8192x2x16 .f32) : FVec Ideal S8192x16 .f32 :=
  shapeCast S8192x16 (extractStridedSlice S8192x1x16 ![0, 1, 0] T slices_S8192x2x16_S8192x1x16_0_1_0) shapeCasts_S8192x1x16_S8192x16

/-- Four pieces of 16 columns side by side. -/
def four (A B C D : FVec Ideal S8192x16 .f32) : FVec Ideal S8192x64 .f32 :=
  concatenate S8192x64 1 [⟨S8192x16, A⟩, ⟨S8192x16, B⟩, ⟨S8192x16, C⟩, ⟨S8192x16, D⟩] concatenates_S8192x16_S8192x16_S8192x16_S8192x16_S8192x64_d1

/-- A table for two heads, below 256 rows of one word. -/
def stack (w : BitVec 32) (A : FVec Ideal S8192x64 .f32) : FVec Ideal S8448x128 .f32 :=
  concatenate S8448x128 0 [⟨S256x128, broadcastInDim S256x128 ![] bcast_S_S256x128 (constant S_ .f32 w : FVec Ideal S_ .f32)⟩,
    ⟨S8192x128, shapeCast S8192x128 (broadcastInDim S1x8192x2x64 ![0, 1, 2, 3] bcast_S1x8192x1x64_S1x8192x2x64_0_1_2_3
      (shapeCast S1x8192x1x64 A shapeCasts_S8192x64_S1x8192x1x64)) shapeCasts_S1x8192x2x64_S8192x128⟩] concatenates_S256x128_S8192x128_S8448x128_d0

/-- Two lines of operations in a row. -/
theorem after_both {Val : EltTy → Type} (A B : List (HloOp τ sig Val)) (W : Valuation τ sig Val) :
    StableHlo.after (A ++ B) W = StableHlo.after B (StableHlo.after A W) := by
  induction A generalizing W with
  | nil => rfl
  | cons op A ih => exact ih _

/-- The operations after the cosines and the sines. -/
abbrev late : List (HloOp τ sig (Elt Ideal)) := List.drop 19 hostOps0_4

/-- What the operations up to the cosines and the sines leave. -/
def early : Valuation τ sig (Elt Ideal) :=
  StableHlo.after (hostOps0 ++ hostOps0_1 ++ hostOps0_2 ++ hostOps0_3 ++ List.take 19 hostOps0_4) fun b => m (c, b)

theorem V_split (b : Ref sig .tc) : V m c b = StableHlo.after late (early m c) b := by
  unfold V early late
  rw [← after_both]
  have e : (List.flatten [hostOps0, hostOps0_1, hostOps0_2, hostOps0_3, hostOps0_4] : List (HloOp τ sig (Elt Ideal)))
      = hostOps0 ++ hostOps0_1 ++ hostOps0_2 ++ hostOps0_3 ++ List.take 19 hostOps0_4 ++ List.drop 19 hostOps0_4 := by
    simp only [List.flatten_cons, List.flatten_nil, List.append_nil, List.append_assoc, List.take_append_drop]
  rw [e]

/-- The operations of the pieces of the cosines of one head, the piece put together, the same of the sines, and those after. -/
abbrev lateA : List (HloOp τ sig (Elt Ideal)) := List.take 8 (List.drop 19 hostOps0_4)
abbrev joinA : List (HloOp τ sig (Elt Ideal)) := List.take 1 (List.drop 27 hostOps0_4)
abbrev lateB : List (HloOp τ sig (Elt Ideal)) := List.take 10 (List.drop 28 hostOps0_4)
abbrev joinB : List (HloOp τ sig (Elt Ideal)) := List.take 1 (List.drop 38 hostOps0_4)
abbrev lateC : List (HloOp τ sig (Elt Ideal)) := List.drop 39 hostOps0_4

theorem late_split : late = lateA ++ joinA ++ lateB ++ joinB ++ lateC := rfl

section
variable (W : Valuation τ sig (Elt Ideal))

theorem joinA_table : StableHlo.after joinA W main_v28 = four (W main_v21) (W main_v23) (W main_v25) (W main_v27) := by
  simp only [joinA, hostOps0_4, List.drop_succ_cons, List.drop_zero, List.take_succ_cons, List.take_zero, StableHlo.after_cons, StableHlo.after_nil]
  rw [StableHlo.nary4_result]
  rfl
theorem joinB_table : StableHlo.after joinB W main_v39 = four (W main_v31) (W main_v33) (W main_v36) (W main_v38) := by
  simp only [joinB, hostOps0_4, List.drop_succ_cons, List.drop_zero, List.take_succ_cons, List.take_zero, StableHlo.after_cons, StableHlo.after_nil]
  rw [StableHlo.nary4_result]
  rfl
theorem joinA_keep : StableHlo.after joinA W main_v19 = W main_v19 := by
  simp only [joinA, hostOps0_4, List.drop_succ_cons, List.drop_zero, List.take_succ_cons, List.take_zero, StableHlo.after_cons, StableHlo.after_nil]
  after_results_simp
theorem joinB_keep : StableHlo.after joinB W main_v28 = W main_v28 := by
  simp only [joinB, hostOps0_4, List.drop_succ_cons, List.drop_zero, List.take_succ_cons, List.take_zero, StableHlo.after_cons, StableHlo.after_nil]
  after_results_simp
theorem lateA_21 : StableHlo.after lateA W main_v21 = axis0 (W main_v18) := by
  simp only [lateA, hostOps0_4, List.drop_succ_cons, List.drop_zero, List.take_succ_cons, List.take_zero, StableHlo.after_cons, StableHlo.after_nil]
  after_results_simp
  rfl
theorem lateA_23 : StableHlo.after lateA W main_v23 = axis0 (W main_v18) := by
  simp only [lateA, hostOps0_4, List.drop_succ_cons, List.drop_zero, List.take_succ_cons, List.take_zero, StableHlo.after_cons, StableHlo.after_nil]
  after_results_simp
  rfl
theorem lateA_25 : StableHlo.after lateA W main_v25 = axis1 (W main_v18) := by
  simp only [lateA, hostOps0_4, List.drop_succ_cons, List.drop_zero, List.take_succ_cons, List.take_zero, StableHlo.after_cons, StableHlo.after_nil]
  after_results_simp
  rfl
theorem lateA_27 : StableHlo.after lateA W main_v27 = axis1 (W main_v18) := by
  simp only [lateA, hostOps0_4, List.drop_succ_cons, List.drop_zero, List.take_succ_cons, List.take_zero, StableHlo.after_cons, StableHlo.after_nil]
  after_results_simp
  rfl
theorem lateB_31 : StableHlo.after lateB W main_v31 = (Host.negf (axis0 (W main_v19)) : FVec Ideal S8192x16 .f32) := by
  simp only [lateB, hostOps0_4, List.drop_succ_cons, List.drop_zero, List.take_succ_cons, List.take_zero, StableHlo.after_cons, StableHlo.after_nil]
  after_results_simp
  rfl
theorem lateB_33 : StableHlo.after lateB W main_v33 = axis0 (W main_v19) := by
  simp only [lateB, hostOps0_4, List.drop_succ_cons, List.drop_zero, List.take_succ_cons, List.take_zero, StableHlo.after_cons, StableHlo.after_nil]
  after_results_simp
  rfl
theorem lateB_36 : StableHlo.after lateB W main_v36 = (Host.negf (axis1 (W main_v19)) : FVec Ideal S8192x16 .f32) := by
  simp only [lateB, hostOps0_4, List.drop_succ_cons, List.drop_zero, List.take_succ_cons, List.take_zero, StableHlo.after_cons, StableHlo.after_nil]
  after_results_simp
  rfl
theorem lateB_38 : StableHlo.after lateB W main_v38 = axis1 (W main_v19) := by
  simp only [lateB, hostOps0_4, List.drop_succ_cons, List.drop_zero, List.take_succ_cons, List.take_zero, StableHlo.after_cons, StableHlo.after_nil]
  after_results_simp
  rfl
theorem lateA_keep : StableHlo.after lateA W main_v19 = W main_v19 := by
  simp only [lateA, hostOps0_4, List.drop_succ_cons, List.drop_zero, List.take_succ_cons, List.take_zero, StableHlo.after_cons, StableHlo.after_nil]
  after_results_simp
theorem lateB_keep : StableHlo.after lateB W main_v28 = W main_v28 := by
  simp only [lateB, hostOps0_4, List.drop_succ_cons, List.drop_zero, List.take_succ_cons, List.take_zero, StableHlo.after_cons, StableHlo.after_nil]
  after_results_simp
theorem lateC_cosines : StableHlo.after lateC W main_v44 = stack 0x3F800000#32 (W main_v28) := by
  simp only [lateC, hostOps0_4, List.drop_succ_cons, List.drop_zero, StableHlo.after_cons, StableHlo.after_nil]
  after_results_simp
  after_results_loop
  rfl
theorem lateC_sines : StableHlo.after lateC W main_v49 = stack 0x00000000#32 (W main_v39) := by
  simp only [lateC, hostOps0_4, List.drop_succ_cons, List.drop_zero, StableHlo.after_cons, StableHlo.after_nil]
  after_results_simp
  after_results_loop
  rfl

theorem late_cosines : StableHlo.after late W main_v18 = W main_v18 := by
  simp only [late, hostOps0_4, List.drop_succ_cons, List.drop_zero, StableHlo.after_cons, StableHlo.after_nil]
  after_results_simp
theorem late_sines : StableHlo.after late W main_v19 = W main_v19 := by
  simp only [late, hostOps0_4, List.drop_succ_cons, List.drop_zero, StableHlo.after_cons, StableHlo.after_nil]
  after_results_simp

theorem late_stack_cosines : StableHlo.after late W main_v44
    = stack 0x3F800000#32 (four (axis0 (W main_v18)) (axis0 (W main_v18)) (axis1 (W main_v18)) (axis1 (W main_v18))) := by
  rw [late_split, after_both, after_both, after_both, after_both, lateC_cosines, joinB_keep, lateB_keep, joinA_table, lateA_21, lateA_23, lateA_25, lateA_27]

theorem late_stack_sines : StableHlo.after late W main_v49
    = stack 0x00000000#32 (four (Host.negf (axis0 (W main_v19))) (axis0 (W main_v19)) (Host.negf (axis1 (W main_v19))) (axis1 (W main_v19))) := by
  rw [late_split, after_both, after_both, after_both, after_both, lateC_sines, joinB_table, lateB_31, lateB_33, lateB_36, lateB_38, joinA_keep, lateA_keep]

end

theorem cosines : early m c main_v18 = cosOf := by
  refine ((late_cosines _).symm.trans (V_split m c main_v18).symm).trans ?_
  unfold V
  simp only [hostOps0, hostOps0_1, hostOps0_2, hostOps0_3, hostOps0_4, List.flatten_cons, List.flatten_nil, List.append_nil, List.cons_append,
    List.nil_append, StableHlo.after_cons, StableHlo.after_nil]
  after_results_simp
  after_results_loop
  rfl

theorem sines : early m c main_v19 = sinOf := by
  refine ((late_sines _).symm.trans (V_split m c main_v19).symm).trans ?_
  unfold V
  simp only [hostOps0, hostOps0_1, hostOps0_2, hostOps0_3, hostOps0_4, List.flatten_cons, List.flatten_nil, List.append_nil, List.cons_append,
    List.nil_append, StableHlo.after_cons, StableHlo.after_nil]
  after_results_simp
  after_results_loop
  rfl

theorem cosines_eq : V m c main_v44 = stack 0x3F800000#32 (four (axis0 cosOf) (axis0 cosOf) (axis1 cosOf) (axis1 cosOf)) :=
  (V_split m c main_v44).trans ((late_stack_cosines _).trans (by rw [cosines]))

theorem sines_eq : V m c main_v49
    = stack 0x00000000#32 (four (Host.negf (axis0 sinOf)) (axis0 sinOf) (Host.negf (axis1 sinOf)) (axis1 sinOf)) :=
  (V_split m c main_v49).trans ((late_stack_sines _).trans (by rw [sines]))

/-- The columns of the weights of each window. -/
theorem weights_group : V m c main_v51 = extractStridedSlice S1024x256 ![0, 0] (truncf .bf16 (m ((c : Thread nD τ).loc main_arg3)) bitsLt_bf16_f32 : FVec Ideal S1024x2560 .bf16) slices_S1024x2560_S1024x256_0_0 := by
  unfold V
  simp only [hostOps0, hostOps0_1, hostOps0_2, hostOps0_3, hostOps0_4, List.flatten_cons, List.flatten_nil, List.append_nil, List.cons_append,
    List.nil_append, StableHlo.after_cons, StableHlo.after_nil]
  after_results_simp <;> rfl
theorem weights_queries : V m c main_v52 = extractStridedSlice S1024x768 ![0, 256] (truncf .bf16 (m ((c : Thread nD τ).loc main_arg3)) bitsLt_bf16_f32 : FVec Ideal S1024x2560 .bf16) slices_S1024x2560_S1024x768_0_256 := by
  unfold V
  simp only [hostOps0, hostOps0_1, hostOps0_2, hostOps0_3, hostOps0_4, List.flatten_cons, List.flatten_nil, List.append_nil, List.cons_append,
    List.nil_append, StableHlo.after_cons, StableHlo.after_nil]
  after_results_simp <;> rfl
theorem weights_keys : V m c main_v53 = extractStridedSlice S1024x768 ![0, 1024] (truncf .bf16 (m ((c : Thread nD τ).loc main_arg3)) bitsLt_bf16_f32 : FVec Ideal S1024x2560 .bf16) slices_S1024x2560_S1024x768_0_1024 := by
  unfold V
  simp only [hostOps0, hostOps0_1, hostOps0_2, hostOps0_3, hostOps0_4, List.flatten_cons, List.flatten_nil, List.append_nil, List.cons_append,
    List.nil_append, StableHlo.after_cons, StableHlo.after_nil]
  after_results_simp <;> rfl
theorem weights_values : V m c main_v54 = extractStridedSlice S1024x768 ![0, 1792] (truncf .bf16 (m ((c : Thread nD τ).loc main_arg3)) bitsLt_bf16_f32 : FVec Ideal S1024x2560 .bf16) slices_S1024x2560_S1024x768_0_1792 := by
  unfold V
  simp only [hostOps0, hostOps0_1, hostOps0_2, hostOps0_3, hostOps0_4, List.flatten_cons, List.flatten_nil, List.append_nil, List.cons_append,
    List.nil_append, StableHlo.after_cons, StableHlo.after_nil]
  after_results_simp <;> rfl

/-- A gain twice in a row. -/
def twoGains (g : FVec Ideal S64 .f32) : FVec Ideal S1x128 .f32 :=
  shapeCast S1x128 (concatenate S128 0 [⟨S64, g⟩, ⟨S64, g⟩] concatenates_S64_S64_S128_d0) shapeCasts_S128_S1x128

set_option maxRecDepth 65536 in
theorem gains_queries : V m c main_v56 = twoGains (m ((c : Thread nD τ).loc main_arg4)) := by
  unfold V
  simp only [hostOps0, hostOps0_1, hostOps0_2, hostOps0_3, hostOps0_4, List.flatten_cons, List.flatten_nil, List.append_nil, List.cons_append,
    List.nil_append, StableHlo.after_cons, StableHlo.after_nil]
  after_results_simp
  after_results_loop
  rfl
set_option maxRecDepth 65536 in
theorem gains_keys : V m c main_v58 = twoGains (m ((c : Thread nD τ).loc main_arg5)) := by
  unfold V
  simp only [hostOps0, hostOps0_1, hostOps0_2, hostOps0_3, hostOps0_4, List.flatten_cons, List.flatten_nil, List.append_nil, List.cons_append,
    List.nil_append, StableHlo.after_cons, StableHlo.after_nil]
  after_results_simp
  after_results_loop
  rfl
theorem gain_tokens : V m c main_v59 = shapeCast S1x1024 (m ((c : Thread nD τ).loc main_arg2)) shapeCasts_S1024_S1x1024 := by
  unfold V
  simp only [hostOps0, hostOps0_1, hostOps0_2, hostOps0_3, hostOps0_4, List.flatten_cons, List.flatten_nil, List.append_nil, List.cons_append,
    List.nil_append, StableHlo.after_cons, StableHlo.after_nil]
  after_results_simp <;> rfl

end Cert.Proj

end
-- ==== Proof.ProjTables.lean ====
/-
  What the projection's host program hands the kernel, at an index.
-/
module

public import proofs.«01_k».proof.Proof.ProjHost

@[expose] public section

noncomputable section

namespace Cert.Proj

open Idealize.ShloMosaic Idealize.ShloMosaic.TcCoe Idealize.SL.Sem Idealize.ShloMosaic.ValueIdx
open Cert.Kernel4Ideal Cert.Kernel4Ideal.Gen Cert.Tile

theorem axis0_apply (T : FVec Ideal S8192x2x16 .f32) (t : Fin 8192) (f : Fin 16) : axis0 T (ix2 t f) = T (ix3 t (0 : Fin 2) f) := by
  unfold axis0
  rw [shapeCast_apply _ _ _ (ix3 (n0 := 8192) (n1 := 1) (n2 := 16) t (0 : Fin 1) f) (by
    rw [Shape.rowMajor_val_two, Shape.rowMajor_val_three]; show (t.val * 1 + 0) * 16 + f.val = t.val * 16 + f.val; omega)]
  exact extractStridedSlice_apply _ _ _ _ _ fun a => match a with
    | ⟨0, _⟩ => by show t.val = 0 + t.val; omega
    | ⟨1, _⟩ => rfl
    | ⟨2, _⟩ => by show f.val = 0 + f.val; omega

theorem axis1_apply (T : FVec Ideal S8192x2x16 .f32) (t : Fin 8192) (f : Fin 16) : axis1 T (ix2 t f) = T (ix3 t (1 : Fin 2) f) := by
  unfold axis1
  rw [shapeCast_apply _ _ _ (ix3 (n0 := 8192) (n1 := 1) (n2 := 16) t (0 : Fin 1) f) (by
    rw [Shape.rowMajor_val_two, Shape.rowMajor_val_three]; show (t.val * 1 + 0) * 16 + f.val = t.val * 16 + f.val; omega)]
  exact extractStridedSlice_apply _ _ _ _ _ fun a => match a with
    | ⟨0, _⟩ => by show t.val = 0 + t.val; omega
    | ⟨1, _⟩ => rfl
    | ⟨2, _⟩ => by show f.val = 0 + f.val; omega

/-- Four pieces of 16 columns at a column: the piece it lies in. -/
theorem four_apply (A B C D : FVec Ideal S8192x16 .f32) (t : Fin 8192) (j : Fin 64) :
    four A B C D (ix2 t j) = if j.val < 16 then A (ix2 t (⟨j.val % 16, by omega⟩ : Fin 16)) else if j.val < 32 then B (ix2 t (⟨j.val % 16, by omega⟩ : Fin 16))
      else if j.val < 48 then C (ix2 t (⟨j.val % 16, by omega⟩ : Fin 16)) else D (ix2 t (⟨j.val % 16, by omega⟩ : Fin 16)) := by
  have hj := j.isLt
  have E : ∀ (k : ℕ) (hk : k < 4) (X : FVec Ideal S8192x16 .f32)
      (hX : ([⟨S8192x16, A⟩, ⟨S8192x16, B⟩, ⟨S8192x16, C⟩, ⟨S8192x16, D⟩] : List (Σ s : Shape, (s.Idx → EReal)))[k]'hk = ⟨S8192x16, X⟩)
      (hj : 16 * k ≤ j.val) (hj' : j.val < 16 * k + 16), four A B C D (ix2 t j) = X (ix2 t (⟨j.val % 16, by omega⟩ : Fin 16)) := fun k hk X hX hj hj' => by
    unfold four
    refine concatenate_apply_piece 1 [⟨S8192x16, A⟩, ⟨S8192x16, B⟩, ⟨S8192x16, C⟩, ⟨S8192x16, D⟩] _ (ix2 t j) k hk
      S8192x16 X hX rfl (16 * k) ?_ (ix2 t (⟨j.val % 16, by omega⟩ : Fin 16))
      (fun b => match b with | ⟨0, _⟩ => fun _ => rfl | ⟨1, _⟩ => fun h => absurd rfl h) (by show 16 * k + j.val % 16 = j.val; omega)
    interval_cases k <;> rfl
  by_cases h0 : j.val < 16
  · rw [if_pos h0]; exact E 0 (by omega) A rfl (by omega) (by omega)
  · rw [if_neg h0]
    by_cases h1 : j.val < 32
    · rw [if_pos h1]; exact E 1 (by omega) B rfl (by omega) (by omega)
    · rw [if_neg h1]
      by_cases h2 : j.val < 48
      · rw [if_pos h2]; exact E 2 (by omega) C rfl (by omega) (by omega)
      · rw [if_neg h2]; exact E 3 (by omega) D rfl (by omega) (by omega)

theorem stack_low (w : BitVec 32) (A : FVec Ideal S8192x64 .f32) (R : Fin 8448) (l : Fin 128) (h : R.val < 256) :
    stack w A (ix2 R l) = Ideal.ofBits .f32 w := by
  unfold stack
  refine (concatenate_pair_apply_left (t := S8448x128) (s₁ := S256x128) (s₂ := S8192x128) 0 _ _ _ (ix2 R l) rfl (ix2 (⟨R.val, h⟩ : Fin 256) l)
    (fun b => match b with | ⟨0, _⟩ => rfl | ⟨1, _⟩ => rfl)).trans ?_
  rfl

theorem stack_high (w : BitVec 32) (A : FVec Ideal S8192x64 .f32) (R : Fin 8448) (l : Fin 128) (h : ¬ R.val < 256) :
    stack w A (ix2 R l) = A (ix2 (⟨R.val - 256, by omega⟩ : Fin 8192) (⟨l.val % 64, by omega⟩ : Fin 64)) := by
  have hR := R.isLt
  have hl := l.isLt
  unfold stack
  refine (concatenate_pair_apply_right (t := S8448x128) (s₁ := S256x128) (s₂ := S8192x128) 0 _ _ _ (ix2 R l) rfl rfl (ix2 (⟨R.val - 256, by omega⟩ : Fin 8192) l)
    (fun b => match b with | ⟨0, _⟩ => fun h => absurd rfl h | ⟨1, _⟩ => fun _ => rfl) (by show R.val - 256 + 256 = R.val; omega)).trans ?_
  rw [shapeCast_apply _ _ _ (ix4 (n0 := 1) (n1 := 8192) (n2 := 2) (n3 := 64) (0 : Fin 1) (⟨R.val - 256, by omega⟩ : Fin 8192) (⟨l.val / 64, by omega⟩ : Fin 2) (⟨l.val % 64, by omega⟩ : Fin 64)) (by
    rw [Shape.rowMajor_val_two, Shape.rowMajor_val_four]
    show ((0 * 8192 + (R.val - 256)) * 2 + l.val / 64) * 64 + l.val % 64 = (R.val - 256) * 128 + l.val
    omega),
    broadcastInDim_apply _ _ _ _ (ix4 (n0 := 1) (n1 := 8192) (n2 := 1) (n3 := 64) (0 : Fin 1) (⟨R.val - 256, by omega⟩ : Fin 8192) (0 : Fin 1) (⟨l.val % 64, by omega⟩ : Fin 64))
      (fun a => match a with | ⟨0, _⟩ => rfl | ⟨1, _⟩ => rfl | ⟨2, _⟩ => rfl | ⟨3, _⟩ => rfl)]
  exact shapeCast_apply _ _ _ _ (by
    rw [Shape.rowMajor_val_two, Shape.rowMajor_val_four]
    show (R.val - 256) * 64 + l.val % 64 = ((0 * 8192 + (R.val - 256)) * 1 + 0) * 64 + l.val % 64
    omega)

variable (m : (ℓ : Loc nD τ sig) → Buf (Elt Ideal) ℓ) (c : Dev nD)

theorem cos_low (R : Fin 8448) (l : Fin 128) (h : R.val < 256) : V m c main_v44 (ix2 R l) = (1 : EReal) := by
  rw [cosines_eq, stack_low _ _ _ _ h, one_f32]

theorem sin_low (R : Fin 8448) (l : Fin 128) (h : R.val < 256) : V m c main_v49 (ix2 R l) = (0 : EReal) := by
  rw [sines_eq, stack_low _ _ _ _ h, Ideal.ofBits_zero_f32]

/-- The feature of a head at column `l`. -/
def feature (l : Fin 128) : Fin 64 := ⟨l.val % 64, by omega⟩

theorem entry_axis0 (T : ProjSpec.Table) (R : Fin 8448) (l : Fin 128) (h : l.val % 64 < 32) :
    axis0 T (ix2 (⟨R.val - 256, by omega⟩ : Fin 8192) (⟨l.val % 64 % 16, by omega⟩ : Fin 16)) = ProjSpec.entry T R (feature l) := by
  rw [axis0_apply]
  unfold ProjSpec.entry feature
  have e : (⟨l.val % 64 / 32, by omega⟩ : Fin 2) = 0 := Fin.ext (by show l.val % 64 / 32 = 0; omega)
  show _ = T (ix3 (⟨R.val - 256, by omega⟩ : Fin 8192) (⟨l.val % 64 / 32, by omega⟩ : Fin 2) (⟨l.val % 64 % 16, by omega⟩ : Fin 16))
  rw [e]

theorem entry_axis1 (T : ProjSpec.Table) (R : Fin 8448) (l : Fin 128) (h : ¬ l.val % 64 < 32) :
    axis1 T (ix2 (⟨R.val - 256, by omega⟩ : Fin 8192) (⟨l.val % 64 % 16, by omega⟩ : Fin 16)) = ProjSpec.entry T R (feature l) := by
  rw [axis1_apply]
  unfold ProjSpec.entry feature
  have e : (⟨l.val % 64 / 32, by omega⟩ : Fin 2) = 1 := Fin.ext (by show l.val % 64 / 32 = 1; omega)
  show _ = T (ix3 (⟨R.val - 256, by omega⟩ : Fin 8192) (⟨l.val % 64 / 32, by omega⟩ : Fin 2) (⟨l.val % 64 % 16, by omega⟩ : Fin 16))
  rw [e]

theorem cos_high (R : Fin 8448) (l : Fin 128) (h : ¬ R.val < 256) : V m c main_v44 (ix2 R l) = ProjSpec.entry cosOf R (feature l) := by
  rw [cosines_eq, stack_high _ _ _ _ h, four_apply]
  show (if l.val % 64 < 16 then axis0 cosOf (ix2 _ (⟨l.val % 64 % 16, by omega⟩ : Fin 16)) else if l.val % 64 < 32 then axis0 cosOf (ix2 _ (⟨l.val % 64 % 16, by omega⟩ : Fin 16))
    else if l.val % 64 < 48 then axis1 cosOf (ix2 _ (⟨l.val % 64 % 16, by omega⟩ : Fin 16)) else axis1 cosOf (ix2 _ (⟨l.val % 64 % 16, by omega⟩ : Fin 16))) = _
  by_cases h32 : l.val % 64 < 32
  · rw [entry_axis0 _ R l h32, if_pos h32]; split <;> rfl
  · rw [entry_axis1 _ R l h32, if_neg h32, if_neg (by omega)]; split <;> rfl

theorem sin_high (R : Fin 8448) (l : Fin 128) (h : ¬ R.val < 256) :
    V m c main_v49 (ix2 R l) = (if l.val % 32 < 16 then - ProjSpec.entry sinOf R (feature l) else ProjSpec.entry sinOf R (feature l) : EReal) := by
  rw [sines_eq, stack_high _ _ _ _ h, four_apply]
  show (if l.val % 64 < 16 then (-(axis0 sinOf (ix2 _ (⟨l.val % 64 % 16, by omega⟩ : Fin 16))) : EReal) else if l.val % 64 < 32 then axis0 sinOf (ix2 _ (⟨l.val % 64 % 16, by omega⟩ : Fin 16))
    else if l.val % 64 < 48 then (-(axis1 sinOf (ix2 _ (⟨l.val % 64 % 16, by omega⟩ : Fin 16))) : EReal) else axis1 sinOf (ix2 _ (⟨l.val % 64 % 16, by omega⟩ : Fin 16))) = _
  by_cases h32 : l.val % 64 < 32
  · rw [entry_axis0 _ R l h32, if_pos h32]
    by_cases h16 : l.val % 64 < 16
    · rw [if_pos h16, if_pos (by omega)]
    · rw [if_neg h16, if_neg (by omega)]
  · rw [entry_axis1 _ R l h32, if_neg h32, if_neg (by omega)]
    by_cases h16 : l.val % 64 < 48
    · rw [if_pos h16, if_pos (by omega)]
    · rw [if_neg h16, if_neg (by omega)]

/-- The projection's weights as the program is given them. -/
abbrev weights : (⟨2, ![1024, 2560]⟩ : Shape).Idx → EReal := m ((c : Thread nD τ).loc main_arg3)

theorem group_at (d : Fin 1024) (j : Fin 256) : V m c main_v51 (ix2 d j) = weights m c (ix2 d (⟨j.val, by omega⟩ : Fin 2560)) := by
  rw [weights_group]
  refine (extractStridedSlice_apply _ _ _ _ (ix2 d (⟨j.val, by omega⟩ : Fin 2560)) fun a => match a with
    | ⟨0, _⟩ => by show d.val = 0 + d.val; omega
    | ⟨1, _⟩ => by show j.val = 0 + j.val; omega).trans ?_
  rw [ValueIdx.truncf_apply]
theorem queries_at (d : Fin 1024) (j : Fin 768) : V m c main_v52 (ix2 d j) = weights m c (ix2 d (⟨256 + j.val, by omega⟩ : Fin 2560)) := by
  rw [weights_queries]
  refine (extractStridedSlice_apply _ _ _ _ (ix2 d (⟨256 + j.val, by omega⟩ : Fin 2560)) fun a => match a with
    | ⟨0, _⟩ => by show d.val = 0 + d.val; omega
    | ⟨1, _⟩ => rfl).trans ?_
  rw [ValueIdx.truncf_apply]
theorem keys_at (d : Fin 1024) (j : Fin 768) : V m c main_v53 (ix2 d j) = weights m c (ix2 d (⟨1024 + j.val, by omega⟩ : Fin 2560)) := by
  rw [weights_keys]
  refine (extractStridedSlice_apply _ _ _ _ (ix2 d (⟨1024 + j.val, by omega⟩ : Fin 2560)) fun a => match a with
    | ⟨0, _⟩ => by show d.val = 0 + d.val; omega
    | ⟨1, _⟩ => rfl).trans ?_
  rw [ValueIdx.truncf_apply]
theorem values_at (d : Fin 1024) (j : Fin 768) : V m c main_v54 (ix2 d j) = weights m c (ix2 d (⟨1792 + j.val, by omega⟩ : Fin 2560)) := by
  rw [weights_values]
  refine (extractStridedSlice_apply _ _ _ _ (ix2 d (⟨1792 + j.val, by omega⟩ : Fin 2560)) fun a => match a with
    | ⟨0, _⟩ => by show d.val = 0 + d.val; omega
    | ⟨1, _⟩ => rfl).trans ?_
  rw [ValueIdx.truncf_apply]

theorem twoGains_apply (g : FVec Ideal S64 .f32) (l : Fin 128) : twoGains g (ix2 (0 : Fin 1) l) = g (ix1 (feature l)) := by
  have hl := l.isLt
  unfold twoGains feature
  rw [shapeCast_apply _ _ _ (ix1 (n := 128) l) (by rw [Shape.rowMajor_val_two, Shape.rowMajor_val_one]; show l.val = 0 * 128 + l.val; omega)]
  by_cases h : l.val < 64
  · refine concatenate_pair_apply_left (t := S128) (s₁ := S64) (s₂ := S64) 0 _ _ _ _ rfl (ix1 (⟨l.val % 64, by omega⟩ : Fin 64))
      (fun b => match b with | ⟨0, _⟩ => by show l.val % 64 = l.val; omega)
  · refine concatenate_pair_apply_right (t := S128) (s₁ := S64) (s₂ := S64) 0 _ _ _ _ rfl rfl (ix1 (⟨l.val % 64, by omega⟩ : Fin 64))
      (fun b => match b with | ⟨0, _⟩ => fun h => absurd rfl h) (by show l.val % 64 + 64 = l.val; omega)

theorem row_apply (g : FVec Ideal S1024 .f32) (d : Fin 1024) : shapeCast S1x1024 g shapeCasts_S1024_S1x1024 (ix2 (0 : Fin 1) d) = g (ix1 d) :=
  shapeCast_apply _ _ _ _ (by rw [Shape.rowMajor_val_two, Shape.rowMajor_val_one]; show d.val = 0 * 1024 + d.val; omega)

theorem gain_at (d : Fin 1024) : V m c main_v59 (ix2 (0 : Fin 1) d) = m ((c : Thread nD τ).loc main_arg2) (ix1 d) := by
  rw [gain_tokens]
  exact row_apply _ d

end Cert.Proj

end
-- ==== Proof.ProjReal.lean ====
/-
  A normed and modulated token is a real number whatever the token held: an infinite entry makes the mean square infinite,
  whose inverse root is 0.
-/
module

public import proofs.«01_k».proof.Proof.ProjSpec

@[expose] public section

noncomputable section

namespace Cert.ProjSpec

open Idealize.ShloMosaic Idealize.ShloMosaic.ValueIdx

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem size_1024 : Ideal.ofBits .f32 0x44800000#32 = ((1024 : ℝ) : EReal) := by
  simp [Ideal.ofBits, Ideal.ieee]
  rw [← EReal.coe_mul]
  norm_num

theorem one_real : ∃ r : ℝ, Ideal.ofBits .f32 0x3F800000#32 = r := by
  simp only [Ideal.ofBits, Ideal.ieee]
  rw [if_neg (by decide), if_neg (by decide)]
  exact ⟨_, rfl⟩

/-- The small number under the root is positive. -/
theorem small_pos : ∃ r : ℝ, 0 < r ∧ Ideal.ofBits .f32 0x358637BD#32 = r := by
  simp only [Ideal.ofBits, Ideal.ieee]
  rw [if_neg (by decide), if_neg (by decide)]
  refine ⟨_, ?_, rfl⟩
  rw [if_neg (by decide)]
  positivity

theorem square_nonneg (x : EReal) : 0 ≤ x * x := by
  induction x with
  | bot => exact le_top
  | top => exact le_top
  | coe a => rw [← EReal.coe_mul]; exact_mod_cast mul_self_nonneg a

theorem square_top {x : EReal} (h : ¬ ∃ r : ℝ, x = r) : x * x = ⊤ := by
  induction x with
  | bot => rfl
  | top => rfl
  | coe a => exact absurd ⟨a, rfl⟩ h

/-- The inverse root of the mean square is a real number, and 0 when an entry is infinite. -/
theorem norm_real {n : ℕ} (x g : Fin n → EReal) (hg : ∀ d, ∃ r : ℝ, g d = r) (d : Fin n) :
    ∃ r : ℝ, norm (Ideal.ofBits .f32 0x44800000#32) x g d = r := by
  obtain ⟨ε, hε, eε⟩ := small_pos
  unfold norm
  rw [size_1024, Ideal.div_coe (by norm_num), eε]
  by_cases hx : ∀ e, ∃ r : ℝ, x e = r
  · choose y hy using hx
    have hs : ∑ e, x e * x e = ((∑ e, y e * y e : ℝ) : EReal) := by
      rw [Softmax.coe_sum]
      exact Finset.sum_congr rfl fun e _ => by rw [hy e, EReal.coe_mul]
    have hp : 0 < (∑ e, y e * y e) * (1 / 1024) + ε := by
      have : 0 ≤ ∑ e, y e * y e := Finset.sum_nonneg fun e _ => mul_self_nonneg (y e)
      positivity
    rw [hs, ← EReal.coe_mul, ← EReal.coe_add, Ideal.rsqrt_coe, if_neg (not_lt.mpr hp.le), if_neg hp.ne']
    exact DiffSpec.mul_real (DiffSpec.mul_real ⟨_, hy d⟩ ⟨_, rfl⟩) (hg d)
  · obtain ⟨e, he⟩ := not_forall.mp hx
    have hs : ∑ e, x e * x e = ⊤ := by
      rw [← Finset.add_sum_erase _ _ (Finset.mem_univ e), square_top he]
      refine EReal.top_add_of_ne_bot (ne_of_gt (lt_of_lt_of_le EReal.bot_lt_zero ?_))
      exact Finset.sum_nonneg fun e _ => square_nonneg (x e)
    rw [hs, EReal.top_mul_coe_of_pos (by norm_num), EReal.top_add_coe, Ideal.rsqrt_top, mul_zero, zero_mul]
    exact ⟨0, rfl⟩

/-- A token normed and modulated is a real number when gain and modulation are. -/
theorem token_real (x : (⟨3, ![8, 8448, 1024]⟩ : Shape).Idx → EReal) {md : (⟨4, ![8, 2, 6, 1024]⟩ : Shape).Idx → EReal} {g : Fin 1024 → EReal}
    (hm : ∀ i, ∃ r : ℝ, md i = r) (hg : ∀ d, ∃ r : ℝ, g d = r) (b : Fin 8) (R : Fin 8448) (d : Fin 1024) : ∃ r : ℝ, token x md g b R d = r :=
  add_real (DiffSpec.mul_real (norm_real _ g hg d) (add_real one_real (hm _))) (hm _)

/-- So is a column of the projection when the weights are. -/
theorem column_real (x : (⟨3, ![8, 8448, 1024]⟩ : Shape).Idx → EReal) {md : (⟨4, ![8, 2, 6, 1024]⟩ : Shape).Idx → EReal} {g : Fin 1024 → EReal}
    {w : (⟨2, ![1024, 2560]⟩ : Shape).Idx → EReal}
    (hm : ∀ i, ∃ r : ℝ, md i = r) (hg : ∀ d, ∃ r : ℝ, g d = r) (hw : ∀ i, ∃ r : ℝ, w i = r) (b : Fin 8) (R : Fin 8448) (j : Fin 2560) :
    ∃ r : ℝ, column (token x md g) w b R j = r :=
  DiffSpec.sum_real _ fun d => DiffSpec.mul_real (token_real x hm hg b R d) (hw _)

end Cert.ProjSpec

end
-- ==== Proof.ProjArray.lean ====
/-
  The arrays the projection kernel leaves: its blocks cover the four results, and each holds the specification's entries.
-/
module

public import proofs.«01_k».proof.Proof.ProjTables
public import proofs.«01_k».proof.Proof.ProjReal
public import proofs.«01_k».proof.Proof.DiffArray
public import Idealize.ShloMosaic.Lib.Pipeline.ValueKit.Geometry
public import Idealize.ShloMosaic.Lib.Pipeline.Covers

@[expose] public section

noncomputable section

namespace Cert.Proj

open Idealize.ShloMosaic Idealize.ShloMosaic.TcCoe Idealize.SL.Sem Idealize.ShloMosaic.ValueIdx
open Cert.Kernel4Ideal Cert.Kernel4Ideal.Gen Cert.Tile

variable (m : (ℓ : Loc nD τ sig) → Buf (Elt Ideal) ℓ)

/-- The batch and the tile of a point. -/
def batchOf (t : Fin cfg0.N) : Fin 8 := grid0.coords t 0
def tileOf (t : Fin cfg0.N) : Fin 33 := grid0.coords t 1

/-- Row `r` of the point's tile. -/
def rowOf (t : Fin cfg0.N) (r : Fin 256) : Fin 8448 := ⟨(tileOf t).val * 256 + r.val, by have := (tileOf t).isLt; omega⟩

theorem lesser : ∀ n : Fin 33, (Scalar.minsi (BitVec.ofNat 32 n.val) 1#32).toNat = if n.val = 0 then 0 else 1 := by decide

theorem index0 (t : Fin cfg0.N) : win0_0.index t = ![(grid0.coords t 0).val, (grid0.coords t 1).val, 0] :=
  funext fun a => match a with
    | ⟨0, _⟩ => Diff.word _ 8 (grid0.coords t 0).isLt (by norm_num)
    | ⟨1, _⟩ => Diff.word _ 33 (grid0.coords t 1).isLt (by norm_num)
    | ⟨2, _⟩ => rfl
theorem index1 (t : Fin cfg0.N) : win0_1.index t = ![(grid0.coords t 0).val, (if (grid0.coords t 1).val = 0 then 0 else 1), 0, 0] :=
  funext fun a => match a with
    | ⟨0, _⟩ => Diff.word _ 8 (grid0.coords t 0).isLt (by norm_num)
    | ⟨1, _⟩ => lesser (grid0.coords t 1)
    | ⟨2, _⟩ => rfl
    | ⟨3, _⟩ => rfl
theorem index2 (t : Fin cfg0.N) : win0_2.index t = ![0, 0] := funext fun a => match a with | ⟨0, _⟩ => rfl | ⟨1, _⟩ => rfl
theorem index3 (t : Fin cfg0.N) : win0_3.index t = ![(grid0.coords t 1).val, 0] :=
  funext fun a => match a with
    | ⟨0, _⟩ => Diff.word _ 33 (grid0.coords t 1).isLt (by norm_num)
    | ⟨1, _⟩ => rfl
theorem index4 (t : Fin cfg0.N) : win0_4.index t = ![(grid0.coords t 1).val, 0] :=
  funext fun a => match a with
    | ⟨0, _⟩ => Diff.word _ 33 (grid0.coords t 1).isLt (by norm_num)
    | ⟨1, _⟩ => rfl
theorem index5 (t : Fin cfg0.N) : win0_5.index t = ![0, 0] := funext fun a => match a with | ⟨0, _⟩ => rfl | ⟨1, _⟩ => rfl
theorem index6 (t : Fin cfg0.N) : win0_6.index t = ![0, 0] := funext fun a => match a with | ⟨0, _⟩ => rfl | ⟨1, _⟩ => rfl
theorem index7 (t : Fin cfg0.N) : win0_7.index t = ![0, 0] := funext fun a => match a with | ⟨0, _⟩ => rfl | ⟨1, _⟩ => rfl
theorem index8 (t : Fin cfg0.N) : win0_8.index t = ![0, 0] := funext fun a => match a with | ⟨0, _⟩ => rfl | ⟨1, _⟩ => rfl
theorem index9 (t : Fin cfg0.N) : win0_9.index t = ![0, 0] := funext fun a => match a with | ⟨0, _⟩ => rfl | ⟨1, _⟩ => rfl
theorem index10 (t : Fin cfg0.N) : win0_10.index t = ![0, 0] := funext fun a => match a with | ⟨0, _⟩ => rfl | ⟨1, _⟩ => rfl
theorem index11 (t : Fin cfg0.N) : win0_11.index t = ![(grid0.coords t 0).val, (grid0.coords t 1).val, 0] := index0 t
theorem index12 (t : Fin cfg0.N) : win0_12.index t = ![(grid0.coords t 0).val, (grid0.coords t 1).val, 0] := index0 t
theorem index13 (t : Fin cfg0.N) : win0_13.index t = ![(grid0.coords t 0).val, (grid0.coords t 1).val, 0] := index0 t
theorem index14 (t : Fin cfg0.N) : win0_14.index t = ![(grid0.coords t 0).val, (grid0.coords t 1).val, 0] := index0 t

theorem block0 (c : Dev nD) (t : Fin cfg0.N) (r : Fin 256) (d : Fin 1024) :
    iblk m c 0 t (ix3 (0 : Fin 1) r d) = V m c main_arg0 (ix3 (batchOf t) (rowOf t r) d) := by
  blk_simp [iblk]
  refine congrArg _ ?_
  blk_ext [index0]
  · rfl
  · rfl

theorem side_rowOf (t : Fin cfg0.N) (r : Fin 256) : (ProjSpec.side (rowOf t r)).val = if (tileOf t).val = 0 then 0 else 1 := by
  unfold ProjSpec.side rowOf
  have := r.isLt
  by_cases h : (tileOf t).val = 0
  · rw [if_pos h, if_pos (by show (tileOf t).val * 256 + r.val < 256; omega)]; rfl
  · rw [if_neg h, if_neg (by show ¬ (tileOf t).val * 256 + r.val < 256; omega)]; rfl

theorem block1 (c : Dev nD) (t : Fin cfg0.N) (r : Fin 256) (k : Fin 6) (d : Fin 1024) :
    iblk m c 1 t (ix4 (0 : Fin 1) (0 : Fin 1) k d) = V m c main_arg1 (ix4 (batchOf t) (ProjSpec.side (rowOf t r)) k d) := by
  blk_simp [iblk]
  refine congrArg _ ?_
  blk_ext [index1]
  · rfl
  · exact (side_rowOf t r).symm

theorem block2 (c : Dev nD) (t : Fin cfg0.N) (d : Fin 1024) : iblk m c 2 t (ix2 (0 : Fin 1) d) = V m c main_v59 (ix2 (0 : Fin 1) d) := by
  blk_simp [iblk]
  refine congrArg _ ?_
  blk_ext [index2]
theorem block3 (c : Dev nD) (t : Fin cfg0.N) (r : Fin 256) (l : Fin 128) : iblk m c 3 t (ix2 r l) = V m c main_v44 (ix2 (rowOf t r) l) := by
  blk_simp [iblk]
  refine congrArg _ ?_
  blk_ext [index3]
  · rfl
theorem block4 (c : Dev nD) (t : Fin cfg0.N) (r : Fin 256) (l : Fin 128) : iblk m c 4 t (ix2 r l) = V m c main_v49 (ix2 (rowOf t r) l) := by
  blk_simp [iblk]
  refine congrArg _ ?_
  blk_ext [index4]
  · rfl
theorem block5 (c : Dev nD) (t : Fin cfg0.N) (d : Fin 1024) (j : Fin 256) : iblk m c 5 t (ix2 d j) = V m c main_v51 (ix2 d j) := by
  blk_simp [iblk]
  refine congrArg _ ?_
  blk_ext [index5]
theorem block6 (c : Dev nD) (t : Fin cfg0.N) (d : Fin 1024) (j : Fin 768) : iblk m c 6 t (ix2 d j) = V m c main_v52 (ix2 d j) := by
  blk_simp [iblk]
  refine congrArg _ ?_
  blk_ext [index6]
theorem block7 (c : Dev nD) (t : Fin cfg0.N) (l : Fin 128) : iblk m c 7 t (ix2 (0 : Fin 1) l) = V m c main_v56 (ix2 (0 : Fin 1) l) := by
  blk_simp [iblk]
  refine congrArg _ ?_
  blk_ext [index7]
theorem block8 (c : Dev nD) (t : Fin cfg0.N) (d : Fin 1024) (j : Fin 768) : iblk m c 8 t (ix2 d j) = V m c main_v53 (ix2 d j) := by
  blk_simp [iblk]
  refine congrArg _ ?_
  blk_ext [index8]
theorem block9 (c : Dev nD) (t : Fin cfg0.N) (l : Fin 128) : iblk m c 9 t (ix2 (0 : Fin 1) l) = V m c main_v58 (ix2 (0 : Fin 1) l) := by
  blk_simp [iblk]
  refine congrArg _ ?_
  blk_ext [index9]
theorem block10 (c : Dev nD) (t : Fin cfg0.N) (d : Fin 1024) (j : Fin 768) : iblk m c 10 t (ix2 d j) = V m c main_v54 (ix2 d j) := by
  blk_simp [iblk]
  refine congrArg _ ?_
  blk_ext [index10]

/-- A normed and modulated token, and a row of the projection, from the program's arguments. -/
def tokenOf (c : Dev nD) : Fin 8 → Fin 8448 → Fin 1024 → EReal :=
  ProjSpec.token (m ((c : Thread nD τ).loc main_arg0)) (m ((c : Thread nD τ).loc main_arg1)) (fun e => m ((c : Thread nD τ).loc main_arg2) (ix1 e))
def colsOf (c : Dev nD) (b : Fin 8) (R : Fin 8448) : Fin 2560 → EReal := ProjSpec.column (tokenOf m c) (weights m c) b R

theorem tok_block (c : Dev nD) (t : Fin cfg0.N) (r : Fin 256) (d : Fin 1024) :
    tok (iblk m c 0 t) (iblk m c 1 t) (iblk m c 2 t) r d = tokenOf m c (batchOf t) (rowOf t r) d := by
  unfold tok tokenOf ProjSpec.token
  rw [block1 m c t r, block1 m c t r, V_main_arg1, funext fun e => block0 m c t r e, V_main_arg0, funext fun e => (block2 m c t e).trans (gain_at m c e)]

/-- The block's product with the queries' columns, and with the keys'. -/
theorem wide_queries (c : Dev nD) (t : Fin cfg0.N) (r : Fin 256) (a : Fin 768) :
    wide (iblk m c 0 t) (iblk m c 1 t) (iblk m c 2 t) (iblk m c 6 t) (ix2 r a) = colsOf m c (batchOf t) (rowOf t r) ⟨256 + a.val, by omega⟩ := by
  rw [wide_apply]
  exact Finset.sum_congr rfl fun d _ => congrArg₂ (· * ·) (tok_block m c t r d) ((block6 m c t d a).trans (queries_at m c d a))
theorem wide_keys (c : Dev nD) (t : Fin cfg0.N) (r : Fin 256) (a : Fin 768) :
    wide (iblk m c 0 t) (iblk m c 1 t) (iblk m c 2 t) (iblk m c 8 t) (ix2 r a) = colsOf m c (batchOf t) (rowOf t r) ⟨1024 + a.val, by omega⟩ := by
  rw [wide_apply]
  exact Finset.sum_congr rfl fun d _ => congrArg₂ (· * ·) (tok_block m c t r d) ((block8 m c t d a).trans (keys_at m c d a))

/-- With the tables' entries a turn is the rotary embedding on a latent's row, and nothing on a row of the context. -/
theorem turn_tables (c : Dev nD) (n : Fin 64 → EReal) (R : Fin 8448) (l : Fin 128) :
    turn n (V m c main_v44 (ix2 R l)) (V m c main_v49 (ix2 R l)) (feature l) = ProjSpec.turned cosOf sinOf n R (feature l) := by
  have hf : (feature l).val % 32 = l.val % 32 := by show l.val % 64 % 32 = l.val % 32; omega
  unfold turn ProjSpec.turned
  by_cases hR : R.val < 256
  · rw [cos_low m c R l hR, sin_low m c R l hR, if_pos hR, mul_one, mul_zero, add_zero]
  · rw [cos_high m c R l hR, sin_high m c R l hR, if_neg hR, hf]
    by_cases h : l.val % 32 < 16
    · rw [if_pos h, if_pos h, if_pos h, mul_neg, sub_eq_add_neg]
    · rw [if_neg h, if_neg h, if_neg h]

/-- An entry of a head, from its columns, gain and tables. -/
theorem entry_eq (c : Dev nD) (t : Fin cfg0.N) (r : Fin 256) (a : Fin 768) (W : FVec Ideal S256x768 .f32) (g : FVec Ideal S1x128 .f32)
    (G : FVec Ideal S64 .f32) (o : Fin 3) (x3 x4 : FVec Ideal S256x128 .f32)
    (hW : ∀ a : Fin 768, W (ix2 r a) = colsOf m c (batchOf t) (rowOf t r) ⟨256 + 768 * o.val + a.val, by omega⟩)
    (hg : ∀ l : Fin 128, g (ix2 (0 : Fin 1) l) = G (ix1 (feature l)))
    (h3 : ∀ l, x3 (ix2 r l) = V m c main_v44 (ix2 (rowOf t r) l)) (h4 : ∀ l, x4 (ix2 r l) = V m c main_v49 (ix2 (rowOf t r) l)) :
    headEntry W g x3 x4 r a
      = ProjSpec.head (colsOf m c (batchOf t) (rowOf t r)) (fun e => G (ix1 e)) cosOf sinOf o (rowOf t r) ⟨a.val / 64, by omega⟩ ⟨a.val % 64, by omega⟩ := by
  have ha := a.isLt
  have en : (⟨a.val % 64, by omega⟩ : Fin 64) = feature ⟨a.val % 128, by omega⟩ := Fin.ext (by show a.val % 64 = a.val % 128 % 64; omega)
  have eW : (fun e : Fin 64 => W (ix2 r (⟨64 * (a.val / 64) + e.val, by omega⟩ : Fin 768)))
      = fun e => colsOf m c (batchOf t) (rowOf t r) (ProjSpec.at' o ⟨a.val / 64, by omega⟩ e) := funext fun e => hW _
  have eg : (fun e : Fin 64 => g (ix2 0 (⟨64 * (a.val / 64 % 2) + e.val, by omega⟩ : Fin 128))) = fun e => G (ix1 e) := funext fun e => by
    rw [hg]
    exact congrArg (fun z => G (ix1 z)) (Fin.ext (by show (64 * (a.val / 64 % 2) + e.val) % 64 = e.val; omega))
  unfold headEntry ProjSpec.head
  rw [eW, eg, h3, h4, en, turn_tables]

/-- What the call leaves in its four arrays. -/
def goalGroup (c : Dev nD) : (⟨3, ![8, 8448, 256]⟩ : Shape).Idx → EReal := fun i => colsOf m c (i 0) (i 1) ⟨(i 2).val, lt_of_lt_of_le (i 2).isLt (by decide)⟩
def goalQueries (c : Dev nD) : (⟨3, ![8, 8448, 768]⟩ : Shape).Idx → EReal := fun i =>
  ProjSpec.head (colsOf m c (i 0) (i 1)) (fun e => m ((c : Thread nD τ).loc main_arg4) (ix1 e)) cosOf sinOf 0 (i 1)
    ⟨(i 2).val / 64, by have h : (i 2).val < 768 := (i 2).isLt; omega⟩ ⟨(i 2).val % 64, by omega⟩ * Ideal.ofBits .f32 0x3E000000#32
def goalKeys (c : Dev nD) : (⟨3, ![8, 8448, 768]⟩ : Shape).Idx → EReal := fun i =>
  ProjSpec.head (colsOf m c (i 0) (i 1)) (fun e => m ((c : Thread nD τ).loc main_arg5) (ix1 e)) cosOf sinOf 1 (i 1)
    ⟨(i 2).val / 64, by have h : (i 2).val < 768 := (i 2).isLt; omega⟩ ⟨(i 2).val % 64, by omega⟩
def goalValues (c : Dev nD) : (⟨3, ![8, 8448, 768]⟩ : Shape).Idx → EReal := fun i =>
  colsOf m c (i 0) (i 1) ⟨1792 + (i 2).val, by have h : (i 2).val < 768 := (i 2).isLt; omega⟩

theorem covers11 : win0_11.Covers := by
  refine Pipeline.Window.covers_of_indexMap_surj _ rfl (fun a => match a with | ⟨0, _⟩ => Nat.one_pos | ⟨1, _⟩ => (by omega : 0 < 256) | ⟨2, _⟩ => (by omega : 0 < 256))
    fun β => ⟨fun a => match a with | ⟨0, _⟩ => β 0 | ⟨1, _⟩ => β 1, fun a => ?_⟩
  match a with
  | ⟨0, _⟩ => exact Diff.word _ 8 (β 0).isLt (by norm_num)
  | ⟨1, _⟩ => exact Diff.word _ 33 (β 1).isLt (by norm_num)
  | ⟨2, _⟩ => exact (Nat.lt_one_iff.mp (β 2).isLt).symm
theorem covers12 : win0_12.Covers := by
  refine Pipeline.Window.covers_of_indexMap_surj _ rfl (fun a => match a with | ⟨0, _⟩ => Nat.one_pos | ⟨1, _⟩ => (by omega : 0 < 256) | ⟨2, _⟩ => (by omega : 0 < 768))
    fun β => ⟨fun a => match a with | ⟨0, _⟩ => β 0 | ⟨1, _⟩ => β 1, fun a => ?_⟩
  match a with
  | ⟨0, _⟩ => exact Diff.word _ 8 (β 0).isLt (by norm_num)
  | ⟨1, _⟩ => exact Diff.word _ 33 (β 1).isLt (by norm_num)
  | ⟨2, _⟩ => exact (Nat.lt_one_iff.mp (β 2).isLt).symm
theorem covers13 : win0_13.Covers := by
  refine Pipeline.Window.covers_of_indexMap_surj _ rfl (fun a => match a with | ⟨0, _⟩ => Nat.one_pos | ⟨1, _⟩ => (by omega : 0 < 256) | ⟨2, _⟩ => (by omega : 0 < 768))
    fun β => ⟨fun a => match a with | ⟨0, _⟩ => β 0 | ⟨1, _⟩ => β 1, fun a => ?_⟩
  match a with
  | ⟨0, _⟩ => exact Diff.word _ 8 (β 0).isLt (by norm_num)
  | ⟨1, _⟩ => exact Diff.word _ 33 (β 1).isLt (by norm_num)
  | ⟨2, _⟩ => exact (Nat.lt_one_iff.mp (β 2).isLt).symm
theorem covers14 : win0_14.Covers := by
  refine Pipeline.Window.covers_of_indexMap_surj _ rfl (fun a => match a with | ⟨0, _⟩ => Nat.one_pos | ⟨1, _⟩ => (by omega : 0 < 256) | ⟨2, _⟩ => (by omega : 0 < 768))
    fun β => ⟨fun a => match a with | ⟨0, _⟩ => β 0 | ⟨1, _⟩ => β 1, fun a => ?_⟩
  match a with
  | ⟨0, _⟩ => exact Diff.word _ 8 (β 0).isLt (by norm_num)
  | ⟨1, _⟩ => exact Diff.word _ 33 (β 1).isLt (by norm_num)
  | ⟨2, _⟩ => exact (Nat.lt_one_iff.mp (β 2).isLt).symm

/-- An index of a block is a row and a column. -/
theorem rowCol {n : ℕ} (y : (⟨3, ![1, 256, n]⟩ : Shape).Idx) : ∃ (r : Fin 256) (a : Fin n), y = ix3 (0 : Fin 1) r a :=
  ⟨y 1, y 2, (eq_ix3 (n0 := 1) (n1 := 256) (n2 := n) y).trans (congrArg (fun z : Fin 1 => ix3 z (y 1) (y 2)) (Subsingleton.elim _ _))⟩

theorem arrayGroup (c : Dev nD) : (dats m 0 c).arrAt 11 cfg0.N = goalGroup m c := by
  refine (dats m 0 c).arrAt_eq_of_covers 11 _ covers11 fun t hf y => ?_
  blk_simp
  rw [after0_11]
  obtain ⟨r, a, rfl⟩ := rowCol (n := 256) y
  refine ((group_apply _ _ _ _ _ _ _ _ _ _ _ r a).trans (Finset.sum_congr rfl fun d _ =>
    congrArg₂ (· * ·) (tok_block m c t r d) ((block5 m c t d a).trans (group_at m c d a)))).trans ?_
  refine Eq.trans (b := goalGroup m c (ix3 (batchOf t) (rowOf t r) a)) rfl (congrArg _ ?_)
  blk_ext [index11]
  · rfl
  · rfl

theorem arrayValues (c : Dev nD) : (dats m 0 c).arrAt 14 cfg0.N = goalValues m c := by
  refine (dats m 0 c).arrAt_eq_of_covers 14 _ covers14 fun t hf y => ?_
  blk_simp
  rw [after0_14]
  obtain ⟨r, a, rfl⟩ := rowCol (n := 768) y
  refine ((values_apply _ _ _ _ _ _ _ _ _ _ _ r a).trans (Finset.sum_congr rfl fun d _ =>
    congrArg₂ (· * ·) (tok_block m c t r d) ((block10 m c t d a).trans (values_at m c d a)))).trans ?_
  refine Eq.trans (b := goalValues m c (ix3 (batchOf t) (rowOf t r) a)) rfl (congrArg _ ?_)
  blk_ext [index14]
  · rfl
  · rfl

section
variable (c : Dev nD) (hm : ∀ i, ∃ r : ℝ, m ((c : Thread nD τ).loc main_arg1) i = (r : EReal))
  (hn : ∀ d : Fin 1024, ∃ r : ℝ, m ((c : Thread nD τ).loc main_arg2) (ix1 d) = (r : EReal)) (hw : ∀ i, ∃ r : ℝ, weights m c i = r)
include hm hn hw

theorem arrayQueries : (dats m 0 c).arrAt 12 cfg0.N = goalQueries m c := by
  refine (dats m 0 c).arrAt_eq_of_covers 12 _ covers12 fun t hf y => ?_
  blk_simp
  rw [after0_12]
  obtain ⟨r, a, rfl⟩ := rowCol (n := 768) y
  refine (queries_apply _ _ _ _ _ _ _ _ _ _ _ (fun r a => by
    rw [wide_queries]; exact ProjSpec.column_real _ hm hn hw _ _ _) r a).trans ?_
  rw [entry_eq m c t r a _ _ (m ((c : Thread nD τ).loc main_arg4)) 0 _ _ (fun a => wide_queries m c t r a)
    (fun l => (block7 m c t l).trans (by rw [gains_queries]; exact twoGains_apply _ l)) (fun l => block3 m c t r l) (fun l => block4 m c t r l)]
  refine Eq.trans (b := goalQueries m c (ix3 (batchOf t) (rowOf t r) a)) rfl (congrArg _ ?_)
  blk_ext [index12]
  · rfl
  · rfl

theorem arrayKeys : (dats m 0 c).arrAt 13 cfg0.N = goalKeys m c := by
  refine (dats m 0 c).arrAt_eq_of_covers 13 _ covers13 fun t hf y => ?_
  blk_simp
  rw [after0_13]
  obtain ⟨r, a, rfl⟩ := rowCol (n := 768) y
  refine (keys_apply _ _ _ _ _ _ _ _ _ _ _ (fun r a => by
    rw [wide_keys]; exact ProjSpec.column_real _ hm hn hw _ _ _) r a).trans ?_
  rw [entry_eq m c t r a _ _ (m ((c : Thread nD τ).loc main_arg5)) 1 _ _ (fun a => wide_keys m c t r a)
    (fun l => (block9 m c t l).trans (by rw [gains_keys]; exact twoGains_apply _ l)) (fun l => block3 m c t r l) (fun l => block4 m c t r l)]
  refine Eq.trans (b := goalKeys m c (ix3 (batchOf t) (rowOf t r) a)) rfl (congrArg _ ?_)
  blk_ext [index13]
  · rfl
  · rfl

end

end Cert.Proj

end
-- ==== Proof.ProjRef.lean ====
/-
  The reference's tokens, normed and modulated, and the columns of its projection.
-/
module

public import proofs.«01_k».proof.Proof.ProjSpec
public import proofs.«01_k».proof.Proof.Tile
public import proofs.«01_k».proof.Proof.Gen.Reference4Ideal.Read

@[expose] public section

noncomputable section

namespace Cert.ProjRef

open Idealize.ShloMosaic Idealize.ShloMosaic.TcCoe Idealize.SL.Sem Idealize.ShloMosaic.ValueIdx
open Cert.Reference4Ideal Cert.Reference4Ideal.Gen Cert.Reference4Ideal.Read

variable (x0 : (⟨S8x8448x1024, .f32⟩ : BufTy).Contents (Elt Ideal)) (x1 : (⟨S8x2x6x1024, .f32⟩ : BufTy).Contents (Elt Ideal))
  (x2 : (⟨S1024, .f32⟩ : BufTy).Contents (Elt Ideal)) (x3 : (⟨S1024x2560, .f32⟩ : BufTy).Contents (Elt Ideal))

theorem squares (b : Fin 8) (R : Fin 8448) : val_main_v21 (F := Ideal) x0 (ix2 b R) = ∑ e : Fin 1024, x0 (ix3 b R e) * x0 (ix3 b R e) := by
  rw [val_main_v21_apply]
  show Ideal.ofBits .f32 0x00000000#32 + _ = _
  rw [Ideal.ofBits_zero_f32, zero_add]
  refine Finset.sum_congr rfl fun e _ => ?_
  have he : idx_main_v21 (ix2 b R) e = ix3 b R e := funext fun a => match a with | ⟨0, _⟩ => rfl | ⟨1, _⟩ => rfl | ⟨2, _⟩ => rfl
  rw [he]
  rfl

/-- A token over the root of its mean square, times the gain. -/
theorem normed (b : Fin 8) (R : Fin 8448) (d : Fin 1024) :
    val_main_v32 (F := Ideal) x0 x2 (ix3 b R d)
      = ProjSpec.norm (Ideal.ofBits .f32 0x44800000#32) (fun e => x0 (ix3 b R e)) (fun e => x2 (ix1 e)) d := by
  rw [val_main_v32_apply, val_main_v29_apply, val_main_v28_apply, val_main_v27_apply, val_main_v26_apply, val_main_v24_apply, val_main_v22_apply,
    val_main_v23_apply, val_main_v25_apply, val_main_v31_apply, val_main_v30_apply]
  have h1 : idx_main_v22 (idx_main_v28 (ix3 b R d)) = ix2 b R := funext fun a => match a with | ⟨0, _⟩ => rfl | ⟨1, _⟩ => rfl
  have h2 : idx_main_v30 (idx_main_v31 (ix3 b R d)) = ix1 d := funext fun a => match a with | ⟨0, _⟩ => rfl
  rw [h1, h2, squares]
  rfl

theorem low (b : Fin 8) (r : Fin 256) (d : Fin 1024) (R : Fin 8448) (hR : R.val = r.val) :
    val_main_v47 (F := Ideal) x0 x1 x2 (ix3 b r d) = ProjSpec.token x0 x1 (fun e => x2 (ix1 e)) b R d := by
  rw [val_main_v47_apply, val_main_v42_apply, val_main_v33_apply, val_main_v41_apply, val_main_v40_apply, val_main_v39_apply, val_main_v38_apply, val_main_v37_apply,
    val_main_v36_apply, val_main_v35_apply, val_main_v34_apply, val_main_v46_apply, val_main_v45_apply, val_main_v44_apply, val_main_v43_apply, val_main_v35_apply, val_main_v34_apply]
  have h0 : idx_main_v33 (ix3 b r d) = ix3 b R d := funext fun a => Fin.ext (match a with
    | ⟨0, _⟩ => rfl
    | ⟨1, _⟩ => hR.symm
    | ⟨2, _⟩ => rfl)
  have hs : ProjSpec.side R = 0 := if_pos (by omega)
  have h1 : idx_main_v34 (idx_main_v35 (idx_main_v36 (idx_main_v37 (idx_main_v38 (idx_main_v41 (ix3 b r d)))))) = ix4 b (0 : Fin 2) (1 : Fin 6) d :=
    funext fun a => Fin.ext (match a with
    | ⟨0, _⟩ => by show (((b.val * 1024 + d.val) / 1024 * 6 + (1 + 0)) * 1024 + (b.val * 1024 + d.val) % 1024) / 6144 = b.val; omega
    | ⟨1, _⟩ => rfl
    | ⟨2, _⟩ => by show (((b.val * 1024 + d.val) / 1024 * 6 + (1 + 0)) * 1024 + (b.val * 1024 + d.val) % 1024) / 1024 % 6 = 1; omega
    | ⟨3, _⟩ => by show (((b.val * 1024 + d.val) / 1024 * 6 + (1 + 0)) * 1024 + (b.val * 1024 + d.val) % 1024) % 1024 = d.val; omega)
  have h2 : idx_main_v34 (idx_main_v35 (idx_main_v43 (idx_main_v44 (idx_main_v45 (idx_main_v46 (ix3 b r d)))))) = ix4 b (0 : Fin 2) (0 : Fin 6) d :=
    funext fun a => Fin.ext (match a with
    | ⟨0, _⟩ => by show (((b.val * 1024 + d.val) / 1024 * 6 + 0) * 1024 + (b.val * 1024 + d.val) % 1024) / 6144 = b.val; omega
    | ⟨1, _⟩ => rfl
    | ⟨2, _⟩ => by show (((b.val * 1024 + d.val) / 1024 * 6 + 0) * 1024 + (b.val * 1024 + d.val) % 1024) / 1024 % 6 = 0; omega
    | ⟨3, _⟩ => by show (((b.val * 1024 + d.val) / 1024 * 6 + 0) * 1024 + (b.val * 1024 + d.val) % 1024) % 1024 = d.val; omega)
  rw [h0, h1, h2, normed]
  unfold ProjSpec.token
  rw [hs]
  rfl

theorem high (b : Fin 8) (t : Fin 8192) (d : Fin 1024) (R : Fin 8448) (hR : R.val = 256 + t.val) :
    val_main_v62 (F := Ideal) x0 x1 x2 (ix3 b t d) = ProjSpec.token x0 x1 (fun e => x2 (ix1 e)) b R d := by
  rw [val_main_v62_apply, val_main_v57_apply, val_main_v48_apply, val_main_v56_apply, val_main_v55_apply, val_main_v54_apply, val_main_v53_apply, val_main_v52_apply,
    val_main_v51_apply, val_main_v50_apply, val_main_v49_apply, val_main_v61_apply, val_main_v60_apply, val_main_v59_apply, val_main_v58_apply, val_main_v50_apply, val_main_v49_apply]
  have h0 : idx_main_v48 (ix3 b t d) = ix3 b R d := funext fun a => Fin.ext (match a with
    | ⟨0, _⟩ => rfl
    | ⟨1, _⟩ => hR.symm
    | ⟨2, _⟩ => rfl)
  have hs : ProjSpec.side R = 1 := if_neg (by omega)
  have h1 : idx_main_v49 (idx_main_v50 (idx_main_v51 (idx_main_v52 (idx_main_v53 (idx_main_v56 (ix3 b t d)))))) = ix4 b (1 : Fin 2) (1 : Fin 6) d :=
    funext fun a => Fin.ext (match a with
    | ⟨0, _⟩ => by show (((b.val * 1024 + d.val) / 1024 * 6 + (1 + 0)) * 1024 + (b.val * 1024 + d.val) % 1024) / 6144 = b.val; omega
    | ⟨1, _⟩ => rfl
    | ⟨2, _⟩ => by show (((b.val * 1024 + d.val) / 1024 * 6 + (1 + 0)) * 1024 + (b.val * 1024 + d.val) % 1024) / 1024 % 6 = 1; omega
    | ⟨3, _⟩ => by show (((b.val * 1024 + d.val) / 1024 * 6 + (1 + 0)) * 1024 + (b.val * 1024 + d.val) % 1024) % 1024 = d.val; omega)
  have h2 : idx_main_v49 (idx_main_v50 (idx_main_v58 (idx_main_v59 (idx_main_v60 (idx_main_v61 (ix3 b t d)))))) = ix4 b (1 : Fin 2) (0 : Fin 6) d :=
    funext fun a => Fin.ext (match a with
    | ⟨0, _⟩ => by show (((b.val * 1024 + d.val) / 1024 * 6 + 0) * 1024 + (b.val * 1024 + d.val) % 1024) / 6144 = b.val; omega
    | ⟨1, _⟩ => rfl
    | ⟨2, _⟩ => by show (((b.val * 1024 + d.val) / 1024 * 6 + 0) * 1024 + (b.val * 1024 + d.val) % 1024) / 1024 % 6 = 0; omega
    | ⟨3, _⟩ => by show (((b.val * 1024 + d.val) / 1024 * 6 + 0) * 1024 + (b.val * 1024 + d.val) % 1024) % 1024 = d.val; omega)
  rw [h0, h1, h2, normed]
  unfold ProjSpec.token
  rw [hs]
  rfl

/-- A token, normed and modulated. -/
theorem token (b : Fin 8) (R : Fin 8448) (d : Fin 1024) :
    val_main_v63 (F := Ideal) x0 x1 x2 (ix3 b R d) = ProjSpec.token x0 x1 (fun e => x2 (ix1 e)) b R d := by
  unfold val_main_v63
  by_cases h : R.val < 256
  · rw [← low x0 x1 x2 b ⟨R.val, h⟩ d R rfl]
    exact concatenate_pair_apply_left (t := S8x8448x1024) (s₁ := S8x256x1024) (s₂ := S8x8192x1024) 1 _ _ _ (ix3 b R d) rfl (ix3 b (⟨R.val, h⟩ : Fin 256) d)
      (fun b => match b with | ⟨0, _⟩ => rfl | ⟨1, _⟩ => rfl | ⟨2, _⟩ => rfl)
  · have hR := R.isLt
    rw [← high x0 x1 x2 b ⟨R.val - 256, by omega⟩ d R (by show R.val = 256 + (R.val - 256); omega)]
    exact concatenate_pair_apply_right (t := S8x8448x1024) (s₁ := S8x256x1024) (s₂ := S8x8192x1024) 1 _ _ _ (ix3 b R d) rfl rfl (ix3 b (⟨R.val - 256, by omega⟩ : Fin 8192) d)
      (fun b => match b with | ⟨0, _⟩ => fun _ => rfl | ⟨1, _⟩ => fun h => absurd rfl h | ⟨2, _⟩ => fun _ => rfl)
      (by show R.val - 256 + 256 = R.val; omega)

/-- A column of the projection. -/
theorem column (b : Fin 8) (R : Fin 8448) (j : Fin 2560) :
    val_main_v64 (F := Ideal) x0 x1 x2 x3 (ix3 b R j) = ProjSpec.column (ProjSpec.token x0 x1 (fun e => x2 (ix1 e))) x3 b R j := by
  rw [val_main_v64_apply]
  unfold ProjSpec.column
  refine Finset.sum_congr rfl fun d _ => ?_
  have h1 : lidx_main_v64 (ix3 b R j) d = ix3 b R d := funext fun a => match a with | ⟨0, _⟩ => rfl | ⟨1, _⟩ => rfl | ⟨2, _⟩ => rfl
  have h2 : ridx_main_v64 (ix3 b R j) d = ix2 d j := funext fun a => match a with | ⟨0, _⟩ => rfl | ⟨1, _⟩ => rfl
  rw [h1, h2, token]

theorem group (b : Fin 8) (R : Fin 8448) (j : Fin 256) :
    val_main_v155 (F := Ideal) x0 x1 x2 x3 (ix3 b R j)
      = ProjSpec.column (ProjSpec.token x0 x1 (fun e => x2 (ix1 e))) x3 b R ⟨j.val, by omega⟩ := by
  rw [val_main_v155_apply, ← column]
  exact congrArg _ (funext fun a => match a with | ⟨0, _⟩ => rfl | ⟨1, _⟩ => rfl | ⟨2, _⟩ => rfl)

theorem values (b : Fin 8) (R : Fin 8448) (j : Fin 768) :
    val_main_v159 (F := Ideal) x0 x1 x2 x3 (ix3 b R j)
      = ProjSpec.column (ProjSpec.token x0 x1 (fun e => x2 (ix1 e))) x3 b R ⟨1792 + j.val, by omega⟩ := by
  rw [val_main_v159_apply, val_main_v158_apply, ← column]
  exact congrArg (val_main_v64 (F := Ideal) x0 x1 x2 x3) (funext fun a => match a with | ⟨0, _⟩ => rfl | ⟨1, _⟩ => rfl | ⟨2, _⟩ => rfl)

end Cert.ProjRef

end
-- ==== Proof.ProjRefQueries.lean ====
/-
  The reference's heads of the queries: the norm of a head, and its rotary embedding.
-/
module

public import proofs.«01_k».proof.Proof.ProjRef
public import Idealize.ShloMosaic.Lib.ValueIdxRank6

@[expose] public section

noncomputable section

namespace Cert.ProjRef.Queries

open Idealize.ShloMosaic Idealize.ShloMosaic.TcCoe Idealize.SL.Sem Idealize.ShloMosaic.ValueIdx
open Cert.Reference4Ideal Cert.Reference4Ideal.Gen Cert.Reference4Ideal.Read

variable (x0 : (⟨S8x8448x1024, .f32⟩ : BufTy).Contents (Elt Ideal)) (x1 : (⟨S8x2x6x1024, .f32⟩ : BufTy).Contents (Elt Ideal))
  (x2 : (⟨S1024, .f32⟩ : BufTy).Contents (Elt Ideal)) (x3 : (⟨S1024x2560, .f32⟩ : BufTy).Contents (Elt Ideal))
  (x4 : (⟨S64, .f32⟩ : BufTy).Contents (Elt Ideal))

/-- The projection's columns on a row. -/
def cols (b : Fin 8) (R : Fin 8448) : Fin 2560 → EReal :=
  ProjSpec.column (ProjSpec.token x0 x1 (fun e => x2 (ix1 e))) x3 b R

theorem row (b : Fin 8) (h : Fin 12) (R : Fin 8448) (j : Fin 64) :
    val_main_v67 (F := Ideal) x0 x1 x2 x3 (ix4 b h R j) = cols x0 x1 x2 x3 b R (ProjSpec.at' 0 h j) := by
  rw [val_main_v67_apply, val_main_v66_apply, val_main_v65_apply, cols, ← column]
  refine congrArg (val_main_v64 (F := Ideal) x0 x1 x2 x3) (funext fun a => Fin.ext ?_)
  match a with
  | ⟨0, _⟩ => show (((b.val * 8448 + R.val) * 12 + h.val) * 64 + j.val) / 6488064 = b.val; omega
  | ⟨1, _⟩ => show (((b.val * 8448 + R.val) * 12 + h.val) * 64 + j.val) / 768 % 8448 = R.val; omega
  | ⟨2, _⟩ => show 256 + (((b.val * 8448 + R.val) * 12 + h.val) * 64 + j.val) % 768 = 256 + 768 * 0 + (64 * h.val + j.val); omega

theorem squares (b : Fin 8) (h : Fin 12) (R : Fin 8448) : val_main_v69 (F := Ideal) x0 x1 x2 x3 (ix3 b h R)
    = ∑ e : Fin 64, cols x0 x1 x2 x3 b R (ProjSpec.at' 0 h e) * cols x0 x1 x2 x3 b R (ProjSpec.at' 0 h e) := by
  rw [val_main_v69_apply]
  show Ideal.ofBits .f32 0x00000000#32 + _ = _
  rw [Ideal.ofBits_zero_f32, zero_add]
  refine Finset.sum_congr rfl fun e _ => ?_
  have he : idx_main_v69 (ix3 b h R) e = ix4 b h R e := funext fun a => match a with | ⟨0, _⟩ => rfl | ⟨1, _⟩ => rfl | ⟨2, _⟩ => rfl | ⟨3, _⟩ => rfl
  rw [he, val_main_v68_apply, row]
  rfl

/-- A head over the root of its mean square, times the gain. -/
theorem normed (b : Fin 8) (h : Fin 12) (R : Fin 8448) (j : Fin 64) :
    val_main_v80 (F := Ideal) x0 x1 x2 x3 x4 (ix4 b h R j)
      = ProjSpec.norm (Ideal.ofBits .f32 0x42800000#32) (fun e => cols x0 x1 x2 x3 b R (ProjSpec.at' 0 h e)) (fun e => x4 (ix1 e)) j := by
  rw [val_main_v80_apply, val_main_v77_apply, val_main_v76_apply, val_main_v75_apply, val_main_v74_apply, val_main_v72_apply, val_main_v70_apply,
    val_main_v71_apply, val_main_v73_apply, val_main_v79_apply, val_main_v78_apply, row]
  have h1 : idx_main_v70 (idx_main_v76 (ix4 b h R j)) = ix3 b h R := funext fun a => match a with | ⟨0, _⟩ => rfl | ⟨1, _⟩ => rfl | ⟨2, _⟩ => rfl
  have h2 : idx_main_v78 (idx_main_v79 (ix4 b h R j)) = ix1 j := funext fun a => match a with | ⟨0, _⟩ => rfl
  rw [h1, h2, squares]
  rfl

/-- The first 16 features of a half of a head. -/
theorem first (b : Fin 8) (h : Fin 12) (t : Fin 8192) (a : Fin 2) (f : Fin 16) :
    val_main_v85 (F := Ideal) x0 x1 x2 x3 x4 (ix5 b h t a f)
      = val_main_v80 (F := Ideal) x0 x1 x2 x3 x4 (ix4 b h (⟨256 + t.val, by omega⟩ : Fin 8448) (⟨32 * a.val + f.val, by omega⟩ : Fin 64)) := by
  unfold val_main_v85
  rw [shapeCast_apply _ _ _ (ix6 b h t a (0 : Fin 1) f) (by
    rw [Shape.rowMajor_val_six, Shape.rowMajor_val_five]
    show ((((b.val * 12 + h.val) * 8192 + t.val) * 2 + a.val) * 1 + 0) * 16 + f.val = (((b.val * 12 + h.val) * 8192 + t.val) * 2 + a.val) * 16 + f.val
    omega), val_main_v84_apply]
  have e : idx_main_v84 (ix6 b h t a (0 : Fin 1) f) = ix6 b h t a (0 : Fin 2) f := funext fun k => match k with
    | ⟨0, _⟩ => rfl | ⟨1, _⟩ => rfl | ⟨2, _⟩ => rfl | ⟨3, _⟩ => rfl | ⟨4, _⟩ => rfl | ⟨5, _⟩ => rfl
  rw [e]
  unfold val_main_v83
  rw [shapeCast_apply _ _ _ (ix4 b h t (⟨32 * a.val + f.val, by omega⟩ : Fin 64)) (by
    rw [Shape.rowMajor_val_six, Shape.rowMajor_val_four]
    show ((b.val * 12 + h.val) * 8192 + t.val) * 64 + (32 * a.val + f.val) = ((((b.val * 12 + h.val) * 8192 + t.val) * 2 + a.val) * 2 + 0) * 16 + f.val
    omega), val_main_v82_apply]
  exact congrArg _ (funext fun k => match k with | ⟨0, _⟩ => rfl | ⟨1, _⟩ => rfl | ⟨2, _⟩ => rfl | ⟨3, _⟩ => rfl)

/-- The second 16 features of a half of a head. -/
theorem second (b : Fin 8) (h : Fin 12) (t : Fin 8192) (a : Fin 2) (f : Fin 16) :
    val_main_v87 (F := Ideal) x0 x1 x2 x3 x4 (ix5 b h t a f)
      = val_main_v80 (F := Ideal) x0 x1 x2 x3 x4 (ix4 b h (⟨256 + t.val, by omega⟩ : Fin 8448) (⟨32 * a.val + 16 + f.val, by omega⟩ : Fin 64)) := by
  unfold val_main_v87
  rw [shapeCast_apply _ _ _ (ix6 b h t a (0 : Fin 1) f) (by
    rw [Shape.rowMajor_val_six, Shape.rowMajor_val_five]
    show ((((b.val * 12 + h.val) * 8192 + t.val) * 2 + a.val) * 1 + 0) * 16 + f.val = (((b.val * 12 + h.val) * 8192 + t.val) * 2 + a.val) * 16 + f.val
    omega), val_main_v86_apply]
  have e : idx_main_v86 (ix6 b h t a (0 : Fin 1) f) = ix6 b h t a (1 : Fin 2) f := funext fun k => match k with
    | ⟨0, _⟩ => rfl | ⟨1, _⟩ => rfl | ⟨2, _⟩ => rfl | ⟨3, _⟩ => rfl | ⟨4, _⟩ => rfl | ⟨5, _⟩ => rfl
  rw [e]
  unfold val_main_v83
  rw [shapeCast_apply _ _ _ (ix4 b h t (⟨32 * a.val + 16 + f.val, by omega⟩ : Fin 64)) (by
    rw [Shape.rowMajor_val_six, Shape.rowMajor_val_four]
    show ((b.val * 12 + h.val) * 8192 + t.val) * 64 + (32 * a.val + 16 + f.val) = ((((b.val * 12 + h.val) * 8192 + t.val) * 2 + a.val) * 2 + 1) * 16 + f.val
    omega), val_main_v82_apply]
  exact congrArg _ (funext fun k => match k with | ⟨0, _⟩ => rfl | ⟨1, _⟩ => rfl | ⟨2, _⟩ => rfl | ⟨3, _⟩ => rfl)

/-- The first 16 features, turned. -/
theorem turned_first (b : Fin 8) (h : Fin 12) (t : Fin 8192) (a : Fin 2) (f : Fin 16) :
    val_main_v94 (F := Ideal) x0 x1 x2 x3 x4 (ix5 b h t a f)
      = (val_main_v85 (F := Ideal) x0 x1 x2 x3 x4 (ix5 b h t a f) * val_main_v18 (F := Ideal) (ix3 t a f)
        - val_main_v87 (F := Ideal) x0 x1 x2 x3 x4 (ix5 b h t a f) * val_main_v19 (F := Ideal) (ix3 t a f) : EReal) := by
  rw [val_main_v94_apply, val_main_v90_apply, val_main_v93_apply, val_main_v89_apply, val_main_v88_apply, val_main_v92_apply, val_main_v91_apply]
  have h1 : idx_main_v88 (idx_main_v89 (ix5 b h t a f)) = ix3 t a f := funext fun k => match k with | ⟨0, _⟩ => rfl | ⟨1, _⟩ => rfl | ⟨2, _⟩ => rfl
  have h2 : idx_main_v91 (idx_main_v92 (ix5 b h t a f)) = ix3 t a f := funext fun k => match k with | ⟨0, _⟩ => rfl | ⟨1, _⟩ => rfl | ⟨2, _⟩ => rfl
  rw [h1, h2]
  rfl

/-- The second 16 features, turned. -/
theorem turned_second (b : Fin 8) (h : Fin 12) (t : Fin 8192) (a : Fin 2) (f : Fin 16) :
    val_main_v101 (F := Ideal) x0 x1 x2 x3 x4 (ix5 b h t a f)
      = (val_main_v87 (F := Ideal) x0 x1 x2 x3 x4 (ix5 b h t a f) * val_main_v18 (F := Ideal) (ix3 t a f)
        + val_main_v85 (F := Ideal) x0 x1 x2 x3 x4 (ix5 b h t a f) * val_main_v19 (F := Ideal) (ix3 t a f) : EReal) := by
  rw [val_main_v101_apply, val_main_v97_apply, val_main_v100_apply, val_main_v96_apply, val_main_v95_apply, val_main_v99_apply, val_main_v98_apply]
  have h1 : idx_main_v95 (idx_main_v96 (ix5 b h t a f)) = ix3 t a f := funext fun k => match k with | ⟨0, _⟩ => rfl | ⟨1, _⟩ => rfl | ⟨2, _⟩ => rfl
  have h2 : idx_main_v98 (idx_main_v99 (ix5 b h t a f)) = ix3 t a f := funext fun k => match k with | ⟨0, _⟩ => rfl | ⟨1, _⟩ => rfl | ⟨2, _⟩ => rfl
  rw [h1, h2]
  rfl

theorem joined_first (b : Fin 8) (h : Fin 12) (t : Fin 8192) (a : Fin 2) (f : Fin 16) :
    val_main_v104 (F := Ideal) x0 x1 x2 x3 x4 (ix6 b h t a (0 : Fin 2) f) = val_main_v94 (F := Ideal) x0 x1 x2 x3 x4 (ix5 b h t a f) := by
  unfold val_main_v104
  refine (concatenate_pair_apply_left (t := S8x12x8192x2x2x16) (s₁ := S8x12x8192x2x1x16) (s₂ := S8x12x8192x2x1x16) 4 _ _ _ (ix6 b h t a (0 : Fin 2) f) rfl
    (ix6 b h t a (0 : Fin 1) f) (fun k => match k with
      | ⟨0, _⟩ => rfl | ⟨1, _⟩ => rfl | ⟨2, _⟩ => rfl | ⟨3, _⟩ => rfl | ⟨4, _⟩ => rfl | ⟨5, _⟩ => rfl)).trans ?_
  rw [val_main_v102_apply]
  exact congrArg _ (funext fun k => match k with | ⟨0, _⟩ => rfl | ⟨1, _⟩ => rfl | ⟨2, _⟩ => rfl | ⟨3, _⟩ => rfl | ⟨4, _⟩ => rfl)

theorem joined_second (b : Fin 8) (h : Fin 12) (t : Fin 8192) (a : Fin 2) (f : Fin 16) :
    val_main_v104 (F := Ideal) x0 x1 x2 x3 x4 (ix6 b h t a (1 : Fin 2) f) = val_main_v101 (F := Ideal) x0 x1 x2 x3 x4 (ix5 b h t a f) := by
  unfold val_main_v104
  refine (concatenate_pair_apply_right (t := S8x12x8192x2x2x16) (s₁ := S8x12x8192x2x1x16) (s₂ := S8x12x8192x2x1x16) 4 _ _ _ (ix6 b h t a (1 : Fin 2) f) rfl rfl
    (ix6 b h t a (0 : Fin 1) f) (fun k => match k with
      | ⟨0, _⟩ => fun _ => rfl | ⟨1, _⟩ => fun _ => rfl | ⟨2, _⟩ => fun _ => rfl | ⟨3, _⟩ => fun _ => rfl | ⟨4, _⟩ => fun h => absurd rfl h
      | ⟨5, _⟩ => fun _ => rfl) rfl).trans ?_
  rw [val_main_v103_apply]
  exact congrArg _ (funext fun k => match k with | ⟨0, _⟩ => rfl | ⟨1, _⟩ => rfl | ⟨2, _⟩ => rfl | ⟨3, _⟩ => rfl | ⟨4, _⟩ => rfl)

theorem flat (b : Fin 8) (h : Fin 12) (t : Fin 8192) (j : Fin 64) :
    val_main_v105 (F := Ideal) x0 x1 x2 x3 x4 (ix4 b h t j)
      = val_main_v104 (F := Ideal) x0 x1 x2 x3 x4 (ix6 b h t (⟨j.val / 32, by omega⟩ : Fin 2) (⟨j.val / 16 % 2, by omega⟩ : Fin 2) (⟨j.val % 16, by omega⟩ : Fin 16)) := by
  unfold val_main_v105
  exact shapeCast_apply _ _ _ _ (by
    rw [Shape.rowMajor_val_six, Shape.rowMajor_val_four]
    show ((((b.val * 12 + h.val) * 8192 + t.val) * 2 + j.val / 32) * 2 + j.val / 16 % 2) * 16 + j.val % 16 = ((b.val * 12 + h.val) * 8192 + t.val) * 64 + j.val
    omega)

/-- A head on a row of the latents, turned. -/
theorem latent (b : Fin 8) (h : Fin 12) (R : Fin 8448) (hR : ¬ R.val < 256) (j : Fin 64) :
    val_main_v105 (F := Ideal) x0 x1 x2 x3 x4 (ix4 b h (⟨R.val - 256, by omega⟩ : Fin 8192) j)
      = ProjSpec.turned (val_main_v18 (F := Ideal)) (val_main_v19 (F := Ideal)) (fun i => val_main_v80 (F := Ideal) x0 x1 x2 x3 x4 (ix4 b h R i)) R j := by
  have hj := j.isLt
  have eR : (⟨256 + (R.val - 256), by omega⟩ : Fin 8448) = R := Fin.ext (by show 256 + (R.val - 256) = R.val; omega)
  rw [flat]
  unfold ProjSpec.turned ProjSpec.entry
  rw [if_neg hR]
  by_cases hl : j.val % 32 < 16
  · have e : (⟨j.val / 16 % 2, by omega⟩ : Fin 2) = 0 := Fin.ext (by show j.val / 16 % 2 = 0; omega)
    have e1 : (⟨32 * (j.val / 32) + j.val % 16, by omega⟩ : Fin 64) = j := Fin.ext (by show 32 * (j.val / 32) + j.val % 16 = j.val; omega)
    have e2 : (⟨32 * (j.val / 32) + 16 + j.val % 16, by omega⟩ : Fin 64) = ⟨(j.val + 16) % 64, by omega⟩ :=
      Fin.ext (by show 32 * (j.val / 32) + 16 + j.val % 16 = (j.val + 16) % 64; omega)
    rw [if_pos hl, e, joined_first, turned_first, first, second]
    dsimp only
    rw [eR, e1, e2]
  · have e : (⟨j.val / 16 % 2, by omega⟩ : Fin 2) = 1 := Fin.ext (by show j.val / 16 % 2 = 1; omega)
    have e1 : (⟨32 * (j.val / 32) + 16 + j.val % 16, by omega⟩ : Fin 64) = j := Fin.ext (by show 32 * (j.val / 32) + 16 + j.val % 16 = j.val; omega)
    have e2 : (⟨32 * (j.val / 32) + j.val % 16, by omega⟩ : Fin 64) = ⟨(j.val + 48) % 64, by omega⟩ :=
      Fin.ext (by show 32 * (j.val / 32) + j.val % 16 = (j.val + 48) % 64; omega)
    rw [if_neg hl, e, joined_second, turned_second, first, second]
    dsimp only
    rw [eR, e1, e2]

/-- A head, normed and turned. -/
theorem head (b : Fin 8) (h : Fin 12) (R : Fin 8448) (j : Fin 64) :
    val_main_v106 (F := Ideal) x0 x1 x2 x3 x4 (ix4 b h R j)
      = ProjSpec.head (cols x0 x1 x2 x3 b R) (fun e => x4 (ix1 e)) (val_main_v18 (F := Ideal)) (val_main_v19 (F := Ideal)) 0 R h j := by
  unfold ProjSpec.head
  have en : ProjSpec.norm (Ideal.ofBits .f32 0x42800000#32) (fun e => cols x0 x1 x2 x3 b R (ProjSpec.at' 0 h e)) (fun e => x4 (ix1 e))
      = fun i => val_main_v80 (F := Ideal) x0 x1 x2 x3 x4 (ix4 b h R i) := funext fun i => (normed x0 x1 x2 x3 x4 b h R i).symm
  rw [en]
  unfold val_main_v106
  by_cases hR : R.val < 256
  · unfold ProjSpec.turned
    rw [if_pos hR]
    refine (concatenate_pair_apply_left (t := S8x12x8448x64) (s₁ := S8x12x256x64) (s₂ := S8x12x8192x64) 2 _ _ _ (ix4 b h R j) rfl (ix4 b h (⟨R.val, hR⟩ : Fin 256) j)
      (fun k => match k with | ⟨0, _⟩ => rfl | ⟨1, _⟩ => rfl | ⟨2, _⟩ => rfl | ⟨3, _⟩ => rfl)).trans ?_
    rw [val_main_v81_apply]
    exact congrArg _ (funext fun k => match k with | ⟨0, _⟩ => rfl | ⟨1, _⟩ => rfl | ⟨2, _⟩ => rfl | ⟨3, _⟩ => rfl)
  · have hR' := R.isLt
    rw [← latent x0 x1 x2 x3 x4 b h R hR j]
    exact concatenate_pair_apply_right (t := S8x12x8448x64) (s₁ := S8x12x256x64) (s₂ := S8x12x8192x64) 2 _ _ _ (ix4 b h R j) rfl rfl
      (ix4 b h (⟨R.val - 256, by omega⟩ : Fin 8192) j)
      (fun k => match k with | ⟨0, _⟩ => fun _ => rfl | ⟨1, _⟩ => fun _ => rfl | ⟨2, _⟩ => fun h => absurd rfl h | ⟨3, _⟩ => fun _ => rfl)
      (by show R.val - 256 + 256 = R.val; omega)

/-- The queries before their scale, a row of all heads. -/
theorem rows (b : Fin 8) (R : Fin 8448) (a : Fin 768) :
    val_main_v108 (F := Ideal) x0 x1 x2 x3 x4 (ix3 b R a)
      = ProjSpec.head (cols x0 x1 x2 x3 b R) (fun e => x4 (ix1 e)) (val_main_v18 (F := Ideal)) (val_main_v19 (F := Ideal)) 0 R
          ⟨a.val / 64, by omega⟩ ⟨a.val % 64, by omega⟩ := by
  have ha := a.isLt
  rw [val_main_v108_apply, val_main_v107_apply, ← head]
  refine congrArg (val_main_v106 (F := Ideal) x0 x1 x2 x3 x4) (funext fun k => Fin.ext ?_)
  match k with
  | ⟨0, _⟩ => show ((b.val * 8448 + R.val) * 768 + a.val) / 6488064 = b.val; omega
  | ⟨1, _⟩ => show ((b.val * 8448 + R.val) * 768 + a.val) / 64 % 12 = a.val / 64; omega
  | ⟨2, _⟩ => show ((b.val * 8448 + R.val) * 768 + a.val) / 768 % 8448 = R.val; omega
  | ⟨3, _⟩ => show ((b.val * 8448 + R.val) * 768 + a.val) % 64 = a.val % 64; omega

end Cert.ProjRef.Queries

end
-- ==== Proof.ProjRefKeys.lean ====
/-
  The reference's heads of the keys: the norm of a head, and its rotary embedding.
-/
module

public import proofs.«01_k».proof.Proof.ProjRefQueries
public import Idealize.ShloMosaic.Lib.ValueIdxRank6

@[expose] public section

noncomputable section

namespace Cert.ProjRef.Keys

open Idealize.ShloMosaic Idealize.ShloMosaic.TcCoe Idealize.SL.Sem Idealize.ShloMosaic.ValueIdx
open Cert.Reference4Ideal Cert.Reference4Ideal.Gen Cert.Reference4Ideal.Read
open Cert.ProjRef.Queries (cols)

variable (x0 : (⟨S8x8448x1024, .f32⟩ : BufTy).Contents (Elt Ideal)) (x1 : (⟨S8x2x6x1024, .f32⟩ : BufTy).Contents (Elt Ideal))
  (x2 : (⟨S1024, .f32⟩ : BufTy).Contents (Elt Ideal)) (x3 : (⟨S1024x2560, .f32⟩ : BufTy).Contents (Elt Ideal))
  (x5 : (⟨S64, .f32⟩ : BufTy).Contents (Elt Ideal))

theorem row (b : Fin 8) (h : Fin 12) (R : Fin 8448) (j : Fin 64) :
    val_main_v113 (F := Ideal) x0 x1 x2 x3 (ix4 b h R j) = cols x0 x1 x2 x3 b R (ProjSpec.at' 1 h j) := by
  rw [val_main_v113_apply, val_main_v112_apply, val_main_v111_apply, cols, ← column]
  refine congrArg (val_main_v64 (F := Ideal) x0 x1 x2 x3) (funext fun a => Fin.ext ?_)
  match a with
  | ⟨0, _⟩ => show (((b.val * 8448 + R.val) * 12 + h.val) * 64 + j.val) / 6488064 = b.val; omega
  | ⟨1, _⟩ => show (((b.val * 8448 + R.val) * 12 + h.val) * 64 + j.val) / 768 % 8448 = R.val; omega
  | ⟨2, _⟩ => show 1024 + (((b.val * 8448 + R.val) * 12 + h.val) * 64 + j.val) % 768 = 256 + 768 * 1 + (64 * h.val + j.val); omega

theorem squares (b : Fin 8) (h : Fin 12) (R : Fin 8448) : val_main_v115 (F := Ideal) x0 x1 x2 x3 (ix3 b h R)
    = ∑ e : Fin 64, cols x0 x1 x2 x3 b R (ProjSpec.at' 1 h e) * cols x0 x1 x2 x3 b R (ProjSpec.at' 1 h e) := by
  rw [val_main_v115_apply]
  show Ideal.ofBits .f32 0x00000000#32 + _ = _
  rw [Ideal.ofBits_zero_f32, zero_add]
  refine Finset.sum_congr rfl fun e _ => ?_
  have he : idx_main_v115 (ix3 b h R) e = ix4 b h R e := funext fun a => match a with | ⟨0, _⟩ => rfl | ⟨1, _⟩ => rfl | ⟨2, _⟩ => rfl | ⟨3, _⟩ => rfl
  rw [he, val_main_v114_apply, row]
  rfl

/-- A head over the root of its mean square, times the gain. -/
theorem normed (b : Fin 8) (h : Fin 12) (R : Fin 8448) (j : Fin 64) :
    val_main_v126 (F := Ideal) x0 x1 x2 x3 x5 (ix4 b h R j)
      = ProjSpec.norm (Ideal.ofBits .f32 0x42800000#32) (fun e => cols x0 x1 x2 x3 b R (ProjSpec.at' 1 h e)) (fun e => x5 (ix1 e)) j := by
  rw [val_main_v126_apply, val_main_v123_apply, val_main_v122_apply, val_main_v121_apply, val_main_v120_apply, val_main_v118_apply, val_main_v116_apply,
    val_main_v117_apply, val_main_v119_apply, val_main_v125_apply, val_main_v124_apply, row]
  have h1 : idx_main_v116 (idx_main_v122 (ix4 b h R j)) = ix3 b h R := funext fun a => match a with | ⟨0, _⟩ => rfl | ⟨1, _⟩ => rfl | ⟨2, _⟩ => rfl
  have h2 : idx_main_v124 (idx_main_v125 (ix4 b h R j)) = ix1 j := funext fun a => match a with | ⟨0, _⟩ => rfl
  rw [h1, h2, squares]
  rfl

/-- The first 16 features of a half of a head. -/
theorem first (b : Fin 8) (h : Fin 12) (t : Fin 8192) (a : Fin 2) (f : Fin 16) :
    val_main_v131 (F := Ideal) x0 x1 x2 x3 x5 (ix5 b h t a f)
      = val_main_v126 (F := Ideal) x0 x1 x2 x3 x5 (ix4 b h (⟨256 + t.val, by omega⟩ : Fin 8448) (⟨32 * a.val + f.val, by omega⟩ : Fin 64)) := by
  unfold val_main_v131
  rw [shapeCast_apply _ _ _ (ix6 b h t a (0 : Fin 1) f) (by
    rw [Shape.rowMajor_val_six, Shape.rowMajor_val_five]
    show ((((b.val * 12 + h.val) * 8192 + t.val) * 2 + a.val) * 1 + 0) * 16 + f.val = (((b.val * 12 + h.val) * 8192 + t.val) * 2 + a.val) * 16 + f.val
    omega), val_main_v130_apply]
  have e : idx_main_v130 (ix6 b h t a (0 : Fin 1) f) = ix6 b h t a (0 : Fin 2) f := funext fun k => match k with
    | ⟨0, _⟩ => rfl | ⟨1, _⟩ => rfl | ⟨2, _⟩ => rfl | ⟨3, _⟩ => rfl | ⟨4, _⟩ => rfl | ⟨5, _⟩ => rfl
  rw [e]
  unfold val_main_v129
  rw [shapeCast_apply _ _ _ (ix4 b h t (⟨32 * a.val + f.val, by omega⟩ : Fin 64)) (by
    rw [Shape.rowMajor_val_six, Shape.rowMajor_val_four]
    show ((b.val * 12 + h.val) * 8192 + t.val) * 64 + (32 * a.val + f.val) = ((((b.val * 12 + h.val) * 8192 + t.val) * 2 + a.val) * 2 + 0) * 16 + f.val
    omega), val_main_v128_apply]
  exact congrArg _ (funext fun k => match k with | ⟨0, _⟩ => rfl | ⟨1, _⟩ => rfl | ⟨2, _⟩ => rfl | ⟨3, _⟩ => rfl)

/-- The second 16 features of a half of a head. -/
theorem second (b : Fin 8) (h : Fin 12) (t : Fin 8192) (a : Fin 2) (f : Fin 16) :
    val_main_v133 (F := Ideal) x0 x1 x2 x3 x5 (ix5 b h t a f)
      = val_main_v126 (F := Ideal) x0 x1 x2 x3 x5 (ix4 b h (⟨256 + t.val, by omega⟩ : Fin 8448) (⟨32 * a.val + 16 + f.val, by omega⟩ : Fin 64)) := by
  unfold val_main_v133
  rw [shapeCast_apply _ _ _ (ix6 b h t a (0 : Fin 1) f) (by
    rw [Shape.rowMajor_val_six, Shape.rowMajor_val_five]
    show ((((b.val * 12 + h.val) * 8192 + t.val) * 2 + a.val) * 1 + 0) * 16 + f.val = (((b.val * 12 + h.val) * 8192 + t.val) * 2 + a.val) * 16 + f.val
    omega), val_main_v132_apply]
  have e : idx_main_v132 (ix6 b h t a (0 : Fin 1) f) = ix6 b h t a (1 : Fin 2) f := funext fun k => match k with
    | ⟨0, _⟩ => rfl | ⟨1, _⟩ => rfl | ⟨2, _⟩ => rfl | ⟨3, _⟩ => rfl | ⟨4, _⟩ => rfl | ⟨5, _⟩ => rfl
  rw [e]
  unfold val_main_v129
  rw [shapeCast_apply _ _ _ (ix4 b h t (⟨32 * a.val + 16 + f.val, by omega⟩ : Fin 64)) (by
    rw [Shape.rowMajor_val_six, Shape.rowMajor_val_four]
    show ((b.val * 12 + h.val) * 8192 + t.val) * 64 + (32 * a.val + 16 + f.val) = ((((b.val * 12 + h.val) * 8192 + t.val) * 2 + a.val) * 2 + 1) * 16 + f.val
    omega), val_main_v128_apply]
  exact congrArg _ (funext fun k => match k with | ⟨0, _⟩ => rfl | ⟨1, _⟩ => rfl | ⟨2, _⟩ => rfl | ⟨3, _⟩ => rfl)

/-- The first 16 features, turned. -/
theorem turned_first (b : Fin 8) (h : Fin 12) (t : Fin 8192) (a : Fin 2) (f : Fin 16) :
    val_main_v140 (F := Ideal) x0 x1 x2 x3 x5 (ix5 b h t a f)
      = (val_main_v131 (F := Ideal) x0 x1 x2 x3 x5 (ix5 b h t a f) * val_main_v18 (F := Ideal) (ix3 t a f)
        - val_main_v133 (F := Ideal) x0 x1 x2 x3 x5 (ix5 b h t a f) * val_main_v19 (F := Ideal) (ix3 t a f) : EReal) := by
  rw [val_main_v140_apply, val_main_v136_apply, val_main_v139_apply, val_main_v135_apply, val_main_v134_apply, val_main_v138_apply, val_main_v137_apply]
  have h1 : idx_main_v134 (idx_main_v135 (ix5 b h t a f)) = ix3 t a f := funext fun k => match k with | ⟨0, _⟩ => rfl | ⟨1, _⟩ => rfl | ⟨2, _⟩ => rfl
  have h2 : idx_main_v137 (idx_main_v138 (ix5 b h t a f)) = ix3 t a f := funext fun k => match k with | ⟨0, _⟩ => rfl | ⟨1, _⟩ => rfl | ⟨2, _⟩ => rfl
  rw [h1, h2]
  rfl

/-- The second 16 features, turned. -/
theorem turned_second (b : Fin 8) (h : Fin 12) (t : Fin 8192) (a : Fin 2) (f : Fin 16) :
    val_main_v147 (F := Ideal) x0 x1 x2 x3 x5 (ix5 b h t a f)
      = (val_main_v133 (F := Ideal) x0 x1 x2 x3 x5 (ix5 b h t a f) * val_main_v18 (F := Ideal) (ix3 t a f)
        + val_main_v131 (F := Ideal) x0 x1 x2 x3 x5 (ix5 b h t a f) * val_main_v19 (F := Ideal) (ix3 t a f) : EReal) := by
  rw [val_main_v147_apply, val_main_v143_apply, val_main_v146_apply, val_main_v142_apply, val_main_v141_apply, val_main_v145_apply, val_main_v144_apply]
  have h1 : idx_main_v141 (idx_main_v142 (ix5 b h t a f)) = ix3 t a f := funext fun k => match k with | ⟨0, _⟩ => rfl | ⟨1, _⟩ => rfl | ⟨2, _⟩ => rfl
  have h2 : idx_main_v144 (idx_main_v145 (ix5 b h t a f)) = ix3 t a f := funext fun k => match k with | ⟨0, _⟩ => rfl | ⟨1, _⟩ => rfl | ⟨2, _⟩ => rfl
  rw [h1, h2]
  rfl

theorem joined_first (b : Fin 8) (h : Fin 12) (t : Fin 8192) (a : Fin 2) (f : Fin 16) :
    val_main_v150 (F := Ideal) x0 x1 x2 x3 x5 (ix6 b h t a (0 : Fin 2) f) = val_main_v140 (F := Ideal) x0 x1 x2 x3 x5 (ix5 b h t a f) := by
  unfold val_main_v150
  refine (concatenate_pair_apply_left (t := S8x12x8192x2x2x16) (s₁ := S8x12x8192x2x1x16) (s₂ := S8x12x8192x2x1x16) 4 _ _ _ (ix6 b h t a (0 : Fin 2) f) rfl
    (ix6 b h t a (0 : Fin 1) f) (fun k => match k with
      | ⟨0, _⟩ => rfl | ⟨1, _⟩ => rfl | ⟨2, _⟩ => rfl | ⟨3, _⟩ => rfl | ⟨4, _⟩ => rfl | ⟨5, _⟩ => rfl)).trans ?_
  rw [val_main_v148_apply]
  exact congrArg _ (funext fun k => match k with | ⟨0, _⟩ => rfl | ⟨1, _⟩ => rfl | ⟨2, _⟩ => rfl | ⟨3, _⟩ => rfl | ⟨4, _⟩ => rfl)

theorem joined_second (b : Fin 8) (h : Fin 12) (t : Fin 8192) (a : Fin 2) (f : Fin 16) :
    val_main_v150 (F := Ideal) x0 x1 x2 x3 x5 (ix6 b h t a (1 : Fin 2) f) = val_main_v147 (F := Ideal) x0 x1 x2 x3 x5 (ix5 b h t a f) := by
  unfold val_main_v150
  refine (concatenate_pair_apply_right (t := S8x12x8192x2x2x16) (s₁ := S8x12x8192x2x1x16) (s₂ := S8x12x8192x2x1x16) 4 _ _ _ (ix6 b h t a (1 : Fin 2) f) rfl rfl
    (ix6 b h t a (0 : Fin 1) f) (fun k => match k with
      | ⟨0, _⟩ => fun _ => rfl | ⟨1, _⟩ => fun _ => rfl | ⟨2, _⟩ => fun _ => rfl | ⟨3, _⟩ => fun _ => rfl | ⟨4, _⟩ => fun h => absurd rfl h
      | ⟨5, _⟩ => fun _ => rfl) rfl).trans ?_
  rw [val_main_v149_apply]
  exact congrArg _ (funext fun k => match k with | ⟨0, _⟩ => rfl | ⟨1, _⟩ => rfl | ⟨2, _⟩ => rfl | ⟨3, _⟩ => rfl | ⟨4, _⟩ => rfl)

theorem flat (b : Fin 8) (h : Fin 12) (t : Fin 8192) (j : Fin 64) :
    val_main_v151 (F := Ideal) x0 x1 x2 x3 x5 (ix4 b h t j)
      = val_main_v150 (F := Ideal) x0 x1 x2 x3 x5 (ix6 b h t (⟨j.val / 32, by omega⟩ : Fin 2) (⟨j.val / 16 % 2, by omega⟩ : Fin 2) (⟨j.val % 16, by omega⟩ : Fin 16)) := by
  unfold val_main_v151
  exact shapeCast_apply _ _ _ _ (by
    rw [Shape.rowMajor_val_six, Shape.rowMajor_val_four]
    show ((((b.val * 12 + h.val) * 8192 + t.val) * 2 + j.val / 32) * 2 + j.val / 16 % 2) * 16 + j.val % 16 = ((b.val * 12 + h.val) * 8192 + t.val) * 64 + j.val
    omega)

/-- A head on a row of the latents, turned. -/
theorem latent (b : Fin 8) (h : Fin 12) (R : Fin 8448) (hR : ¬ R.val < 256) (j : Fin 64) :
    val_main_v151 (F := Ideal) x0 x1 x2 x3 x5 (ix4 b h (⟨R.val - 256, by omega⟩ : Fin 8192) j)
      = ProjSpec.turned (val_main_v18 (F := Ideal)) (val_main_v19 (F := Ideal)) (fun i => val_main_v126 (F := Ideal) x0 x1 x2 x3 x5 (ix4 b h R i)) R j := by
  have hj := j.isLt
  have eR : (⟨256 + (R.val - 256), by omega⟩ : Fin 8448) = R := Fin.ext (by show 256 + (R.val - 256) = R.val; omega)
  rw [flat]
  unfold ProjSpec.turned ProjSpec.entry
  rw [if_neg hR]
  by_cases hl : j.val % 32 < 16
  · have e : (⟨j.val / 16 % 2, by omega⟩ : Fin 2) = 0 := Fin.ext (by show j.val / 16 % 2 = 0; omega)
    have e1 : (⟨32 * (j.val / 32) + j.val % 16, by omega⟩ : Fin 64) = j := Fin.ext (by show 32 * (j.val / 32) + j.val % 16 = j.val; omega)
    have e2 : (⟨32 * (j.val / 32) + 16 + j.val % 16, by omega⟩ : Fin 64) = ⟨(j.val + 16) % 64, by omega⟩ :=
      Fin.ext (by show 32 * (j.val / 32) + 16 + j.val % 16 = (j.val + 16) % 64; omega)
    rw [if_pos hl, e, joined_first, turned_first, first, second]
    dsimp only
    rw [eR, e1, e2]
  · have e : (⟨j.val / 16 % 2, by omega⟩ : Fin 2) = 1 := Fin.ext (by show j.val / 16 % 2 = 1; omega)
    have e1 : (⟨32 * (j.val / 32) + 16 + j.val % 16, by omega⟩ : Fin 64) = j := Fin.ext (by show 32 * (j.val / 32) + 16 + j.val % 16 = j.val; omega)
    have e2 : (⟨32 * (j.val / 32) + j.val % 16, by omega⟩ : Fin 64) = ⟨(j.val + 48) % 64, by omega⟩ :=
      Fin.ext (by show 32 * (j.val / 32) + j.val % 16 = (j.val + 48) % 64; omega)
    rw [if_neg hl, e, joined_second, turned_second, first, second]
    dsimp only
    rw [eR, e1, e2]

/-- A head, normed and turned. -/
theorem head (b : Fin 8) (h : Fin 12) (R : Fin 8448) (j : Fin 64) :
    val_main_v152 (F := Ideal) x0 x1 x2 x3 x5 (ix4 b h R j)
      = ProjSpec.head (cols x0 x1 x2 x3 b R) (fun e => x5 (ix1 e)) (val_main_v18 (F := Ideal)) (val_main_v19 (F := Ideal)) 1 R h j := by
  unfold ProjSpec.head
  have en : ProjSpec.norm (Ideal.ofBits .f32 0x42800000#32) (fun e => cols x0 x1 x2 x3 b R (ProjSpec.at' 1 h e)) (fun e => x5 (ix1 e))
      = fun i => val_main_v126 (F := Ideal) x0 x1 x2 x3 x5 (ix4 b h R i) := funext fun i => (normed x0 x1 x2 x3 x5 b h R i).symm
  rw [en]
  unfold val_main_v152
  by_cases hR : R.val < 256
  · unfold ProjSpec.turned
    rw [if_pos hR]
    refine (concatenate_pair_apply_left (t := S8x12x8448x64) (s₁ := S8x12x256x64) (s₂ := S8x12x8192x64) 2 _ _ _ (ix4 b h R j) rfl (ix4 b h (⟨R.val, hR⟩ : Fin 256) j)
      (fun k => match k with | ⟨0, _⟩ => rfl | ⟨1, _⟩ => rfl | ⟨2, _⟩ => rfl | ⟨3, _⟩ => rfl)).trans ?_
    rw [val_main_v127_apply]
    exact congrArg _ (funext fun k => match k with | ⟨0, _⟩ => rfl | ⟨1, _⟩ => rfl | ⟨2, _⟩ => rfl | ⟨3, _⟩ => rfl)
  · have hR' := R.isLt
    rw [← latent x0 x1 x2 x3 x5 b h R hR j]
    exact concatenate_pair_apply_right (t := S8x12x8448x64) (s₁ := S8x12x256x64) (s₂ := S8x12x8192x64) 2 _ _ _ (ix4 b h R j) rfl rfl
      (ix4 b h (⟨R.val - 256, by omega⟩ : Fin 8192) j)
      (fun k => match k with | ⟨0, _⟩ => fun _ => rfl | ⟨1, _⟩ => fun _ => rfl | ⟨2, _⟩ => fun h => absurd rfl h | ⟨3, _⟩ => fun _ => rfl)
      (by show R.val - 256 + 256 = R.val; omega)

/-- The keys, a row of all heads. -/
theorem rows (b : Fin 8) (R : Fin 8448) (a : Fin 768) :
    val_main_v154 (F := Ideal) x0 x1 x2 x3 x5 (ix3 b R a)
      = ProjSpec.head (cols x0 x1 x2 x3 b R) (fun e => x5 (ix1 e)) (val_main_v18 (F := Ideal)) (val_main_v19 (F := Ideal)) 1 R
          ⟨a.val / 64, by omega⟩ ⟨a.val % 64, by omega⟩ := by
  have ha := a.isLt
  rw [val_main_v154_apply, val_main_v153_apply, ← head]
  refine congrArg (val_main_v152 (F := Ideal) x0 x1 x2 x3 x5) (funext fun k => Fin.ext ?_)
  match k with
  | ⟨0, _⟩ => show ((b.val * 8448 + R.val) * 768 + a.val) / 6488064 = b.val; omega
  | ⟨1, _⟩ => show ((b.val * 8448 + R.val) * 768 + a.val) / 64 % 12 = a.val / 64; omega
  | ⟨2, _⟩ => show ((b.val * 8448 + R.val) * 768 + a.val) / 768 % 8448 = R.val; omega
  | ⟨3, _⟩ => show ((b.val * 8448 + R.val) * 768 + a.val) % 64 = a.val % 64; omega

end Cert.ProjRef.Keys

end
-- ==== Proof.ProjClaim.lean ====
/-
  The first layer's projection and its reference end with the same four arrays.
-/
module

public import proofs.«01_k».proof.Defs
public import proofs.«01_k».proof.Proof.ProjArray
public import proofs.«01_k».proof.Proof.ProjRefKeys
public import proofs.«01_k».proof.Proof.Finite
public import proofs.«01_k».proof.Proof.Gen.Pre_proj_finite
public import proofs.«01_k».proof.Proof.Gen.Reference4Ideal.Run
public import proofs.«01_k».proof.Proof.Gen.Kernel4Ideal.Value

@[expose] public section

noncomputable section

namespace Cert.Proj

open Idealize.ShloMosaic Idealize.SL.Sem Idealize.ShloMosaic.ValueIdx Idealize.ShloMosaic.TcCoe Cert.Finite

/-- The precondition, entry by entry. -/
theorem finite {x0 : (⟨3, ![8, 8448, 1024]⟩ : Shape).Idx → EReal} {x1 : (⟨4, ![8, 2, 6, 1024]⟩ : Shape).Idx → EReal}
    {x2 : (⟨1, ![1024]⟩ : Shape).Idx → EReal} {x3 : (⟨2, ![1024, 2560]⟩ : Shape).Idx → EReal} {x4 x5 : (⟨1, ![64]⟩ : Shape).Idx → EReal}
    (h : (Cert.Pre_proj_finite.fn (F := Ideal) x0 x1 x2 x3 x4 x5).1 = (fun _ => 1#1)
      ∧ (Cert.Pre_proj_finite.fn (F := Ideal) x0 x1 x2 x3 x4 x5).2.1 = (fun _ => 1#1)
      ∧ (Cert.Pre_proj_finite.fn (F := Ideal) x0 x1 x2 x3 x4 x5).2.2 = (fun _ => 1#1)) :
    (∀ i, ∃ r : ℝ, x1 i = r) ∧ (∀ i, ∃ r : ℝ, x2 i = r) ∧ (∀ i, ∃ r : ℝ, x3 i = r) :=
  ⟨fun i => real_of_olt _ (congrFun h.1 i), fun i => real_of_olt _ (congrFun h.2.1 i), fun i => real_of_olt _ (congrFun h.2.2 i)⟩

section
open Cert.Reference4Ideal Cert.Reference4Ideal.Read
variable (x0 : (⟨S8x8448x1024, .f32⟩ : BufTy).Contents (Elt Ideal)) (x1 : (⟨S8x2x6x1024, .f32⟩ : BufTy).Contents (Elt Ideal))
  (x2 : (⟨S1024, .f32⟩ : BufTy).Contents (Elt Ideal)) (x3 : (⟨S1024x2560, .f32⟩ : BufTy).Contents (Elt Ideal))
  (x4 x5 : (⟨S64, .f32⟩ : BufTy).Contents (Elt Ideal))

/-- The reference's queries, scaled, and its keys. -/
theorem ref_queries (b : Fin 8) (R : Fin 8448) (a : Fin 768) :
    val_main_v156 (F := Ideal) x0 x1 x2 x3 x4 (ix3 b R a)
      = (ProjSpec.head (ProjRef.Queries.cols x0 x1 x2 x3 b R) (fun e => x4 (ix1 e)) cosOf sinOf 0 R ⟨a.val / 64, by omega⟩ ⟨a.val % 64, by omega⟩
        * Ideal.ofBits .f32 0x3E000000#32 : EReal) := by
  rw [val_main_v156_apply, val_main_v110_apply, ProjRef.Queries.rows, val_main_v109_apply]
  rfl

theorem ref_keys (b : Fin 8) (R : Fin 8448) (a : Fin 768) :
    val_main_v157 (F := Ideal) x0 x1 x2 x3 x5 (ix3 b R a)
      = (ProjSpec.head (ProjRef.Queries.cols x0 x1 x2 x3 b R) (fun e => x5 (ix1 e)) cosOf sinOf 1 R ⟨a.val / 64, by omega⟩ ⟨a.val % 64, by omega⟩ : EReal) := by
  rw [val_main_v157_apply, ProjRef.Keys.rows]
  rfl

end

theorem algebraic : Cert.algebraic_Kernel4Ideal_Reference4Ideal_pre_proj_finite := by
  intro m ρ m' ρ' hpre hag
  refine ⟨goalGroup m, goalQueries m, goalKeys m, goalValues m, ?_, ?_⟩
  · refine (θ_run _ _ _).mono (fun _ h c => ?_) (Cert.Kernel4Ideal.Value.run_blocks m ρ)
    obtain ⟨hm, hn, hw⟩ := finite (hpre c)
    obtain ⟨h0, h1, h2, h3, rest⟩ := h c
    exact ⟨h0.trans (arrayGroup m c), h1.trans (arrayQueries m c hm (fun d => hn _) hw), h2.trans (arrayKeys m c hm (fun d => hn _) hw),
      h3.trans (arrayValues m c), rest⟩
  · refine (θ_run _ _ _).mono (fun _ h c => ?_) (Cert.Reference4Ideal.Value.run m' ρ')
    obtain ⟨h0, h1, h2, h3, rest⟩ := h c
    obtain ⟨e0, e1, e2, e3, e4, e5⟩ := hag c
    refine ⟨h0.trans ?_, h1.trans ?_, h2.trans ?_, h3.trans ?_, rest⟩
    · refine (Cert.Reference4Ideal.Read.val_main_v155_eq _).trans ?_
      change Cert.Reference4Ideal.Read.val_main_v155 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) = _
      rw [e0, e1, e2, e3]
      funext i
      obtain ⟨b, R, a, rfl⟩ : ∃ (b : Fin 8) (R : Fin 8448) (a : Fin 256), i = ix3 b R a := ⟨i 0, i 1, i 2, eq_ix3 i⟩
      exact ProjRef.group _ _ _ _ b R a
    · refine (Cert.Reference4Ideal.Read.val_main_v156_eq _).trans ?_
      change Cert.Reference4Ideal.Read.val_main_v156 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg4)) = _
      rw [e0, e1, e2, e3, e4]
      funext i
      obtain ⟨b, R, a, rfl⟩ : ∃ (b : Fin 8) (R : Fin 8448) (a : Fin 768), i = ix3 b R a := ⟨i 0, i 1, i 2, eq_ix3 i⟩
      exact ref_queries _ _ _ _ _ b R a
    · refine (Cert.Reference4Ideal.Read.val_main_v157_eq _).trans ?_
      change Cert.Reference4Ideal.Read.val_main_v157 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) (m' (c.tc.loc Cert.Reference4Ideal.main_arg5)) = _
      rw [e0, e1, e2, e3, e5]
      funext i
      obtain ⟨b, R, a, rfl⟩ : ∃ (b : Fin 8) (R : Fin 8448) (a : Fin 768), i = ix3 b R a := ⟨i 0, i 1, i 2, eq_ix3 i⟩
      exact ref_keys _ _ _ _ _ b R a
    · refine (Cert.Reference4Ideal.Read.val_main_v159_eq _).trans ?_
      change Cert.Reference4Ideal.Read.val_main_v159 (F := Ideal) (m' (c.tc.loc Cert.Reference4Ideal.main_arg0)) (m' (c.tc.loc Cert.Reference4Ideal.main_arg1)) (m' (c.tc.loc Cert.Reference4Ideal.main_arg2)) (m' (c.tc.loc Cert.Reference4Ideal.main_arg3)) = _
      rw [e0, e1, e2, e3]
      funext i
      obtain ⟨b, R, a, rfl⟩ : ∃ (b : Fin 8) (R : Fin 8448) (a : Fin 768), i = ix3 b R a := ⟨i 0, i 1, i 2, eq_ix3 i⟩
      exact ProjRef.values _ _ _ _ b R a

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.KernelIdeal.Value
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_diff_finite
public import proofs.«01_k».proof.Proof.Gen.Pre_gqa_finite
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_peer_finite
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_proj_finite
public import Idealize.ShloMosaic.Adequacy
public import Idealize.ShloMosaic.Init
public import Idealize.ShloMosaic.Lib.Quiescent
public import proofs.«01_k».proof.Proof.DiffClaim
public import proofs.«01_k».proof.Proof.GqaClaim
public import proofs.«01_k».proof.Proof.PeerClaim
public import proofs.«01_k».proof.Proof.ProjClaim

@[expose] public section

noncomputable section

namespace Cert.Proof

open Idealize.ShloMosaic Idealize.SL.Sem

/-- The reference of the differential attention runs, keeps its arguments and leaves every counter at zero. -/
theorem reference_quiet (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) ∧ r.2.sem = fun _ => 0) :=
  (θ_run _ _ _).mono (fun r h => ⟨fun c => (h c).2, sem_eq_zero_of_no_sems (by decide) r.2⟩) (Cert.ReferenceIdeal.Value.run m ρ)

/-- The reference of the grouped attention runs, keeps its arguments and leaves every counter at zero. -/
theorem reference2_quiet (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD, r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)) ∧ r.2.sem = fun _ => 0) :=
  (θ_run _ _ _).mono (fun r h => ⟨fun c => (h c).2, sem_eq_zero_of_no_sems (by decide) r.2⟩) (Cert.Reference2Ideal.Value.run m ρ)

/-- The reference of the scores runs, keeps its arguments and leaves every counter at zero. -/
theorem reference3_quiet (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD, r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)) ∧ r.2.sem = fun _ => 0) :=
  (θ_run _ _ _).mono (fun r h => ⟨fun c => (h c).2, sem_eq_zero_of_no_sems (by decide) r.2⟩) (Cert.Reference3Ideal.Value.run m ρ)

/-- The reference of the projection runs, keeps its arguments and leaves every counter at zero. -/
theorem reference4_quiet (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD, r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)) ∧ r.2.sem = fun _ => 0) :=
  (θ_run _ _ _).mono (fun r h => ⟨fun c => (h c).2.2.2.2, sem_eq_zero_of_no_sems (by decide) r.2⟩) (Cert.Reference4Ideal.Value.run m ρ)

/-- The certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_diff_finite.Gen.facts, Cert.Pre_gqa_finite.Gen.facts, Cert.Pre_peer_finite.Gen.facts, Cert.Pre_proj_finite.Gen.facts,
    fun m ρ _ => Cert.Kernel.Gen.frame m ρ, fun m ρ _ => Cert.KernelIdeal.Gen.frame m ρ,
    fun m ρ _ => Cert.KernelIdeal.Gen.frame m ρ, fun m ρ _ => reference_quiet m ρ, fun m ρ _ => reference_quiet m ρ,
    fun m ρ _ => Cert.Kernel2.Gen.frame m ρ, fun m ρ _ => Cert.Kernel2Ideal.Gen.frame m ρ,
    fun m ρ _ => Cert.Kernel2Ideal.Gen.frame m ρ, fun m ρ _ => reference2_quiet m ρ, fun m ρ _ => reference2_quiet m ρ,
    fun m ρ _ => Cert.Kernel3.Gen.frame m ρ, fun m ρ _ => Cert.Kernel3Ideal.Gen.frame m ρ,
    fun m ρ _ => Cert.Kernel3Ideal.Gen.frame m ρ, fun m ρ _ => reference3_quiet m ρ, fun m ρ _ => reference3_quiet m ρ,
    fun m ρ _ => Cert.Kernel4.Gen.frame m ρ, fun m ρ _ => Cert.Kernel4Ideal.Gen.frame m ρ,
    fun m ρ _ => Cert.Kernel4Ideal.Gen.frame m ρ, fun m ρ _ => reference4_quiet m ρ, fun m ρ _ => reference4_quiet m ρ,
    trivial, Cert.Diff.algebraic, trivial, Cert.Gqa.algebraic, trivial, Cert.Peer.algebraic, trivial, Cert.Proj.algebraic⟩

end Cert.Proof

end
